-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_na_projection [hPre_finite_na_projection : Cert.Pre_finite_na_projection.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_na_projection.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_na_projection [hPre_finite_na_projection : Cert.Pre_finite_na_projection.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_na_projection.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Kernel3Ideal_pre_finite_na_projection [hKernel3Ideal : Cert.Kernel3Ideal.Facts] [hPre_finite_na_projection : Cert.Pre_finite_na_projection.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_na_projection m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Reference3Ideal_pre_finite_na_projection [hReference3Ideal : Cert.Reference3Ideal.Facts] [hPre_finite_na_projection : Cert.Pre_finite_na_projection.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_na_projection m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  IdealRules.named_const.Statement Cert.Kernel3Ideal.κ "inv_qk" .f32 0x3C2AAAAB#32 ((1 / 96 : ℝ) : EReal)

def algebraic_Kernel3Ideal_Reference3Ideal_pre_finite_na_projection [hKernel3Ideal : Cert.Kernel3Ideal.Facts] [hReference3Ideal : Cert.Reference3Ideal.Facts] [hPre_finite_na_projection : Cert.Pre_finite_na_projection.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_na_projection m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v160_0)) (v1 : (c : Dev Cert.Kernel3Ideal.nD) → Buf (Elt Ideal) ((c.tc : Thread Cert.Kernel3Ideal.nD Cert.Kernel3Ideal.τ).loc Cert.Kernel3Ideal.main_v160_1)) (v2 : (c : Dev Cert.Kernel3Ideal.nD) → Buf (Elt Ideal) ((c.tc : Thread Cert.Kernel3Ideal.nD Cert.Kernel3Ideal.τ).loc Cert.Kernel3Ideal.main_v160_2)) (v3 : (c : Dev Cert.Kernel3Ideal.nD) → Buf (Elt Ideal) ((c.tc : Thread Cert.Kernel3Ideal.nD Cert.Kernel3Ideal.τ).loc Cert.Kernel3Ideal.main_v160_3)) (v4 : (c : Dev Cert.Kernel3Ideal.nD) → Buf (Elt Ideal) ((c.tc : Thread Cert.Kernel3Ideal.nD Cert.Kernel3Ideal.τ).loc Cert.Kernel3Ideal.main_v160_4)) (v5 : (c : Dev Cert.Kernel3Ideal.nD) → Buf (Elt Ideal) ((c.tc : Thread Cert.Kernel3Ideal.nD Cert.Kernel3Ideal.τ).loc Cert.Kernel3Ideal.main_v160_5)) (v6 : (c : Dev Cert.Kernel3Ideal.nD) → Buf (Elt Ideal) ((c.tc : Thread Cert.Kernel3Ideal.nD Cert.Kernel3Ideal.τ).loc Cert.Kernel3Ideal.main_v160_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v160_0) = v0 c
          ∧ r.2.mem ((c.tc : Thread Cert.Kernel3Ideal.nD Cert.Kernel3Ideal.τ).loc Cert.Kernel3Ideal.main_v160_1) = v1 c
          ∧ r.2.mem ((c.tc : Thread Cert.Kernel3Ideal.nD Cert.Kernel3Ideal.τ).loc Cert.Kernel3Ideal.main_v160_2) = v2 c
          ∧ r.2.mem ((c.tc : Thread Cert.Kernel3Ideal.nD Cert.Kernel3Ideal.τ).loc Cert.Kernel3Ideal.main_v160_3) = v3 c
          ∧ r.2.mem ((c.tc : Thread Cert.Kernel3Ideal.nD Cert.Kernel3Ideal.τ).loc Cert.Kernel3Ideal.main_v160_4) = v4 c
          ∧ r.2.mem ((c.tc : Thread Cert.Kernel3Ideal.nD Cert.Kernel3Ideal.τ).loc Cert.Kernel3Ideal.main_v160_5) = v5 c
          ∧ r.2.mem ((c.tc : Thread Cert.Kernel3Ideal.nD Cert.Kernel3Ideal.τ).loc Cert.Kernel3Ideal.main_v160_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v223) = v0 c
          ∧ r.2.mem ((c.tc : Thread Cert.Reference3Ideal.nD Cert.Reference3Ideal.τ).loc Cert.Reference3Ideal.main_v226) = v1 c
          ∧ r.2.mem ((c.tc : Thread Cert.Reference3Ideal.nD Cert.Reference3Ideal.τ).loc Cert.Reference3Ideal.main_v227) = v2 c
          ∧ r.2.mem ((c.tc : Thread Cert.Reference3Ideal.nD Cert.Reference3Ideal.τ).loc Cert.Reference3Ideal.main_v230) = v3 c
          ∧ r.2.mem ((c.tc : Thread Cert.Reference3Ideal.nD Cert.Reference3Ideal.τ).loc Cert.Reference3Ideal.main_v235) = v4 c
          ∧ r.2.mem ((c.tc : Thread Cert.Reference3Ideal.nD Cert.Reference3Ideal.τ).loc Cert.Reference3Ideal.main_v238) = v5 c
          ∧ r.2.mem ((c.tc : Thread Cert.Reference3Ideal.nD Cert.Reference3Ideal.τ).loc Cert.Reference3Ideal.main_v242) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v17)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_queries_and_keys : Cert.Pre_finite_queries_and_keys.Facts) (hPre_finite_na_projection : Cert.Pre_finite_na_projection.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_na_projection (hKernel3Ideal := hKernel3Ideal) (hPre_finite_na_projection := hPre_finite_na_projection)
    ∧ quiescent_Reference3Ideal (hReference3Ideal := hReference3Ideal)
    ∧ quiescent_Reference3Ideal_pre_finite_na_projection (hReference3Ideal := hReference3Ideal) (hPre_finite_na_projection := hPre_finite_na_projection)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_na_projection (hKernel3Ideal := hKernel3Ideal) (hReference3Ideal := hReference3Ideal) (hPre_finite_na_projection := hPre_finite_na_projection)
    ∧ preserves_Kernel4_Kernel4Ideal
    ∧ algebraic_Kernel4Ideal_Reference4Ideal (hKernel4Ideal := hKernel4Ideal) (hReference4Ideal := hReference4Ideal)
-- ==== Pre_finite_na_projection.lean ====
abbrev S8x2048x1024 : Shape := ⟨3, ![8, 2048, 1024]⟩
abbrev S8x6144 : Shape := ⟨2, ![8, 6144]⟩
abbrev S4x1024 : Shape := ⟨2, ![4, 1024]⟩
abbrev S4x1024x1952 : Shape := ⟨3, ![4, 1024, 1952]⟩
abbrev S4x64 : Shape := ⟨2, ![4, 64]⟩
abbrev S4x256 : Shape := ⟨2, ![4, 256]⟩
abbrev S4x128 : Shape := ⟨2, ![4, 128]⟩
abbrev S4x256x768 : Shape := ⟨3, ![4, 256, 768]⟩
abbrev S4x128x1024 : Shape := ⟨3, ![4, 128, 1024]⟩
abbrev S4x96 : Shape := ⟨2, ![4, 96]⟩
abbrev S8x2048 : Shape := ⟨2, ![8, 2048]⟩
abbrev S_ : Shape := ⟨0, ![]⟩
abbrev S1x1024 : Shape := ⟨2, ![1, 1024]⟩
abbrev S1024 : Shape := ⟨1, ![1024]⟩
abbrev S1x1024x512 : Shape := ⟨3, ![1, 1024, 512]⟩
abbrev S1024x512 : Shape := ⟨2, ![1024, 512]⟩

class Facts : Prop where
  slices_S8x6144_S8x2048_0_0 : S8x6144.Slices ![0, 0] S8x2048
  bcast_S_S8x2048 : S_.BroadcastsInDim S8x2048 (![] : Fin 0 → Fin S8x2048.rank)
  reducesTo_S8x2048_S_d0_1 : S8x2048.ReducesTo [0, 1] S_
  h_S_ : 0 < S_.numel
  slices_S4x1024_S1x1024_3_0 : S4x1024.Slices ![3, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  slices_S4x1024x1952_S1x1024x512_3_0_768 : S4x1024x1952.Slices ![3, 0, 768] S1x1024x512
  shapeCasts_S1x1024x512_S1024x512 : S1x1024x512.ShapeCasts S1024x512
  bcast_S_S1024x512 : S_.BroadcastsInDim S1024x512 (![] : Fin 0 → Fin S1024x512.rank)
  reducesTo_S1024x512_S_d0_1 : S1024x512.ReducesTo [0, 1] S_

variable [Facts]

def fn_part1 {F : FTy → Type} [FloatOps F] (main_v11 : IVec S_ 1) (main_v17 : IVec S_ 1) : IVec S_ 1 :=
  let main_v18 : IVec S_ 1 := andi main_v11 main_v17
  main_v18

def fn {F : FTy → Type} [FloatOps F] (main_arg0 : FVec F S8x2048x1024 .f32) (main_arg1 : FVec F S8x6144 .f32) (main_arg2 : FVec F S4x1024 .f32) (main_arg3 : FVec F S4x1024x1952 .f32) (main_arg4 : FVec F S4x64 .f32) (main_arg5 : FVec F S4x64 .f32) (main_arg6 : FVec F S4x256 .f32) (main_arg7 : FVec F S4x128 .f32) (main_arg8 : FVec F S4x256x768 .f32) (main_arg9 : FVec F S4x128x1024 .f32) (main_arg10 : FVec F S4x96 .f32) (main_arg11 : FVec F S4x96 .f32) : IVec S_ 1 :=
  let main_v0 : FVec F S8x2048 .f32 := (extractStridedSlice S8x2048 ![0, 0] · slices_S8x6144_S8x2048_0_0) main_arg1
  let main_v1 : FVec F S8x2048 .f32 := Host.absf main_v0
  let main_cst : FVec F S_ .f32 := constant S_ .f32 0x7F800000#32
  let main_v2 : FVec F S8x2048 .f32 := broadcastInDim S8x2048 ![] bcast_S_S8x2048 main_cst
  let main_v3 : IVec S8x2048 1 := cmpf .olt main_v1 main_v2
  let main_c : IVec S_ 1 := constantI S_ 1 1#1
  let main_v4 : IVec S_ 1 := (fun x v => Host.reduce IntOp.andi x v reducesTo_S8x2048_S_d0_1 h_S_) main_v3 main_c
  let main_v5 : FVec F S1x1024 .f32 := (extractStridedSlice S1x1024 ![3, 0] · slices_S4x1024_S1x1024_3_0) main_arg2
  let main_v6 : FVec F S1024 .f32 := shapeCast S1024 main_v5 shapeCasts_S1x1024_S1024
  let main_v7 : FVec F S1024 .f32 := Host.absf main_v6
  let main_cst_0 : FVec F S_ .f32 := constant S_ .f32 0x7F800000#32
  let main_v8 : FVec F S1024 .f32 := broadcastInDim S1024 ![] bcast_S_S1024 main_cst_0
  let main_v9 : IVec S1024 1 := cmpf .olt main_v7 main_v8
  let main_c_1 : IVec S_ 1 := constantI S_ 1 1#1
  let main_v10 : IVec S_ 1 := (fun x v => Host.reduce IntOp.andi x v reducesTo_S1024_S_d0 h_S_) main_v9 main_c_1
  let main_v11 : IVec S_ 1 := andi main_v4 main_v10
  let main_v12 : FVec F S1x1024x512 .f32 := (extractStridedSlice S1x1024x512 ![3, 0, 768] · slices_S4x1024x1952_S1x1024x512_3_0_768) main_arg3
  let main_v13 : FVec F S1024x512 .f32 := shapeCast S1024x512 main_v12 shapeCasts_S1x1024x512_S1024x512
  let main_v14 : FVec F S1024x512 .f32 := Host.absf main_v13
  let main_cst_2 : FVec F S_ .f32 := constant S_ .f32 0x7F800000#32
  let main_v15 : FVec F S1024x512 .f32 := broadcastInDim S1024x512 ![] bcast_S_S1024x512 main_cst_2
  let main_v16 : IVec S1024x512 1 := cmpf .olt main_v14 main_v15
  let main_c_3 : IVec S_ 1 := constantI S_ 1 1#1
  let main_v17 : IVec S_ 1 := (fun x v => Host.reduce IntOp.andi x v reducesTo_S1024x512_S_d0_1 h_S_) main_v16 main_c_3
  fn_part1 (F := F) main_v11 main_v17
-- ==== Pre_finite_queries_and_keys.lean ====
abbrev S8x8x2048x96 : Shape := ⟨4, ![8, 8, 2048, 96]⟩
abbrev S8x8x2048x64 : Shape := ⟨4, ![8, 8, 2048, 64]⟩
abbrev S8x8x256x96 : Shape := ⟨4, ![8, 8, 256, 96]⟩
abbrev S8x8x256x64 : Shape := ⟨4, ![8, 8, 256, 64]⟩
abbrev S_ : Shape := ⟨0, ![]⟩

class Facts : Prop where
  bcast_S_S8x8x2048x96 : S_.BroadcastsInDim S8x8x2048x96 (![] : Fin 0 → Fin S8x8x2048x96.rank)
  reducesTo_S8x8x2048x96_S_d0_1_2_3 : S8x8x2048x96.ReducesTo [0, 1, 2, 3] S_
  h_S_ : 0 < S_.numel
  bcast_S_S8x8x256x96 : S_.BroadcastsInDim S8x8x256x96 (![] : Fin 0 → Fin S8x8x256x96.rank)
  reducesTo_S8x8x256x96_S_d0_1_2_3 : S8x8x256x96.ReducesTo [0, 1, 2, 3] S_

variable [Facts]

def fn {F : FTy → Type} [FloatOps F] (main_arg0 : FVec F S8x8x2048x96 .f32) (main_arg1 : FVec F S8x8x2048x96 .f32) (main_arg2 : FVec F S8x8x2048x64 .f32) (main_arg3 : FVec F S8x8x256x96 .f32) (main_arg4 : FVec F S8x8x256x64 .f32) : IVec S_ 1 :=
  let main_v0 : FVec F S8x8x2048x96 .f32 := Host.absf main_arg0
  let main_cst : FVec F S_ .f32 := constant S_ .f32 0x7F800000#32
  let main_v1 : FVec F S8x8x2048x96 .f32 := broadcastInDim S8x8x2048x96 ![] bcast_S_S8x8x2048x96 main_cst
  let main_v2 : IVec S8x8x2048x96 1 := cmpf .olt main_v0 main_v1
  let main_c : IVec S_ 1 := constantI S_ 1 1#1
  let main_v3 : IVec S_ 1 := (fun x v => Host.reduce IntOp.andi x v reducesTo_S8x8x2048x96_S_d0_1_2_3 h_S_) main_v2 main_c
  let main_v4 : FVec F S8x8x2048x96 .f32 := Host.absf main_arg1
  let main_cst_0 : FVec F S_ .f32 := constant S_ .f32 0x7F800000#32
  let main_v5 : FVec F S8x8x2048x96 .f32 := broadcastInDim S8x8x2048x96 ![] bcast_S_S8x8x2048x96 main_cst_0
  let main_v6 : IVec S8x8x2048x96 1 := cmpf .olt main_v4 main_v5
  let main_c_1 : IVec S_ 1 := constantI S_ 1 1#1
  let main_v7 : IVec S_ 1 := (fun x v => Host.reduce IntOp.andi x v reducesTo_S8x8x2048x96_S_d0_1_2_3 h_S_) main_v6 main_c_1
  let main_v8 : IVec S_ 1 := andi main_v3 main_v7
  let main_v9 : FVec F S8x8x256x96 .f32 := Host.absf main_arg3
  let main_cst_2 : FVec F S_ .f32 := constant S_ .f32 0x7F800000#32
  let main_v10 : FVec F S8x8x256x96 .f32 := broadcastInDim S8x8x256x96 ![] bcast_S_S8x8x256x96 main_cst_2
  let main_v11 : IVec S8x8x256x96 1 := cmpf .olt main_v9 main_v10
  let main_c_3 : IVec S_ 1 := constantI S_ 1 1#1
  let main_v12 : IVec S_ 1 := (fun x v => Host.reduce IntOp.andi x v reducesTo_S8x8x256x96_S_d0_1_2_3 h_S_) main_v11 main_c_3
  let main_v13 : IVec S_ 1 := andi main_v8 main_v12
  main_v13
-- ==== Kernel.lean ====
abbrev S8x8x2048x96 : Shape := ⟨4, ![8, 8, 2048, 96]⟩
abbrev S8x8x2048x64 : Shape := ⟨4, ![8, 8, 2048, 64]⟩
abbrev S8x8x256x96 : Shape := ⟨4, ![8, 8, 256, 96]⟩
abbrev S8x8x256x64 : Shape := ⟨4, ![8, 8, 256, 64]⟩
abbrev S_ : Shape := ⟨0, ![]⟩
abbrev S8x8x2048x32 : Shape := ⟨4, ![8, 8, 2048, 32]⟩
abbrev S8x8x2048x128 : Shape := ⟨4, ![8, 8, 2048, 128]⟩
abbrev S8x8x64x2048 : Shape := ⟨4, ![8, 8, 64, 2048]⟩
abbrev S8x512x2048 : Shape := ⟨3, ![8, 512, 2048]⟩
abbrev S8x8x256x32 : Shape := ⟨4, ![8, 8, 256, 32]⟩
abbrev S8x8x256x128 : Shape := ⟨4, ![8, 8, 256, 128]⟩
abbrev S8x8x64x256 : Shape := ⟨4, ![8, 8, 64, 256]⟩
abbrev S8x512x256 : Shape := ⟨3, ![8, 512, 256]⟩
abbrev S8x2048x512 : Shape := ⟨3, ![8, 2048, 512]⟩
abbrev S1x8x1024x128 : Shape := ⟨4, ![1, 8, 1024, 128]⟩
abbrev S1x8x2048x128 : Shape := ⟨4, ![1, 8, 2048, 128]⟩
abbrev S1x512x2048 : Shape := ⟨3, ![1, 512, 2048]⟩
abbrev S1x8x256x128 : Shape := ⟨4, ![1, 8, 256, 128]⟩
abbrev S1x512x256 : Shape := ⟨3, ![1, 512, 256]⟩
abbrev S1x1024x512 : Shape := ⟨3, ![1, 1024, 512]⟩
abbrev S2304x512 : Shape := ⟨2, ![2304, 512]⟩
abbrev S1x1x512x128 : Shape := ⟨4, ![1, 1, 512, 128]⟩
abbrev S512x128 : Shape := ⟨2, ![512, 128]⟩
abbrev S1x1x2048x128 : Shape := ⟨4, ![1, 1, 2048, 128]⟩
abbrev S2048x128 : Shape := ⟨2, ![2048, 128]⟩
abbrev S2048x512 : Shape := ⟨2, ![2048, 512]⟩
abbrev S512 : Shape := ⟨1, ![512]⟩
abbrev S1x512 : Shape := ⟨2, ![1, 512]⟩
abbrev S1x1x256x128 : Shape := ⟨4, ![1, 1, 256, 128]⟩
abbrev S256x128 : Shape := ⟨2, ![256, 128]⟩
abbrev S256x512 : Shape := ⟨2, ![256, 512]⟩
abbrev S128x512 : Shape := ⟨2, ![128, 512]⟩
abbrev S1x64x128 : Shape := ⟨3, ![1, 64, 128]⟩
abbrev S64x128 : Shape := ⟨2, ![64, 128]⟩
abbrev S16x128 : Shape := ⟨2, ![16, 128]⟩
abbrev S80x128 : Shape := ⟨2, ![80, 128]⟩
abbrev S80x512 : Shape := ⟨2, ![80, 512]⟩
abbrev S64x512 : Shape := ⟨2, ![64, 512]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 37
  | .vmem => 14
  | .smem => 0
  | _ => 0

abbrev bufTy : (tb : Table) → Fin (tcTables nBuf tb) → BufTy
  | .hbm, ⟨0, _⟩ => ⟨S8x8x2048x96, .f32⟩
  | .hbm, ⟨1, _⟩ => ⟨S8x8x2048x96, .f32⟩
  | .hbm, ⟨2, _⟩ => ⟨S8x8x2048x64, .f32⟩
  | .hbm, ⟨3, _⟩ => ⟨S8x8x256x96, .f32⟩
  | .hbm, ⟨4, _⟩ => ⟨S8x8x256x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x8x2048x96, .f32⟩
  | .hbm, ⟨11, _⟩ => ⟨S8x8x2048x96, .f32⟩
  | .hbm, ⟨12, _⟩ => ⟨S8x8x2048x64, .f32⟩
  | .hbm, ⟨13, _⟩ => ⟨S8x8x2048x32, .f32⟩
  | .hbm, ⟨14, _⟩ => ⟨S_, .f32⟩
  | .hbm, ⟨15, _⟩ => ⟨S8x8x2048x32, .f32⟩
  | .hbm, ⟨16, _⟩ => ⟨S8x8x2048x128, .f32⟩
  | .hbm, ⟨17, _⟩ => ⟨S8x8x2048x128, .bf16⟩
  | .hbm, ⟨18, _⟩ => ⟨S8x8x2048x64, .f32⟩
  | .hbm, ⟨19, _⟩ => ⟨S8x8x2048x32, .f32⟩
  | .hbm, ⟨20, _⟩ => ⟨S_, .f32⟩
  | .hbm, ⟨21, _⟩ => ⟨S8x8x2048x32, .f32⟩
  | .hbm, ⟨22, _⟩ => ⟨S8x8x2048x128, .f32⟩
  | .hbm, ⟨23, _⟩ => ⟨S8x8x2048x128, .bf16⟩
  | .hbm, ⟨24, _⟩ => ⟨S8x8x64x2048, .f32⟩
  | .hbm, ⟨25, _⟩ => ⟨S8x512x2048, .f32⟩
  | .hbm, ⟨26, _⟩ => ⟨S8x512x2048, .bf16⟩
  | .hbm, ⟨27, _⟩ => ⟨S8x8x256x64, .f32⟩
  | .hbm, ⟨28, _⟩ => ⟨S8x8x256x32, .f32⟩
  | .hbm, ⟨29, _⟩ => ⟨S_, .f32⟩
  | .hbm, ⟨30, _⟩ => ⟨S8x8x256x32, .f32⟩
  | .hbm, ⟨31, _⟩ => ⟨S8x8x256x128, .f32⟩
  | .hbm, ⟨32, _⟩ => ⟨S8x8x256x128, .bf16⟩
  | .hbm, ⟨33, _⟩ => ⟨S8x8x64x256, .f32⟩
  | .hbm, ⟨34, _⟩ => ⟨S8x512x256, .f32⟩
  | .hbm, ⟨35, _⟩ => ⟨S8x512x256, .bf16⟩
  | .hbm, ⟨36, _⟩ => ⟨S8x2048x512, .bf16⟩
  | .local _ .vmem, ⟨0, _⟩ => ⟨S1x8x1024x128, .bf16⟩
  | .local _ .vmem, ⟨1, _⟩ => ⟨S1x8x1024x128, .bf16⟩
  | .local _ .vmem, ⟨2, _⟩ => ⟨S1x8x2048x128, .bf16⟩
  | .local _ .vmem, ⟨3, _⟩ => ⟨S1x8x2048x128, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x8x256x128, .bf16⟩
  | .local _ .vmem, ⟨7, _⟩ => ⟨S1x8x256x128, .bf16⟩
  | .local _ .vmem, ⟨8, _⟩ => ⟨S1x512x256, .bf16⟩
  | .local _ .vmem, ⟨9, _⟩ => ⟨S1x512x256, .bf16⟩
  | .local _ .vmem, ⟨10, _⟩ => ⟨S1x1024x512, .bf16⟩
  | .local _ .vmem, ⟨11, _⟩ => ⟨S1x1024x512, .bf16⟩
  | .local _ .vmem, ⟨12, _⟩ => ⟨S2304x512, .f32⟩
  | .local _ .vmem, ⟨13, _⟩ => ⟨S2304x512, .f32⟩
  | _, _ => ⟨S8x8x2048x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x8x2048x96 : Shape := ⟨4, ![8, 8, 2048, 96]⟩
abbrev S8x8x2048x64 : Shape := ⟨4, ![8, 8, 2048, 64]⟩
abbrev S8x8x256x96 : Shape := ⟨4, ![8, 8, 256, 96]⟩
abbrev S8x8x256x64 : Shape := ⟨4, ![8, 8, 256, 64]⟩
abbrev S8x8x2304x96 : Shape := ⟨4, ![8, 8, 2304, 96]⟩
abbrev S8x8x2304x64 : Shape := ⟨4, ![8, 8, 2304, 64]⟩
abbrev S8x8x2048x2304 : Shape := ⟨4, ![8, 8, 2048, 2304]⟩
abbrev S_ : Shape := ⟨0, ![]⟩
abbrev S8x8x2048 : Shape := ⟨3, ![8, 8, 2048]⟩
abbrev S8x8x2048x1 : Shape := ⟨4, ![8, 8, 2048, 1]⟩
abbrev S8x2048x8x64 : Shape := ⟨4, ![8, 2048, 8, 64]⟩
abbrev S8x2048x512 : Shape := ⟨3, ![8, 2048, 512]⟩

abbrev nBuf : Space → Nat
  | .hbm => 30
  | .vmem => 0
  | .smem => 0
  | _ => 0

abbrev bufTy : (tb : Table) → Fin (tcTables nBuf tb) → BufTy
  | .hbm, ⟨0, _⟩ => ⟨S8x8x2048x96, .f32⟩
  | .hbm, ⟨1, _⟩ => ⟨S8x8x2048x96, .f32⟩
  | .hbm, ⟨2, _⟩ => ⟨S8x8x2048x64, .f32⟩
  | .hbm, ⟨3, _⟩ => ⟨S8x8x256x96, .f32⟩
  | .hbm, ⟨4, _⟩ => ⟨S8x8x256x64, .f32⟩
  | .hbm, ⟨5, _⟩ => ⟨S8x8x2304x96, .f32⟩
  | .hbm, ⟨6, _⟩ => ⟨S8x8x2304x64, .f32⟩
  | .hbm, ⟨7, _⟩ => ⟨S8x8x2048x2304, .f32⟩
  | .hbm, ⟨8, _⟩ => ⟨S_, .f32⟩
  | .hbm, ⟨9, _⟩ => ⟨S_, .f32⟩
  | .hbm, ⟨10, _⟩ => ⟨S8x8x2048x2304, .f32⟩
  | .hbm, ⟨11, _⟩ => ⟨S8x8x2048x2304, .f32⟩
  | .hbm, ⟨12, _⟩ => ⟨S_, .f32⟩
  | .hbm, ⟨13, _⟩ => ⟨S8x8x2048, .f32⟩
  | .hbm, ⟨14, _⟩ => ⟨S_, .f32⟩
  | .hbm, ⟨15, _⟩ => ⟨S8x8x2048, .f32⟩
  | .hbm, ⟨16, _⟩ => ⟨S8x8x2048, .f32⟩
  | .hbm, ⟨17, _⟩ => ⟨S8x8x2048x1, .f32⟩
  | .hbm, ⟨18, _⟩ => ⟨S8x8x2048x2304, .f32⟩
  | .hbm, ⟨19, _⟩ => ⟨S8x8x2048x2304, .f32⟩
  | .hbm, ⟨20, _⟩ => ⟨S8x8x2048x2304, .f32⟩
  | .hbm, ⟨21, _⟩ => ⟨S_, .f32⟩
  | .hbm, ⟨22, _⟩ => ⟨S8x8x2048, .f32⟩
  | .hbm, ⟨23, _⟩ => ⟨S8x8x2048x1, .f32⟩
  | .hbm, ⟨24, _⟩ => ⟨S8x8x2048x2304, .f32⟩
  | .hbm, ⟨25, _⟩ => ⟨S8x8x2048x2304, .f32⟩
  | .hbm, ⟨26, _⟩ => ⟨S8x8x2048x64, .f32⟩
  | .hbm, ⟨27, _⟩ => ⟨S8x2048x8x64, .f32⟩
  | .hbm, ⟨28, _⟩ => ⟨S8x2048x512, .f32⟩
  | .hbm, ⟨29, _⟩ => ⟨S8x2048x512, .bf16⟩
  | _, _ => ⟨S8x8x2048x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel2.lean ====
abbrev S8x2048x256 : Shape := ⟨3, ![8, 2048, 256]⟩
abbrev S8x2048x512 : Shape := ⟨3, ![8, 2048, 512]⟩
abbrev S8x2048x1024 : Shape := ⟨3, ![8, 2048, 1024]⟩
abbrev S8x6144 : Shape := ⟨2, ![8, 6144]⟩
abbrev S4x1024x1024 : Shape := ⟨3, ![4, 1024, 1024]⟩
abbrev S4x1024 : Shape := ⟨2, ![4, 1024]⟩
abbrev S4x1024x4096 : Shape := ⟨3, ![4, 1024, 4096]⟩
abbrev S4x4096 : Shape := ⟨2, ![4, 4096]⟩
abbrev S4x4096x1024 : Shape := ⟨3, ![4, 4096, 1024]⟩
abbrev S1x1024 : Shape := ⟨2, ![1, 1024]⟩
abbrev S1024 : Shape := ⟨1, ![1024]⟩
abbrev S1x4096 : Shape := ⟨2, ![1, 4096]⟩
abbrev S4096 : Shape := ⟨1, ![4096]⟩
abbrev S8x6x1x1024 : Shape := ⟨4, ![8, 6, 1, 1024]⟩
abbrev S1x1024x256 : Shape := ⟨3, ![1, 1024, 256]⟩
abbrev S1x1024x512 : Shape := ⟨3, ![1, 1024, 512]⟩
abbrev S1x1024x1024 : Shape := ⟨3, ![1, 1024, 1024]⟩
abbrev S1x1x1x1024 : Shape := ⟨4, ![1, 1, 1, 1024]⟩
abbrev S1x256x1024 : Shape := ⟨3, ![1, 256, 1024]⟩
abbrev S1x512x1024 : Shape := ⟨3, ![1, 512, 1024]⟩
abbrev S1x1024x4096 : Shape := ⟨3, ![1, 1024, 4096]⟩
abbrev S1x4096x1024 : Shape := ⟨3, ![1, 4096, 1024]⟩
abbrev S1024x256 : Shape := ⟨2, ![1024, 256]⟩
abbrev S256x1024 : Shape := ⟨2, ![256, 1024]⟩
abbrev S1024x1024 : Shape := ⟨2, ![1024, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 28
  | .vmem => 26
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x512, .f32⟩
  | .hbm, ⟨3, _⟩ => ⟨S8x2048x1024, .f32⟩
  | .hbm, ⟨4, _⟩ => ⟨S8x6144, .f32⟩
  | .hbm, ⟨5, _⟩ => ⟨S4x1024x1024, .f32⟩
  | .hbm, ⟨6, _⟩ => ⟨S4x1024, .f32⟩
  | .hbm, ⟨7, _⟩ => ⟨S4x1024x4096, .f32⟩
  | .hbm, ⟨8, _⟩ => ⟨S4x4096, .f32⟩
  | .hbm, ⟨9, _⟩ => ⟨S4x4096x1024, .f32⟩
  | .hbm, ⟨10, _⟩ => ⟨S4x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x4096, .f32⟩
  | .hbm, ⟨15, _⟩ => ⟨S4096, .f32⟩
  | .hbm, ⟨16, _⟩ => ⟨S1x4096, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S8x2048x256, .bf16⟩
  | .hbm, ⟨21, _⟩ => ⟨S8x2048x256, .bf16⟩
  | .hbm, ⟨22, _⟩ => ⟨S8x2048x512, .bf16⟩
  | .hbm, ⟨23, _⟩ => ⟨S8x6x1x1024, .f32⟩
  | .hbm, ⟨24, _⟩ => ⟨S4x1024x1024, .bf16⟩
  | .hbm, ⟨25, _⟩ => ⟨S4x1024x4096, .bf16⟩
  | .hbm, ⟨26, _⟩ => ⟨S4x4096x1024, .bf16⟩
  | .hbm, ⟨27, _⟩ => ⟨S8x2048x1024, .f32⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x1024, .f32⟩
  | .local _ .vmem, ⟨7, _⟩ => ⟨S1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S1x1x1x1024, .f32⟩
  | .local _ .vmem, ⟨15, _⟩ => ⟨S1x1x1x1024, .f32⟩
  | .local _ .vmem, ⟨16, _⟩ => ⟨S1x1024, .f32⟩
  | .local _ .vmem, ⟨17, _⟩ => ⟨S1x256x1024, .bf16⟩
  | .local _ .vmem, ⟨18, _⟩ => ⟨S1x256x1024, .bf16⟩
  | .local _ .vmem, ⟨19, _⟩ => ⟨S1x512x1024, .bf16⟩
  | .local _ .vmem, ⟨20, _⟩ => ⟨S1x1024x4096, .bf16⟩
  | .local _ .vmem, ⟨21, _⟩ => ⟨S1x4096, .f32⟩
  | .local _ .vmem, ⟨22, _⟩ => ⟨S1x4096x1024, .bf16⟩
  | .local _ .vmem, ⟨23, _⟩ => ⟨S1x1024, .f32⟩
  | .local _ .vmem, ⟨24, _⟩ => ⟨S1x1024x1024, .f32⟩
  | .local _ .vmem, ⟨25, _⟩ => ⟨S1x1024x1024, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg0.toNat, c5_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  ![c3_i32.toNat, c1_i32.toNat, c0_i32.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  ![c3_i32.toNat, c1_i32.toNat, c0_i32.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x4096x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x1024x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference2Ideal.lean ====
abbrev S8x2048x256 : Shape := ⟨3, ![8, 2048, 256]⟩
abbrev S8x2048x512 : Shape := ⟨3, ![8, 2048, 512]⟩
abbrev S8x2048x1024 : Shape := ⟨3, ![8, 2048, 1024]⟩
abbrev S8x6144 : Shape := ⟨2, ![8, 6144]⟩
abbrev S4x1024x1024 : Shape := ⟨3, ![4, 1024, 1024]⟩
abbrev S4x1024 : Shape := ⟨2, ![4, 1024]⟩
abbrev S4x1024x4096 : Shape := ⟨3, ![4, 1024, 4096]⟩
abbrev S4x4096 : Shape := ⟨2, ![4, 4096]⟩
abbrev S4x4096x1024 : Shape := ⟨3, ![4, 4096, 1024]⟩
abbrev S8x1x6144 : Shape := ⟨3, ![8, 1, 6144]⟩
abbrev S8x1x1024 : Shape := ⟨3, ![8, 1, 1024]⟩
abbrev S1x1024x1024 : Shape := ⟨3, ![1, 1024, 1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1024 : Shape := ⟨2, ![1, 1024]⟩
abbrev S1024 : Shape := ⟨1, ![1024]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S1x4096 : Shape := ⟨2, ![1, 4096]⟩
abbrev S4096 : Shape := ⟨1, ![4096]⟩
abbrev S1x1x4096 : Shape := ⟨3, ![1, 1, 4096]⟩
abbrev S1x4096x1024 : Shape := ⟨3, ![1, 4096, 1024]⟩
abbrev S4096x1024 : Shape := ⟨2, ![4096, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x512, .f32⟩
  | .hbm, ⟨3, _⟩ => ⟨S8x2048x1024, .f32⟩
  | .hbm, ⟨4, _⟩ => ⟨S8x6144, .f32⟩
  | .hbm, ⟨5, _⟩ => ⟨S4x1024x1024, .f32⟩
  | .hbm, ⟨6, _⟩ => ⟨S4x1024, .f32⟩
  | .hbm, ⟨7, _⟩ => ⟨S4x1024x4096, .f32⟩
  | .hbm, ⟨8, _⟩ => ⟨S4x4096, .f32⟩
  | .hbm, ⟨9, _⟩ => ⟨S4x4096x1024, .f32⟩
  | .hbm, ⟨10, _⟩ => ⟨S4x1024, .f32⟩
  | .hbm, ⟨11, _⟩ => ⟨S8x1x6144, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x2048x1024, .f32⟩
  | .hbm, ⟨19, _⟩ => ⟨S1x1024x1024, .f32⟩
  | .hbm, ⟨20, _⟩ => ⟨S1024x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S_, .f32⟩
  | .hbm, ⟨33, _⟩ => ⟨S8x2048x1, .f32⟩
  | .hbm, ⟨34, _⟩ => ⟨S8x2048x1, .f32⟩
  | .hbm, ⟨35, _⟩ => ⟨S8x2048x1, .f32⟩
  | .hbm, ⟨36, _⟩ => ⟨S8x2048x1024, .f32⟩
  | .hbm, ⟨37, _⟩ => ⟨S8x2048x1024, .f32⟩
  | .hbm, ⟨38, _⟩ => ⟨S1x1024, .f32⟩
  | .hbm, ⟨39, _⟩ => ⟨S1024, .f32⟩
  | .hbm, ⟨40, _⟩ => ⟨S1x1x1024, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x1x1024, .f32⟩
  | .hbm, ⟨45, _⟩ => ⟨S8x1x1024, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S1x1024x4096, .f32⟩
  | .hbm, ⟨51, _⟩ => ⟨S1024x4096, .f32⟩
  | .hbm, ⟨52, _⟩ => ⟨S8x2048x4096, .f32⟩
  | .hbm, ⟨53, _⟩ => ⟨S1x4096, .f32⟩
  | .hbm, ⟨54, _⟩ => ⟨S4096, .f32⟩
  | .hbm, ⟨55, _⟩ => ⟨S1x1x4096, .f32⟩
  | .hbm, ⟨56, _⟩ => ⟨S8x2048x4096, .f32⟩
  | .hbm, ⟨57, _⟩ => ⟨S8x2048x4096, .f32⟩
  | .hbm, ⟨58, _⟩ => ⟨S_, .f32⟩
  | .hbm, ⟨59, _⟩ => ⟨S8x2048x4096, .f32⟩
  | .hbm, ⟨60, _⟩ => ⟨S8x2048x4096, .f32⟩
  | .hbm, ⟨61, _⟩ => ⟨S8x2048x4096, .f32⟩
  | .hbm, ⟨62, _⟩ => ⟨S1x4096x1024, .f32⟩
  | .hbm, ⟨63, _⟩ => ⟨S4096x1024, .f32⟩
  | .hbm, ⟨64, _⟩ => ⟨S8x2048x1024, .f32⟩
  | .hbm, ⟨65, _⟩ => ⟨S1x1024, .f32⟩
  | .hbm, ⟨66, _⟩ => ⟨S1024, .f32⟩
  | .hbm, ⟨67, _⟩ => ⟨S1x1x1024, .f32⟩
  | .hbm, ⟨68, _⟩ => ⟨S8x2048x1024, .f32⟩
  | .hbm, ⟨69, _⟩ => ⟨S8x2048x1024, .f32⟩
  | .hbm, ⟨70, _⟩ => ⟨S8x2048x1024, .f32⟩
  | .hbm, ⟨71, _⟩ => ⟨S8x2048x1024, .f32⟩
  | .hbm, ⟨72, _⟩ => ⟨S8x2048x1024, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call0_cst : Ref sig .tc := ⟨.hbm, 58, rfl⟩
abbrev main_call0_v0 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x6144 : Shape := ⟨2, ![8, 6144]⟩
abbrev S4x1024 : Shape := ⟨2, ![4, 1024]⟩
abbrev S4x1024x1952 : Shape := ⟨3, ![4, 1024, 1952]⟩
abbrev S4x64 : Shape := ⟨2, ![4, 64]⟩
abbrev S4x256 : Shape := ⟨2, ![4, 256]⟩
abbrev S4x128 : Shape := ⟨2, ![4, 128]⟩
abbrev S4x256x768 : Shape := ⟨3, ![4, 256, 768]⟩
abbrev S4x128x1024 : Shape := ⟨3, ![4, 128, 1024]⟩
abbrev S4x96 : Shape := ⟨2, ![4, 96]⟩
abbrev S32 : Shape := ⟨1, ![32]⟩
abbrev S2048 : Shape := ⟨1, ![2048]⟩
abbrev S_ : Shape := ⟨0, ![]⟩
abbrev S2048x1 : Shape := ⟨2, ![2048, 1]⟩
abbrev S2048x2 : Shape := ⟨2, ![2048, 2]⟩
abbrev S8 : Shape := ⟨1, ![8]⟩
abbrev S2048x2x1 : Shape := ⟨3, ![2048, 2, 1]⟩
abbrev S1x1x8 : Shape := ⟨3, ![1, 1, 8]⟩
abbrev S2048x2x8 : Shape := ⟨3, ![2048, 2, 8]⟩
abbrev S2048x1x8 : Shape := ⟨3, ![2048, 1, 8]⟩
abbrev S2048x8 : Shape := ⟨2, ![2048, 8]⟩
abbrev S2048x32 : Shape := ⟨2, ![2048, 32]⟩
abbrev S2048x64 : Shape := ⟨2, ![2048, 64]⟩
abbrev S2048x128 : Shape := ⟨2, ![2048, 128]⟩
abbrev S4x256x8x96 : Shape := ⟨4, ![4, 256, 8, 96]⟩
abbrev S4x128x8x128 : Shape := ⟨4, ![4, 128, 8, 128]⟩
abbrev S4x256x8x64 : Shape := ⟨4, ![4, 256, 8, 64]⟩
abbrev S4x256x8x32 : Shape := ⟨4, ![4, 256, 8, 32]⟩
abbrev S4x256x8x128 : Shape := ⟨4, ![4, 256, 8, 128]⟩
abbrev S4x256x1024 : Shape := ⟨3, ![4, 256, 1024]⟩
abbrev S32x1 : Shape := ⟨2, ![32, 1]⟩
abbrev S4x128x8x64 : Shape := ⟨4, ![4, 128, 8, 64]⟩
abbrev S4x128x8x32 : Shape := ⟨4, ![4, 128, 8, 32]⟩
abbrev S4x128x512 : Shape := ⟨3, ![4, 128, 512]⟩
abbrev S4x512x128 : Shape := ⟨3, ![4, 512, 128]⟩
abbrev S4x32 : Shape := ⟨2, ![4, 32]⟩
abbrev S4x1x128 : Shape := ⟨3, ![4, 1, 128]⟩
abbrev S4x4x128 : Shape := ⟨3, ![4, 4, 128]⟩
abbrev S4x1024x32 : Shape := ⟨3, ![4, 1024, 32]⟩
abbrev S4x1024x384 : Shape := ⟨3, ![4, 1024, 384]⟩
abbrev S4x1024x64 : Shape := ⟨3, ![4, 1024, 64]⟩
abbrev S4x1024x128 : Shape := ⟨3, ![4, 1024, 128]⟩
abbrev S4x1024x640 : Shape := ⟨3, ![4, 1024, 640]⟩
abbrev S1x1024 : Shape := ⟨2, ![1, 1024]⟩
abbrev S1024 : Shape := ⟨1, ![1024]⟩
abbrev S1x64 : Shape := ⟨2, ![1, 64]⟩
abbrev S64 : Shape := ⟨1, ![64]⟩
abbrev S1x256 : Shape := ⟨2, ![1, 256]⟩
abbrev S256 : Shape := ⟨1, ![256]⟩
abbrev S1x128 : Shape := ⟨2, ![1, 128]⟩
abbrev S128 : Shape := ⟨1, ![128]⟩
abbrev S8x6x1x1024 : Shape := ⟨4, ![8, 6, 1, 1024]⟩
abbrev S256x1 : Shape := ⟨2, ![256, 1]⟩
abbrev S256x256 : Shape := ⟨2, ![256, 256]⟩
abbrev S8x2048x768 : Shape := ⟨3, ![8, 2048, 768]⟩
abbrev S8x4x2048x64 : Shape := ⟨4, ![8, 4, 2048, 64]⟩
abbrev S8x256x2048 : Shape := ⟨3, ![8, 256, 2048]⟩
abbrev S8x8x2048x128 : Shape := ⟨4, ![8, 8, 2048, 128]⟩
abbrev S8x512x2048 : Shape := ⟨3, ![8, 512, 2048]⟩
abbrev S1x1024x1024 : Shape := ⟨3, ![1, 1024, 1024]⟩
abbrev S1x1x1x1024 : Shape := ⟨4, ![1, 1, 1, 1024]⟩
abbrev S1x1024x768 : Shape := ⟨3, ![1, 1024, 768]⟩
abbrev S1x1024x640 : Shape := ⟨3, ![1, 1024, 640]⟩
abbrev S1x256x1024 : Shape := ⟨3, ![1, 256, 1024]⟩
abbrev S1x128x1024 : Shape := ⟨3, ![1, 128, 1024]⟩
abbrev S1x512x128 : Shape := ⟨3, ![1, 512, 128]⟩
abbrev S1x4x128 : Shape := ⟨3, ![1, 4, 128]⟩
abbrev S1024x128 : Shape := ⟨2, ![1024, 128]⟩
abbrev S1x4x1024x64 : Shape := ⟨4, ![1, 4, 1024, 64]⟩
abbrev S1x8x1024x128 : Shape := ⟨4, ![1, 8, 1024, 128]⟩
abbrev S1x512x1024 : Shape := ⟨3, ![1, 512, 1024]⟩
abbrev S1024x1024 : Shape := ⟨2, ![1024, 1024]⟩
abbrev S1024x1 : Shape := ⟨2, ![1024, 1]⟩
abbrev S1024x640 : Shape := ⟨2, ![1024, 640]⟩
abbrev S1024x256 : Shape := ⟨2, ![1024, 256]⟩
abbrev S256x1024 : Shape := ⟨2, ![256, 1024]⟩
abbrev S128x1024 : Shape := ⟨2, ![128, 1024]⟩
abbrev S1x1x1024x128 : Shape := ⟨4, ![1, 1, 1024, 128]⟩
abbrev S512x128 : Shape := ⟨2, ![512, 128]⟩
abbrev S512x1024 : Shape := ⟨2, ![512, 1024]⟩
abbrev S1024x768 : Shape := ⟨2, ![1024, 768]⟩
abbrev S1024x64 : Shape := ⟨2, ![1024, 64]⟩
abbrev S1x1x1024x64 : Shape := ⟨4, ![1, 1, 1024, 64]⟩

abbrev nBuf : Space → Nat
  | .hbm => 265
  | .vmem => 38
  | .smem => 0
  | _ => 0

abbrev hbmTy0_0 (i : Nat) : BufTy := match i % 128 with
  | 0 => ⟨S8x2048x1024, .f32⟩
  | 1 => ⟨S8x6144, .f32⟩
  | 2 => ⟨S4x1024, .f32⟩
  | 3 => ⟨S4x1024x1952, .f32⟩
  | 4 => ⟨S4x64, .f32⟩
  | 5 => ⟨S4x64, .f32⟩
  | 6 => ⟨S4x256, .f32⟩
  | 7 => ⟨S4x128, .f32⟩
  | 8 => ⟨S4x256x768, .f32⟩
  | 9 => ⟨S4x128x1024, .f32⟩
  | 10 => ⟨S4x96, .f32⟩
  | 11 => ⟨S4x96, .f32⟩
  | 12 => ⟨S32, .i32⟩
  | 13 => ⟨S32, .i32⟩
  | 14 => ⟨S2048, .i32⟩
  | 15 => ⟨S_, .i32⟩
  | 16 => ⟨S_, .i32⟩
  | 17 => ⟨S2048, .i32⟩
  | 18 => ⟨S2048, .i32⟩
  | 19 => ⟨S2048, .i32⟩
  | 20 => ⟨S_, .i32⟩
  | 21 => ⟨S2048, .i32⟩
  | 22 => ⟨S2048, .i1⟩
  | 23 => ⟨S2048, .i32⟩
  | 24 => ⟨S2048, .i32⟩
  | 25 => ⟨S_, .i32⟩
  | 26 => ⟨S2048, .i32⟩
  | 27 => ⟨S2048, .i1⟩
  | 28 => ⟨S2048, .i1⟩
  | 29 => ⟨S_, .i32⟩
  | 30 => ⟨S2048, .i32⟩
  | 31 => ⟨S2048, .i32⟩
  | 32 => ⟨S2048, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S2048, .i32⟩
  | 40 => ⟨S2048, .i32⟩
  | 41 => ⟨S_, .i32⟩
  | 42 => ⟨S2048, .i32⟩
  | 43 => ⟨S2048, .i1⟩
  | 44 => ⟨S_, .i32⟩
  | 45 => ⟨S2048, .i32⟩
  | 46 => ⟨S2048, .i1⟩
  | 47 => ⟨S_, .i32⟩
  | 48 => ⟨S_, .i1⟩
  | 49 => ⟨S2048, .i1⟩
  | 50 => ⟨S2048, .i1⟩
  | 51 => ⟨S2048, .i1⟩
  | 52 => ⟨S2048, .i32⟩
  | 53 => ⟨S2048, .i32⟩
  | 54 => ⟨S2048, .i32⟩
  | 55 => ⟨S2048x1, .i32⟩
  | 56 => ⟨S2048x1, .i32⟩
  | 57 => ⟨S2048x2, .i32⟩
  | 58 => ⟨S2048x2, .f32⟩
  | 59 => ⟨S8, .f32⟩
  | 60 => ⟨S8, .f32⟩
  | 61 => ⟨S_, .f32⟩
  | 62 => ⟨S8, .f32⟩
  | 63 => ⟨S8, .f32⟩
  | 64 => ⟨S_, .f32⟩
  | 65 => ⟨S8, .f32⟩
  | 66 => ⟨S8, .f32⟩
  | 67 => ⟨S2048x2x1, .f32⟩
  | 68 => ⟨S1x1x8, .f32⟩
  | 69 => ⟨S2048x2x8, .f32⟩
  | 70 => ⟨S2048x2x8, .f32⟩
  | 71 => ⟨S2048x2x8, .f32⟩
  | 72 => ⟨S2048x2x8, .f32⟩
  | 73 => ⟨S2048x2x8, .f32⟩
  | 74 => ⟨S2048x1x8, .f32⟩
  | 75 => ⟨S2048x8, .f32⟩
  | 76 => ⟨S2048x1x8, .f32⟩
  | 77 => ⟨S2048x8, .f32⟩
  | 78 => ⟨S2048x1x8, .f32⟩
  | 79 => ⟨S2048x8, .f32⟩
  | 80 => ⟨S2048x1x8, .f32⟩
  | 81 => ⟨S2048x8, .f32⟩
  | 82 => ⟨S2048x32, .f32⟩
  | 83 => ⟨S2048x1x8, .f32⟩
  | 84 => ⟨S2048x8, .f32⟩
  | 85 => ⟨S2048x8, .f32⟩
  | 86 => ⟨S2048x1x8, .f32⟩
  | 87 => ⟨S2048x8, .f32⟩
  | 88 => ⟨S2048x1x8, .f32⟩
  | 89 => ⟨S2048x8, .f32⟩
  | 90 => ⟨S2048x8, .f32⟩
  | 91 => ⟨S2048x1x8, .f32⟩
  | 92 => ⟨S2048x8, .f32⟩
  | 93 => ⟨S2048x32, .f32⟩
  | 94 => ⟨S_, .f32⟩
  | 95 => ⟨S2048x64, .f32⟩
  | 96 => ⟨S_, .f32⟩
  | 97 => ⟨S2048x32, .f32⟩
  | 98 => ⟨S2048x128, .f32⟩
  | 99 => ⟨S_, .f32⟩
  | 100 => ⟨S2048x64, .f32⟩
  | 101 => ⟨S_, .f32⟩
  | 102 => ⟨S2048x32, .f32⟩
  | 103 => ⟨S2048x128, .f32⟩
  | 104 => ⟨S4x1024x1952, .bf16⟩
  | 105 => ⟨S4x256x8x96, .f32⟩
  | 106 => ⟨S4x128x8x128, .f32⟩
  | 107 => ⟨S4x256x8x64, .f32⟩
  | 108 => ⟨S4x256x8x32, .f32⟩
  | 109 => ⟨S_, .f32⟩
  | 110 => ⟨S4x256x8x32, .f32⟩
  | 111 => ⟨S4x256x8x128, .f32⟩
  | 112 => ⟨S4x256x1024, .f32⟩
  | 113 => ⟨S4x256x1024, .bf16⟩
  | 114 => ⟨S4x256x8x32, .f32⟩
  | 115 => ⟨S_, .i32⟩
  | 116 => ⟨S32, .i32⟩
  | 117 => ⟨S32, .i1⟩
  | 118 => ⟨S_, .i32⟩
  | 119 => ⟨S32, .i32⟩
  | 120 => ⟨S32, .i32⟩
  | 121 => ⟨S32, .i32⟩
  | 122 => ⟨S32x1, .i32⟩
  | 123 => ⟨S4x256x8x32, .f32⟩
  | 124 => ⟨S_, .f32⟩
  | 125 => ⟨S4x256x8x64, .f32⟩
  | 126 => ⟨S_, .f32⟩
  | 127 => ⟨S4x256x8x32, .f32⟩
  | _ => ⟨S8x2048x1024, .f32⟩

abbrev hbmTy0_1 (i : Nat) : BufTy := match i % 128 with
  | 0 => ⟨S4x256x8x128, .f32⟩
  | 1 => ⟨S4x256x1024, .f32⟩
  | 2 => ⟨S4x256x1024, .bf16⟩
  | 3 => ⟨S4x128x8x64, .f32⟩
  | 4 => ⟨S_, .f32⟩
  | 5 => ⟨S4x128x8x32, .f32⟩
  | 6 => ⟨S_, .f32⟩
  | 7 => ⟨S4x128x8x32, .f32⟩
  | 8 => ⟨S4x128x8x128, .f32⟩
  | 9 => ⟨S4x128x1024, .f32⟩
  | 10 => ⟨S4x128x1024, .bf16⟩
  | 11 => ⟨S4x128x8x64, .f32⟩
  | 12 => ⟨S4x128x512, .f32⟩
  | 13 => ⟨S4x128x512, .bf16⟩
  | 14 => ⟨S4x512x128, .bf16⟩
  | 15 => ⟨S4x64, .f32⟩
  | 16 => ⟨S4x32, .f32⟩
  | 17 => ⟨S_, .f32⟩
  | 18 => ⟨S4x32, .f32⟩
  | 19 => ⟨S4x128, .f32⟩
  | 20 => ⟨S4x32, .f32⟩
  | 21 => ⟨S_, .i32⟩
  | 22 => ⟨S32, .i32⟩
  | 23 => ⟨S32, .i1⟩
  | 24 => ⟨S_, .i32⟩
  | 25 => ⟨S32, .i32⟩
  | 26 => ⟨S32, .i32⟩
  | 27 => ⟨S32, .i32⟩
  | 28 => ⟨S32x1, .i32⟩
  | 29 => ⟨S4x32, .f32⟩
  | 30 => ⟨S_, .f32⟩
  | 31 => ⟨S4x64, .f32⟩
  | 32 => ⟨S_, .f32⟩
  | 33 => ⟨S4x32, .f32⟩
  | 34 => ⟨S4x128, .f32⟩
  | 35 => ⟨S4x64, .f32⟩
  | 36 => ⟨S4x32, .f32⟩
  | 37 => ⟨S_, .f32⟩
  | 38 => ⟨S4x32, .f32⟩
  | 39 => ⟨S4x128, .f32⟩
  | 40 => ⟨S4x32, .f32⟩
  | 41 => ⟨S_, .i32⟩
  | 42 => ⟨S32, .i32⟩
  | 43 => ⟨S32, .i1⟩
  | 44 => ⟨S_, .i32⟩
  | 45 => ⟨S32, .i32⟩
  | 46 => ⟨S32, .i32⟩
  | 47 => ⟨S32, .i32⟩
  | 48 => ⟨S32x1, .i32⟩
  | 49 => ⟨S4x32, .f32⟩
  | 50 => ⟨S_, .f32⟩
  | 51 => ⟨S4x64, .f32⟩
  | 52 => ⟨S_, .f32⟩
  | 53 => ⟨S4x32, .f32⟩
  | 54 => ⟨S4x128, .f32⟩
  | 55 => ⟨S4x1x128, .f32⟩
  | 56 => ⟨S4x1x128, .f32⟩
  | 57 => ⟨S4x1x128, .f32⟩
  | 58 => ⟨S4x1x128, .f32⟩
  | 59 => ⟨S4x4x128, .f32⟩
  | 60 => ⟨S4x1024x32, .f32⟩
  | 61 => ⟨S4x1024x384, .f32⟩
  | 62 => ⟨S_, .f32⟩
  | 63 => ⟨S4x1024x64, .f32⟩
  | 64 => ⟨S_, .f32⟩
  | 65 => ⟨S4x1024x32, .f32⟩
  | 66 => ⟨S4x1024x128, .f32⟩
  | 67 => ⟨S_, .i32⟩
  | 68 => ⟨S32, .i32⟩
  | 69 => ⟨S32, .i1⟩
  | 70 => ⟨S_, .i32⟩
  | 71 => ⟨S32, .i32⟩
  | 72 => ⟨S32, .i32⟩
  | 73 => ⟨S32, .i32⟩
  | 74 => ⟨S32x1, .i32⟩
  | 75 => ⟨S4x1024x32, .f32⟩
  | 76 => ⟨S_, .f32⟩
  | 77 => ⟨S4x1024x64, .f32⟩
  | 78 => ⟨S_, .f32⟩
  | 79 => ⟨S4x1024x32, .f32⟩
  | 80 => ⟨S4x1024x128, .f32⟩
  | 81 => ⟨S4x1024x640, .f32⟩
  | 82 => ⟨S4x1024x640, .bf16⟩
  | 83 => ⟨S1x1024, .f32⟩
  | 84 => ⟨S1024, .f32⟩
  | 85 => ⟨S1x1024, .f32⟩
  | 86 => ⟨S1x64, .f32⟩
  | 87 => ⟨S64, .f32⟩
  | 88 => ⟨S1x64, .f32⟩
  | 89 => ⟨S64, .f32⟩
  | 90 => ⟨S1x256, .f32⟩
  | 91 => ⟨S256, .f32⟩
  | 92 => ⟨S1x128, .f32⟩
  | 93 => ⟨S128, .f32⟩
  | 94 => ⟨S8x6x1x1024, .f32⟩
  | 95 => ⟨S1x64, .f32⟩
  | 96 => ⟨S4x64, .f32⟩
  | 97 => ⟨S256, .f32⟩
  | 98 => ⟨S1x256, .f32⟩
  | 99 => ⟨S1x64, .f32⟩
  | 100 => ⟨S4x64, .f32⟩
  | 101 => ⟨S256, .f32⟩
  | 102 => ⟨S1x256, .f32⟩
  | 103 => ⟨S256, .i32⟩
  | 104 => ⟨S_, .i32⟩
  | 105 => ⟨S_, .i32⟩
  | 106 => ⟨S256, .i32⟩
  | 107 => ⟨S256, .i32⟩
  | 108 => ⟨S256, .i32⟩
  | 109 => ⟨S_, .i32⟩
  | 110 => ⟨S256, .i32⟩
  | 111 => ⟨S256, .i1⟩
  | 112 => ⟨S256, .i32⟩
  | 113 => ⟨S256, .i32⟩
  | 114 => ⟨S_, .i32⟩
  | 115 => ⟨S256, .i32⟩
  | 116 => ⟨S256, .i1⟩
  | 117 => ⟨S256, .i1⟩
  | 118 => ⟨S_, .i32⟩
  | 119 => ⟨S256, .i32⟩
  | 120 => ⟨S256, .i32⟩
  | 121 => ⟨S256, .i32⟩
  | 122 => ⟨S256x1, .i32⟩
  | 123 => ⟨S1x256, .i32⟩
  | 124 => ⟨S256x256, .i32⟩
  | 125 => ⟨S256x256, .i32⟩
  | 126 => ⟨S256x256, .i1⟩
  | 127 => ⟨S256x256, .bf16⟩
  | _ => ⟨S8x2048x1024, .f32⟩

abbrev hbmTy0_2 (i : Nat) : BufTy := match i % 128 with
  | 0 => ⟨S1x256, .f32⟩
  | 1 => ⟨S1x128, .f32⟩
  | 2 => ⟨S8x2048x768, .bf16⟩
  | 3 => ⟨S8x4x2048x64, .bf16⟩
  | 4 => ⟨S8x4x2048x64, .bf16⟩
  | 5 => ⟨S8x256x2048, .bf16⟩
  | 6 => ⟨S8x8x2048x128, .bf16⟩
  | 7 => ⟨S8x8x2048x128, .bf16⟩
  | 8 => ⟨S8x512x2048, .bf16⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024, .f32⟩
  | .local _ .vmem, ⟨7, _⟩ => ⟨S1x1024x768, .bf16⟩
  | .local _ .vmem, ⟨8, _⟩ => ⟨S1x1024x768, .bf16⟩
  | .local _ .vmem, ⟨9, _⟩ => ⟨S1x1024x640, .bf16⟩
  | .local _ .vmem, ⟨10, _⟩ => ⟨S1x256, .f32⟩
  | .local _ .vmem, ⟨11, _⟩ => ⟨S1x256, .f32⟩
  | .local _ .vmem, ⟨12, _⟩ => ⟨S256x256, .bf16⟩
  | .local _ .vmem, ⟨13, _⟩ => ⟨S1x256, .f32⟩
  | .local _ .vmem, ⟨14, _⟩ => ⟨S1x128, .f32⟩
  | .local _ .vmem, ⟨15, _⟩ => ⟨S1x256x1024, .bf16⟩
  | .local _ .vmem, ⟨16, _⟩ => ⟨S1x128x1024, .bf16⟩
  | .local _ .vmem, ⟨17, _⟩ => ⟨S1x512x128, .bf16⟩
  | .local _ .vmem, ⟨18, _⟩ => ⟨S1x4x128, .f32⟩
  | .local _ .vmem, ⟨19, _⟩ => ⟨S1x256x1024, .bf16⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1x1024x768, .bf16⟩
  | .local _ .vmem, ⟨25, _⟩ => ⟨S1x1024x768, .bf16⟩
  | .local _ .vmem, ⟨26, _⟩ => ⟨S1x4x1024x64, .bf16⟩
  | .local _ .vmem, ⟨27, _⟩ => ⟨S1x4x1024x64, .bf16⟩
  | .local _ .vmem, ⟨28, _⟩ => ⟨S1x4x1024x64, .bf16⟩
  | .local _ .vmem, ⟨29, _⟩ => ⟨S1x4x1024x64, .bf16⟩
  | .local _ .vmem, ⟨30, _⟩ => ⟨S1x256x1024, .bf16⟩
  | .local _ .vmem, ⟨31, _⟩ => ⟨S1x256x1024, .bf16⟩
  | .local _ .vmem, ⟨32, _⟩ => ⟨S1x8x1024x128, .bf16⟩
  | .local _ .vmem, ⟨33, _⟩ => ⟨S1x8x1024x128, .bf16⟩
  | .local _ .vmem, ⟨34, _⟩ => ⟨S1x8x1024x128, .bf16⟩
  | .local _ .vmem, ⟨35, _⟩ => ⟨S1x8x1024x128, .bf16⟩
  | .local _ .vmem, ⟨36, _⟩ => ⟨S1x512x1024, .bf16⟩
  | .local _ .vmem, ⟨37, _⟩ => ⟨S1x512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_v0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v1 : Ref sig .tc := ⟨.hbm, 32, rfl⟩
abbrev main_c_2 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_cst : Ref sig .tc := ⟨.hbm, 61, rfl⟩
abbrev main_v9 : Ref sig .tc := ⟨.hbm, 62, rfl⟩
abbrev main_v10 : Ref sig .tc := ⟨.hbm, 63, rfl⟩
abbrev main_cst_3 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_cst_4 : Ref sig .tc := ⟨.hbm, 94, rfl⟩
abbrev main_v40 : Ref sig .tc := ⟨.hbm, 95, rfl⟩
abbrev main_cst_5 : Ref sig .tc := ⟨.hbm, 96, rfl⟩
abbrev main_v41 : Ref sig .tc := ⟨.hbm, 97, rfl⟩
abbrev main_v42 : Ref sig .tc := ⟨.hbm, 98, rfl⟩
abbrev main_cst_6 : Ref sig .tc := ⟨.hbm, 99, rfl⟩
abbrev main_v43 : Ref sig .tc := ⟨.hbm, 100, rfl⟩
abbrev main_cst_7 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_cst_8 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_c_9 : Ref sig .tc := ⟨.hbm, 115, rfl⟩
abbrev main_v56 : Ref sig .tc := ⟨.hbm, 116, rfl⟩
abbrev main_v57 : Ref sig .tc := ⟨.hbm, 117, rfl⟩
abbrev main_c_10 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_cst_11 : Ref sig .tc := ⟨.hbm, 124, rfl⟩
abbrev main_v63 : Ref sig .tc := ⟨.hbm, 125, rfl⟩
abbrev main_cst_12 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_cst_13 : Ref sig .tc := ⟨.hbm, 132, rfl⟩
abbrev main_v69 : Ref sig .tc := ⟨.hbm, 133, rfl⟩
abbrev main_cst_14 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_cst_15 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_c_16 : Ref sig .tc := ⟨.hbm, 149, rfl⟩
abbrev main_v83 : Ref sig .tc := ⟨.hbm, 150, rfl⟩
abbrev main_v84 : Ref sig .tc := ⟨.hbm, 151, rfl⟩
abbrev main_c_17 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_cst_18 : Ref sig .tc := ⟨.hbm, 158, rfl⟩
abbrev main_v90 : Ref sig .tc := ⟨.hbm, 159, rfl⟩
abbrev main_cst_19 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_cst_20 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_c_21 : Ref sig .tc := ⟨.hbm, 169, rfl⟩
abbrev main_v98 : Ref sig .tc := ⟨.hbm, 170, rfl⟩
abbrev main_v99 : Ref sig .tc := ⟨.hbm, 171, rfl⟩
abbrev main_c_22 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_cst_23 : Ref sig .tc := ⟨.hbm, 178, rfl⟩
abbrev main_v105 : Ref sig .tc := ⟨.hbm, 179, rfl⟩
abbrev main_cst_24 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_25 : Ref sig .tc := ⟨.hbm, 190, rfl⟩
abbrev main_v115 : Ref sig .tc := ⟨.hbm, 191, rfl⟩
abbrev main_cst_26 : Ref sig .tc := ⟨.hbm, 192, rfl⟩
abbrev main_v116 : Ref sig .tc := ⟨.hbm, 193, rfl⟩
abbrev main_v117 : Ref sig .tc := ⟨.hbm, 194, rfl⟩
abbrev main_c_27 : Ref sig .tc := ⟨.hbm, 195, rfl⟩
abbrev main_v118 : Ref sig .tc := ⟨.hbm, 196, rfl⟩
abbrev main_v119 : Ref sig .tc := ⟨.hbm, 197, rfl⟩
abbrev main_c_28 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_29 : Ref sig .tc := ⟨.hbm, 204, rfl⟩
abbrev main_v125 : Ref sig .tc := ⟨.hbm, 205, rfl⟩
abbrev main_cst_30 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_c_31 : Ref sig .tc := ⟨.hbm, 232, rfl⟩
abbrev main_call2_v0 : Ref sig .tc := ⟨.hbm, 233, rfl⟩
abbrev main_call2_v1 : Ref sig .tc := ⟨.hbm, 234, rfl⟩
abbrev main_call2_v2 : Ref sig .tc := ⟨.hbm, 235, rfl⟩
abbrev main_call2_v3 : Ref sig .tc := ⟨.hbm, 236, rfl⟩
abbrev main_call2_v4 : Ref sig .tc := ⟨.hbm, 237, rfl⟩
abbrev main_call2_v5 : Ref sig .tc := ⟨.hbm, 238, rfl⟩
abbrev main_call2_v6 : Ref sig .tc := ⟨.hbm, 239, rfl⟩
abbrev main_call2_v7 : Ref sig .tc := ⟨.hbm, 240, rfl⟩
abbrev main_call2_v8 : Ref sig .tc := ⟨.hbm, 241, rfl⟩
abbrev main_call2_c : Ref sig .tc := ⟨.hbm, 242, rfl⟩
abbrev main_call2_v9 : Ref sig .tc := ⟨.hbm, 243, rfl⟩
abbrev main_call2_v10 : Ref sig .tc := ⟨.hbm, 244, rfl⟩
abbrev main_call2_v11 : Ref sig .tc := ⟨.hbm, 245, rfl⟩
abbrev main_call2_c_0 : Ref sig .tc := ⟨.hbm, 246, rfl⟩
abbrev main_call2_v12 : Ref sig .tc := ⟨.hbm, 247, rfl⟩
abbrev main_call2_v13 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160_0 : Ref sig .tc := ⟨.hbm, 258, rfl⟩
abbrev main_v160_1 : Ref sig .tc := ⟨.hbm, 259, rfl⟩
abbrev main_v160_2 : Ref sig .tc := ⟨.hbm, 260, rfl⟩
abbrev main_v160_3 : Ref sig .tc := ⟨.hbm, 261, rfl⟩
abbrev main_v160_4 : Ref sig .tc := ⟨.hbm, 262, rfl⟩
abbrev main_v160_5 : Ref sig .tc := ⟨.hbm, 263, rfl⟩
abbrev main_v160_6 : Ref sig .tc := ⟨.hbm, 264, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_stg25_0 : Ref sig .tc := ⟨.vmem, 36, rfl⟩
abbrev cc0_stg25_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35
abbrev cc0_sem25_0 : DmaSem sig := 36
abbrev cc0_sem25_1 : DmaSem sig := 37

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c1_i32 : BitVec 32 := 1#32
  let c0_i32_0 : BitVec 32 := 0#32
  ![c3_i32.toNat, c0_i32.toNat, c1_i32.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_24 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x640 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x4x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1024x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S1024x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true]

abbrev stage0_19 : Fin 2 → Memref sig .tc .vmem S1x1024x768 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x4x1024x64 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x4x1024x64 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x8x1024x128 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x8x1024x128 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== Kernel3Ideal.lean ====
variable {F : FTy → Type} [FloatOps F] [Named F]
def κ : String → Option EReal := fun
  | "inv_qk" => some ((1 / 96 : ℝ) : EReal)
  | _ => none
-- ==== Reference3Ideal.lean ====
abbrev S8x2048x1024 : Shape := ⟨3, ![8, 2048, 1024]⟩
abbrev S8x6144 : Shape := ⟨2, ![8, 6144]⟩
abbrev S4x1024 : Shape := ⟨2, ![4, 1024]⟩
abbrev S4x1024x1952 : Shape := ⟨3, ![4, 1024, 1952]⟩
abbrev S4x64 : Shape := ⟨2, ![4, 64]⟩
abbrev S4x256 : Shape := ⟨2, ![4, 256]⟩
abbrev S4x128 : Shape := ⟨2, ![4, 128]⟩
abbrev S4x256x768 : Shape := ⟨3, ![4, 256, 768]⟩
abbrev S4x128x1024 : Shape := ⟨3, ![4, 128, 1024]⟩
abbrev S4x96 : Shape := ⟨2, ![4, 96]⟩
abbrev S2048 : Shape := ⟨1, ![2048]⟩
abbrev S_ : Shape := ⟨0, ![]⟩
abbrev S2048x1 : Shape := ⟨2, ![2048, 1]⟩
abbrev S2048x2 : Shape := ⟨2, ![2048, 2]⟩
abbrev S2048x2x1 : Shape := ⟨3, ![2048, 2, 1]⟩
abbrev S8 : Shape := ⟨1, ![8]⟩
abbrev S1x1x8 : Shape := ⟨3, ![1, 1, 8]⟩
abbrev S2048x2x8 : Shape := ⟨3, ![2048, 2, 8]⟩
abbrev S2048x1x2x8 : Shape := ⟨4, ![2048, 1, 2, 8]⟩
abbrev S8x1x6144 : Shape := ⟨3, ![8, 1, 6144]⟩
abbrev S8x1x1024 : Shape := ⟨3, ![8, 1, 1024]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S1x1024x1952 : Shape := ⟨3, ![1, 1024, 1952]⟩
abbrev S1024x1952 : Shape := ⟨2, ![1024, 1952]⟩
abbrev S8x2048x1952 : Shape := ⟨3, ![8, 2048, 1952]⟩
abbrev S8x2048x768 : Shape := ⟨3, ![8, 2048, 768]⟩
abbrev S8x2048x416 : Shape := ⟨3, ![8, 2048, 416]⟩
abbrev S8x2048x256 : Shape := ⟨3, ![8, 2048, 256]⟩
abbrev S8x2048x4x64 : Shape := ⟨4, ![8, 2048, 4, 64]⟩
abbrev S8x4x2048x64 : Shape := ⟨4, ![8, 4, 2048, 64]⟩
abbrev S1x64 : Shape := ⟨2, ![1, 64]⟩
abbrev S64 : Shape := ⟨1, ![64]⟩
abbrev S8x4x2048 : Shape := ⟨3, ![8, 4, 2048]⟩
abbrev S8x4x2048x1 : Shape := ⟨4, ![8, 4, 2048, 1]⟩
abbrev S1x1x1x64 : Shape := ⟨4, ![1, 1, 1, 64]⟩
abbrev S8x2048x128 : Shape := ⟨3, ![8, 2048, 128]⟩
abbrev S8x2048x32 : Shape := ⟨3, ![8, 2048, 32]⟩
abbrev S1x256 : Shape := ⟨2, ![1, 256]⟩
abbrev S256 : Shape := ⟨1, ![256]⟩
abbrev S1x1x256 : Shape := ⟨3, ![1, 1, 256]⟩
abbrev S1x256x768 : Shape := ⟨3, ![1, 256, 768]⟩
abbrev S256x768 : Shape := ⟨2, ![256, 768]⟩
abbrev S8x2048x8x96 : Shape := ⟨4, ![8, 2048, 8, 96]⟩
abbrev S1x128 : Shape := ⟨2, ![1, 128]⟩
abbrev S128 : Shape := ⟨1, ![128]⟩
abbrev S1x1x128 : Shape := ⟨3, ![1, 1, 128]⟩
abbrev S1x128x1024 : Shape := ⟨3, ![1, 128, 1024]⟩
abbrev S128x1024 : Shape := ⟨2, ![128, 1024]⟩
abbrev S8x2048x8x128 : Shape := ⟨4, ![8, 2048, 8, 128]⟩
abbrev S8x2048x8x64 : Shape := ⟨4, ![8, 2048, 8, 64]⟩
abbrev S8x2048x1x32 : Shape := ⟨4, ![8, 2048, 1, 32]⟩
abbrev S8x2048x8x32 : Shape := ⟨4, ![8, 2048, 8, 32]⟩
abbrev S1x96 : Shape := ⟨2, ![1, 96]⟩
abbrev S96 : Shape := ⟨1, ![96]⟩
abbrev S8x2048x8 : Shape := ⟨3, ![8, 2048, 8]⟩
abbrev S8x2048x8x1 : Shape := ⟨4, ![8, 2048, 8, 1]⟩
abbrev S1x1x1x96 : Shape := ⟨4, ![1, 1, 1, 96]⟩
abbrev S8x2048x8x2x2x8 : Shape := ⟨6, ![8, 2048, 8, 2, 2, 8]⟩
abbrev S8x2048x8x2x1x8 : Shape := ⟨6, ![8, 2048, 8, 2, 1, 8]⟩
abbrev S8x2048x8x2x8 : Shape := ⟨5, ![8, 2048, 8, 2, 8]⟩
abbrev S1x2048x1x2x8 : Shape := ⟨5, ![1, 2048, 1, 2, 8]⟩
abbrev S8x4x64x2048 : Shape := ⟨4, ![8, 4, 64, 2048]⟩
abbrev S8x256x2048 : Shape := ⟨3, ![8, 256, 2048]⟩
abbrev S8x8x2048x96 : Shape := ⟨4, ![8, 8, 2048, 96]⟩
abbrev S8x8x2048x128 : Shape := ⟨4, ![8, 8, 2048, 128]⟩
abbrev S8x8x2048x64 : Shape := ⟨4, ![8, 8, 2048, 64]⟩
abbrev S8x8x64x2048 : Shape := ⟨4, ![8, 8, 64, 2048]⟩
abbrev S8x512x2048 : Shape := ⟨3, ![8, 512, 2048]⟩

abbrev nBuf : Space → Nat
  | .hbm => 323
  | .vmem => 0
  | .smem => 0
  | _ => 0

abbrev hbmTy0_0 (i : Nat) : BufTy := match i % 128 with
  | 0 => ⟨S8x2048x1024, .f32⟩
  | 1 => ⟨S8x6144, .f32⟩
  | 2 => ⟨S4x1024, .f32⟩
  | 3 => ⟨S4x1024x1952, .f32⟩
  | 4 => ⟨S4x64, .f32⟩
  | 5 => ⟨S4x64, .f32⟩
  | 6 => ⟨S4x256, .f32⟩
  | 7 => ⟨S4x128, .f32⟩
  | 8 => ⟨S4x256x768, .f32⟩
  | 9 => ⟨S4x128x1024, .f32⟩
  | 10 => ⟨S4x96, .f32⟩
  | 11 => ⟨S4x96, .f32⟩
  | 12 => ⟨S2048, .i32⟩
  | 13 => ⟨S_, .i32⟩
  | 14 => ⟨S_, .i32⟩
  | 15 => ⟨S2048, .i32⟩
  | 16 => ⟨S2048, .i32⟩
  | 17 => ⟨S2048, .i32⟩
  | 18 => ⟨S_, .i32⟩
  | 19 => ⟨S2048, .i32⟩
  | 20 => ⟨S2048, .i1⟩
  | 21 => ⟨S2048, .i32⟩
  | 22 => ⟨S2048, .i32⟩
  | 23 => ⟨S_, .i32⟩
  | 24 => ⟨S2048, .i32⟩
  | 25 => ⟨S2048, .i1⟩
  | 26 => ⟨S2048, .i1⟩
  | 27 => ⟨S_, .i32⟩
  | 28 => ⟨S2048, .i32⟩
  | 29 => ⟨S2048, .i32⟩
  | 30 => ⟨S2048, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S2048, .i32⟩
  | 38 => ⟨S2048, .i32⟩
  | 39 => ⟨S_, .i32⟩
  | 40 => ⟨S2048, .i32⟩
  | 41 => ⟨S2048, .i1⟩
  | 42 => ⟨S_, .i32⟩
  | 43 => ⟨S2048, .i32⟩
  | 44 => ⟨S2048, .i1⟩
  | 45 => ⟨S_, .i32⟩
  | 46 => ⟨S_, .i1⟩
  | 47 => ⟨S2048, .i1⟩
  | 48 => ⟨S2048, .i1⟩
  | 49 => ⟨S2048, .i1⟩
  | 50 => ⟨S2048, .i32⟩
  | 51 => ⟨S2048, .i32⟩
  | 52 => ⟨S2048, .i32⟩
  | 53 => ⟨S2048x1, .i32⟩
  | 54 => ⟨S2048x1, .i32⟩
  | 55 => ⟨S2048x2, .i32⟩
  | 56 => ⟨S2048x2, .f32⟩
  | 57 => ⟨S2048x2x1, .f32⟩
  | 58 => ⟨S8, .f32⟩
  | 59 => ⟨S8, .f32⟩
  | 60 => ⟨S_, .f32⟩
  | 61 => ⟨S8, .f32⟩
  | 62 => ⟨S8, .f32⟩
  | 63 => ⟨S_, .f32⟩
  | 64 => ⟨S8, .f32⟩
  | 65 => ⟨S8, .f32⟩
  | 66 => ⟨S1x1x8, .f32⟩
  | 67 => ⟨S2048x2x8, .f32⟩
  | 68 => ⟨S2048x2x8, .f32⟩
  | 69 => ⟨S2048x2x8, .f32⟩
  | 70 => ⟨S2048x2x8, .f32⟩
  | 71 => ⟨S2048x1x2x8, .f32⟩
  | 72 => ⟨S2048x2x8, .f32⟩
  | 73 => ⟨S2048x1x2x8, .f32⟩
  | 74 => ⟨S8x1x6144, .f32⟩
  | 75 => ⟨S8x1x1024, .f32⟩
  | 76 => ⟨S8x1x1024, .f32⟩
  | 77 => ⟨S8x1x1024, .f32⟩
  | 78 => ⟨S8x1x1024, .f32⟩
  | 79 => ⟨S8x1x1024, .f32⟩
  | 80 => ⟨S8x1x1024, .f32⟩
  | 81 => ⟨S1x1024, .f32⟩
  | 82 => ⟨S1024, .f32⟩
  | 83 => ⟨S8x2048x1024, .f32⟩
  | 84 => ⟨S_, .f32⟩
  | 85 => ⟨S8x2048, .f32⟩
  | 86 => ⟨S8x2048x1, .f32⟩
  | 87 => ⟨S_, .f32⟩
  | 88 => ⟨S8x2048x1, .f32⟩
  | 89 => ⟨S8x2048x1, .f32⟩
  | 90 => ⟨S_, .f32⟩
  | 91 => ⟨S8x2048x1, .f32⟩
  | 92 => ⟨S8x2048x1, .f32⟩
  | 93 => ⟨S8x2048x1, .f32⟩
  | 94 => ⟨S8x2048x1024, .f32⟩
  | 95 => ⟨S8x2048x1024, .f32⟩
  | 96 => ⟨S1x1x1024, .f32⟩
  | 97 => ⟨S8x2048x1024, .f32⟩
  | 98 => ⟨S8x2048x1024, .f32⟩
  | 99 => ⟨S_, .f32⟩
  | 100 => ⟨S8x1x1024, .f32⟩
  | 101 => ⟨S8x1x1024, .f32⟩
  | 102 => ⟨S8x2048x1024, .f32⟩
  | 103 => ⟨S8x2048x1024, .f32⟩
  | 104 => ⟨S8x2048x1024, .f32⟩
  | 105 => ⟨S8x2048x1024, .f32⟩
  | 106 => ⟨S1x1024x1952, .f32⟩
  | 107 => ⟨S1024x1952, .f32⟩
  | 108 => ⟨S8x2048x1952, .f32⟩
  | 109 => ⟨S8x2048x768, .f32⟩
  | 110 => ⟨S8x2048x768, .f32⟩
  | 111 => ⟨S8x2048x416, .f32⟩
  | 112 => ⟨S8x2048x256, .f32⟩
  | 113 => ⟨S8x2048x256, .f32⟩
  | 114 => ⟨S8x2048x256, .f32⟩
  | 115 => ⟨S8x2048x4x64, .f32⟩
  | 116 => ⟨S8x4x2048x64, .f32⟩
  | 117 => ⟨S1x64, .f32⟩
  | 118 => ⟨S64, .f32⟩
  | 119 => ⟨S8x4x2048x64, .f32⟩
  | 120 => ⟨S_, .f32⟩
  | 121 => ⟨S8x4x2048, .f32⟩
  | 122 => ⟨S8x4x2048x1, .f32⟩
  | 123 => ⟨S_, .f32⟩
  | 124 => ⟨S8x4x2048x1, .f32⟩
  | 125 => ⟨S8x4x2048x1, .f32⟩
  | 126 => ⟨S_, .f32⟩
  | 127 => ⟨S8x4x2048x1, .f32⟩
  | _ => ⟨S8x2048x1024, .f32⟩

abbrev hbmTy0_1 (i : Nat) : BufTy := match i % 128 with
  | 0 => ⟨S8x4x2048x1, .f32⟩
  | 1 => ⟨S8x4x2048x1, .f32⟩
  | 2 => ⟨S8x4x2048x64, .f32⟩
  | 3 => ⟨S8x4x2048x64, .f32⟩
  | 4 => ⟨S1x1x1x64, .f32⟩
  | 5 => ⟨S8x4x2048x64, .f32⟩
  | 6 => ⟨S8x4x2048x64, .f32⟩
  | 7 => ⟨S8x2048x4x64, .f32⟩
  | 8 => ⟨S8x4x2048x64, .f32⟩
  | 9 => ⟨S1x64, .f32⟩
  | 10 => ⟨S64, .f32⟩
  | 11 => ⟨S8x4x2048x64, .f32⟩
  | 12 => ⟨S_, .f32⟩
  | 13 => ⟨S8x4x2048, .f32⟩
  | 14 => ⟨S8x4x2048x1, .f32⟩
  | 15 => ⟨S_, .f32⟩
  | 16 => ⟨S8x4x2048x1, .f32⟩
  | 17 => ⟨S8x4x2048x1, .f32⟩
  | 18 => ⟨S_, .f32⟩
  | 19 => ⟨S8x4x2048x1, .f32⟩
  | 20 => ⟨S8x4x2048x1, .f32⟩
  | 21 => ⟨S8x4x2048x1, .f32⟩
  | 22 => ⟨S8x4x2048x64, .f32⟩
  | 23 => ⟨S8x4x2048x64, .f32⟩
  | 24 => ⟨S1x1x1x64, .f32⟩
  | 25 => ⟨S8x4x2048x64, .f32⟩
  | 26 => ⟨S8x4x2048x64, .f32⟩
  | 27 => ⟨S8x2048x4x64, .f32⟩
  | 28 => ⟨S8x4x2048x64, .f32⟩
  | 29 => ⟨S8x2048x256, .f32⟩
  | 30 => ⟨S8x2048x128, .f32⟩
  | 31 => ⟨S8x2048x32, .f32⟩
  | 32 => ⟨S1x256, .f32⟩
  | 33 => ⟨S256, .f32⟩
  | 34 => ⟨S8x2048x256, .f32⟩
  | 35 => ⟨S_, .f32⟩
  | 36 => ⟨S8x2048, .f32⟩
  | 37 => ⟨S8x2048x1, .f32⟩
  | 38 => ⟨S_, .f32⟩
  | 39 => ⟨S8x2048x1, .f32⟩
  | 40 => ⟨S8x2048x1, .f32⟩
  | 41 => ⟨S_, .f32⟩
  | 42 => ⟨S8x2048x1, .f32⟩
  | 43 => ⟨S8x2048x1, .f32⟩
  | 44 => ⟨S8x2048x1, .f32⟩
  | 45 => ⟨S8x2048x256, .f32⟩
  | 46 => ⟨S8x2048x256, .f32⟩
  | 47 => ⟨S1x1x256, .f32⟩
  | 48 => ⟨S8x2048x256, .f32⟩
  | 49 => ⟨S8x2048x256, .f32⟩
  | 50 => ⟨S1x256x768, .f32⟩
  | 51 => ⟨S256x768, .f32⟩
  | 52 => ⟨S8x2048x768, .f32⟩
  | 53 => ⟨S8x2048x8x96, .f32⟩
  | 54 => ⟨S1x128, .f32⟩
  | 55 => ⟨S128, .f32⟩
  | 56 => ⟨S8x2048x128, .f32⟩
  | 57 => ⟨S_, .f32⟩
  | 58 => ⟨S8x2048, .f32⟩
  | 59 => ⟨S8x2048x1, .f32⟩
  | 60 => ⟨S_, .f32⟩
  | 61 => ⟨S8x2048x1, .f32⟩
  | 62 => ⟨S8x2048x1, .f32⟩
  | 63 => ⟨S_, .f32⟩
  | 64 => ⟨S8x2048x1, .f32⟩
  | 65 => ⟨S8x2048x1, .f32⟩
  | 66 => ⟨S8x2048x1, .f32⟩
  | 67 => ⟨S8x2048x128, .f32⟩
  | 68 => ⟨S8x2048x128, .f32⟩
  | 69 => ⟨S1x1x128, .f32⟩
  | 70 => ⟨S8x2048x128, .f32⟩
  | 71 => ⟨S8x2048x128, .f32⟩
  | 72 => ⟨S1x128x1024, .f32⟩
  | 73 => ⟨S128x1024, .f32⟩
  | 74 => ⟨S8x2048x1024, .f32⟩
  | 75 => ⟨S8x2048x8x128, .f32⟩
  | 76 => ⟨S8x2048x8x64, .f32⟩
  | 77 => ⟨S8x2048x1x32, .f32⟩
  | 78 => ⟨S8x2048x8x32, .f32⟩
  | 79 => ⟨S8x2048x8x96, .f32⟩
  | 80 => ⟨S1x96, .f32⟩
  | 81 => ⟨S96, .f32⟩
  | 82 => ⟨S8x2048x8x96, .f32⟩
  | 83 => ⟨S_, .f32⟩
  | 84 => ⟨S8x2048x8, .f32⟩
  | 85 => ⟨S8x2048x8x1, .f32⟩
  | 86 => ⟨S_, .f32⟩
  | 87 => ⟨S8x2048x8x1, .f32⟩
  | 88 => ⟨S8x2048x8x1, .f32⟩
  | 89 => ⟨S_, .f32⟩
  | 90 => ⟨S8x2048x8x1, .f32⟩
  | 91 => ⟨S8x2048x8x1, .f32⟩
  | 92 => ⟨S8x2048x8x1, .f32⟩
  | 93 => ⟨S8x2048x8x96, .f32⟩
  | 94 => ⟨S8x2048x8x96, .f32⟩
  | 95 => ⟨S1x1x1x96, .f32⟩
  | 96 => ⟨S8x2048x8x96, .f32⟩
  | 97 => ⟨S8x2048x8x96, .f32⟩
  | 98 => ⟨S1x96, .f32⟩
  | 99 => ⟨S96, .f32⟩
  | 100 => ⟨S8x2048x8x96, .f32⟩
  | 101 => ⟨S_, .f32⟩
  | 102 => ⟨S8x2048x8, .f32⟩
  | 103 => ⟨S8x2048x8x1, .f32⟩
  | 104 => ⟨S_, .f32⟩
  | 105 => ⟨S8x2048x8x1, .f32⟩
  | 106 => ⟨S8x2048x8x1, .f32⟩
  | 107 => ⟨S_, .f32⟩
  | 108 => ⟨S8x2048x8x1, .f32⟩
  | 109 => ⟨S8x2048x8x1, .f32⟩
  | 110 => ⟨S8x2048x8x1, .f32⟩
  | 111 => ⟨S8x2048x8x96, .f32⟩
  | 112 => ⟨S8x2048x8x96, .f32⟩
  | 113 => ⟨S1x1x1x96, .f32⟩
  | 114 => ⟨S8x2048x8x96, .f32⟩
  | 115 => ⟨S8x2048x8x96, .f32⟩
  | 116 => ⟨S8x2048x8x64, .f32⟩
  | 117 => ⟨S8x2048x8x64, .f32⟩
  | 118 => ⟨S8x2048x8x32, .f32⟩
  | 119 => ⟨S8x2048x8x2x2x8, .f32⟩
  | 120 => ⟨S8x2048x8x2x1x8, .f32⟩
  | 121 => ⟨S8x2048x8x2x8, .f32⟩
  | 122 => ⟨S8x2048x8x2x1x8, .f32⟩
  | 123 => ⟨S8x2048x8x2x8, .f32⟩
  | 124 => ⟨S1x2048x1x2x8, .f32⟩
  | 125 => ⟨S8x2048x8x2x8, .f32⟩
  | 126 => ⟨S8x2048x8x2x8, .f32⟩
  | 127 => ⟨S1x2048x1x2x8, .f32⟩
  | _ => ⟨S8x2048x1024, .f32⟩

abbrev hbmTy0_2 (i : Nat) : BufTy := match i % 128 with
  | 0 => ⟨S8x2048x8x2x8, .f32⟩
  | 1 => ⟨S8x2048x8x2x8, .f32⟩
  | 2 => ⟨S8x2048x8x2x8, .f32⟩
  | 3 => ⟨S1x2048x1x2x8, .f32⟩
  | 4 => ⟨S8x2048x8x2x8, .f32⟩
  | 5 => ⟨S8x2048x8x2x8, .f32⟩
  | 6 => ⟨S1x2048x1x2x8, .f32⟩
  | 7 => ⟨S8x2048x8x2x8, .f32⟩
  | 8 => ⟨S8x2048x8x2x8, .f32⟩
  | 9 => ⟨S8x2048x8x2x8, .f32⟩
  | 10 => ⟨S8x2048x8x2x1x8, .f32⟩
  | 11 => ⟨S8x2048x8x2x1x8, .f32⟩
  | 12 => ⟨S8x2048x8x2x2x8, .f32⟩
  | 13 => ⟨S8x2048x8x32, .f32⟩
  | 14 => ⟨S8x2048x8x96, .f32⟩
  | 15 => ⟨S8x2048x8x64, .f32⟩
  | 16 => ⟨S8x2048x8x32, .f32⟩
  | 17 => ⟨S8x2048x8x2x2x8, .f32⟩
  | 18 => ⟨S8x2048x8x2x1x8, .f32⟩
  | 19 => ⟨S8x2048x8x2x8, .f32⟩
  | 20 => ⟨S8x2048x8x2x1x8, .f32⟩
  | 21 => ⟨S8x2048x8x2x8, .f32⟩
  | 22 => ⟨S1x2048x1x2x8, .f32⟩
  | 23 => ⟨S8x2048x8x2x8, .f32⟩
  | 24 => ⟨S8x2048x8x2x8, .f32⟩
  | 25 => ⟨S1x2048x1x2x8, .f32⟩
  | 26 => ⟨S8x2048x8x2x8, .f32⟩
  | 27 => ⟨S8x2048x8x2x8, .f32⟩
  | 28 => ⟨S8x2048x8x2x8, .f32⟩
  | 29 => ⟨S1x2048x1x2x8, .f32⟩
  | 30 => ⟨S8x2048x8x2x8, .f32⟩
  | 31 => ⟨S8x2048x8x2x8, .f32⟩
  | 32 => ⟨S1x2048x1x2x8, .f32⟩
  | 33 => ⟨S8x2048x8x2x8, .f32⟩
  | 34 => ⟨S8x2048x8x2x8, .f32⟩
  | 35 => ⟨S8x2048x8x2x8, .f32⟩
  | 36 => ⟨S8x2048x8x2x1x8, .f32⟩
  | 37 => ⟨S8x2048x8x2x1x8, .f32⟩
  | 38 => ⟨S8x2048x8x2x2x8, .f32⟩
  | 39 => ⟨S8x2048x8x32, .f32⟩
  | 40 => ⟨S8x2048x8x96, .f32⟩
  | 41 => ⟨S8x2048x768, .bf16⟩
  | 42 => ⟨S_, .f32⟩
  | 43 => ⟨S8x4x2048x64, .f32⟩
  | 44 => ⟨S8x4x2048x64, .f32⟩
  | 45 => ⟨S8x4x2048x64, .bf16⟩
  | 46 => ⟨S8x4x2048x64, .bf16⟩
  | 47 => ⟨S8x4x64x2048, .f32⟩
  | 48 => ⟨S8x256x2048, .f32⟩
  | 49 => ⟨S8x256x2048, .bf16⟩
  | 50 => ⟨S_, .f32⟩
  | 51 => ⟨S8x2048x8x96, .f32⟩
  | 52 => ⟨S8x2048x8x96, .f32⟩
  | 53 => ⟨S8x8x2048x96, .f32⟩
  | 54 => ⟨S_, .i32⟩
  | 55 => ⟨S_, .f32⟩
  | 56 => ⟨S8x8x2048x128, .f32⟩
  | 57 => ⟨S8x8x2048x128, .bf16⟩
  | 58 => ⟨S8x8x2048x96, .f32⟩
  | 59 => ⟨S_, .i32⟩
  | 60 => ⟨S_, .f32⟩
  | 61 => ⟨S8x8x2048x128, .f32⟩
  | 62 => ⟨S8x8x2048x128, .bf16⟩
  | 63 => ⟨S8x8x2048x64, .f32⟩
  | 64 => ⟨S8x8x64x2048, .f32⟩
  | 65 => ⟨S8x512x2048, .f32⟩
  | 66 => ⟨S8x512x2048, .bf16⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v1 : Ref sig .tc := ⟨.hbm, 30, rfl⟩
abbrev main_c_0 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_cst : Ref sig .tc := ⟨.hbm, 60, rfl⟩
abbrev main_v10 : Ref sig .tc := ⟨.hbm, 61, rfl⟩
abbrev main_v11 : Ref sig .tc := ⟨.hbm, 62, rfl⟩
abbrev main_cst_1 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_2 : Ref sig .tc := ⟨.hbm, 84, rfl⟩
abbrev main_v32 : Ref sig .tc := ⟨.hbm, 85, rfl⟩
abbrev main_v33 : Ref sig .tc := ⟨.hbm, 86, rfl⟩
abbrev main_cst_3 : Ref sig .tc := ⟨.hbm, 87, rfl⟩
abbrev main_v34 : Ref sig .tc := ⟨.hbm, 88, rfl⟩
abbrev main_v35 : Ref sig .tc := ⟨.hbm, 89, rfl⟩
abbrev main_cst_4 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_cst_5 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_6 : Ref sig .tc := ⟨.hbm, 120, rfl⟩
abbrev main_v64 : Ref sig .tc := ⟨.hbm, 121, rfl⟩
abbrev main_v65 : Ref sig .tc := ⟨.hbm, 122, rfl⟩
abbrev main_cst_7 : Ref sig .tc := ⟨.hbm, 123, rfl⟩
abbrev main_v66 : Ref sig .tc := ⟨.hbm, 124, rfl⟩
abbrev main_v67 : Ref sig .tc := ⟨.hbm, 125, rfl⟩
abbrev main_cst_8 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_cst_9 : Ref sig .tc := ⟨.hbm, 140, rfl⟩
abbrev main_v81 : Ref sig .tc := ⟨.hbm, 141, rfl⟩
abbrev main_v82 : Ref sig .tc := ⟨.hbm, 142, rfl⟩
abbrev main_cst_10 : Ref sig .tc := ⟨.hbm, 143, rfl⟩
abbrev main_v83 : Ref sig .tc := ⟨.hbm, 144, rfl⟩
abbrev main_v84 : Ref sig .tc := ⟨.hbm, 145, rfl⟩
abbrev main_cst_11 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_12 : Ref sig .tc := ⟨.hbm, 163, rfl⟩
abbrev main_v101 : Ref sig .tc := ⟨.hbm, 164, rfl⟩
abbrev main_v102 : Ref sig .tc := ⟨.hbm, 165, rfl⟩
abbrev main_cst_13 : Ref sig .tc := ⟨.hbm, 166, rfl⟩
abbrev main_v103 : Ref sig .tc := ⟨.hbm, 167, rfl⟩
abbrev main_v104 : Ref sig .tc := ⟨.hbm, 168, rfl⟩
abbrev main_cst_14 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_cst_15 : Ref sig .tc := ⟨.hbm, 185, rfl⟩
abbrev main_v120 : Ref sig .tc := ⟨.hbm, 186, rfl⟩
abbrev main_v121 : Ref sig .tc := ⟨.hbm, 187, rfl⟩
abbrev main_cst_16 : Ref sig .tc := ⟨.hbm, 188, rfl⟩
abbrev main_v122 : Ref sig .tc := ⟨.hbm, 189, rfl⟩
abbrev main_v123 : Ref sig .tc := ⟨.hbm, 190, rfl⟩
abbrev main_cst_17 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_cst_18 : Ref sig .tc := ⟨.hbm, 211, rfl⟩
abbrev main_v143 : Ref sig .tc := ⟨.hbm, 212, rfl⟩
abbrev main_v144 : Ref sig .tc := ⟨.hbm, 213, rfl⟩
abbrev main_cst_19 : Ref sig .tc := ⟨.hbm, 214, rfl⟩
abbrev main_v145 : Ref sig .tc := ⟨.hbm, 215, rfl⟩
abbrev main_v146 : Ref sig .tc := ⟨.hbm, 216, rfl⟩
abbrev main_cst_20 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_cst_21 : Ref sig .tc := ⟨.hbm, 229, rfl⟩
abbrev main_v158 : Ref sig .tc := ⟨.hbm, 230, rfl⟩
abbrev main_v159 : Ref sig .tc := ⟨.hbm, 231, rfl⟩
abbrev main_cst_22 : Ref sig .tc := ⟨.hbm, 232, rfl⟩
abbrev main_v160 : Ref sig .tc := ⟨.hbm, 233, rfl⟩
abbrev main_v161 : Ref sig .tc := ⟨.hbm, 234, rfl⟩
abbrev main_cst_23 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_v222 : Ref sig .tc := ⟨.hbm, 296, rfl⟩
abbrev main_v223 : Ref sig .tc := ⟨.hbm, 297, rfl⟩
abbrev main_cst_24 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_cst_25 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_c_26 : Ref sig .tc := ⟨.hbm, 310, rfl⟩
abbrev main_call2_v0 : Ref sig .tc := ⟨.hbm, 311, rfl⟩
abbrev main_v234 : Ref sig .tc := ⟨.hbm, 312, rfl⟩
abbrev main_v235 : Ref sig .tc := ⟨.hbm, 313, rfl⟩
abbrev main_v236 : Ref sig .tc := ⟨.hbm, 314, rfl⟩
abbrev main_c_27 : Ref sig .tc := ⟨.hbm, 315, rfl⟩
abbrev main_call3_v0 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩
abbrev main_v241 : Ref sig .tc := ⟨.hbm, 321, rfl⟩
abbrev main_v242 : Ref sig .tc := ⟨.hbm, 322, rfl⟩

abbrev nD : Nat := 1
abbrev τ : Topo := Topo.v7x

variable {F : FTy → Type} [FloatOps F]
-- ==== Kernel4.lean ====
abbrev S8x256x256 : Shape := ⟨3, ![8, 256, 256]⟩
abbrev S8x256x512 : Shape := ⟨3, ![8, 256, 512]⟩
abbrev S8x256x1024 : Shape := ⟨3, ![8, 256, 1024]⟩
abbrev S6144 : Shape := ⟨1, ![6144]⟩
abbrev S4x1024x1024 : Shape := ⟨3, ![4, 1024, 1024]⟩
abbrev S4x1024 : Shape := ⟨2, ![4, 1024]⟩
abbrev S4x1024x4096 : Shape := ⟨3, ![4, 1024, 4096]⟩
abbrev S4x4096 : Shape := ⟨2, ![4, 4096]⟩
abbrev S4x4096x1024 : Shape := ⟨3, ![4, 4096, 1024]⟩
abbrev S6x1x1024 : Shape := ⟨3, ![6, 1, 1024]⟩
abbrev S8x6x1x1024 : Shape := ⟨4, ![8, 6, 1, 1024]⟩
abbrev S1x1024 : Shape := ⟨2, ![1, 1024]⟩
abbrev S1024 : Shape := ⟨1, ![1024]⟩
abbrev S1x4096 : Shape := ⟨2, ![1, 4096]⟩
abbrev S4096 : Shape := ⟨1, ![4096]⟩
abbrev S1x256x256 : Shape := ⟨3, ![1, 256, 256]⟩
abbrev S1x256x512 : Shape := ⟨3, ![1, 256, 512]⟩
abbrev S1x256x1024 : Shape := ⟨3, ![1, 256, 1024]⟩
abbrev S1x1x1x1024 : Shape := ⟨4, ![1, 1, 1, 1024]⟩
abbrev S1x512x1024 : Shape := ⟨3, ![1, 512, 1024]⟩
abbrev S1x1024x4096 : Shape := ⟨3, ![1, 1024, 4096]⟩
abbrev S1x4096x1024 : Shape := ⟨3, ![1, 4096, 1024]⟩
abbrev S256x256 : Shape := ⟨2, ![256, 256]⟩
abbrev S256x1024 : Shape := ⟨2, ![256, 1024]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩

abbrev nBuf : Space → Nat
  | .hbm => 29
  | .vmem => 26
  | .smem => 0
  | _ => 0

abbrev bufTy : (tb : Table) → Fin (tcTables nBuf tb) → BufTy
  | .hbm, ⟨0, _⟩ => ⟨S8x256x256, .f32⟩
  | .hbm, ⟨1, _⟩ => ⟨S8x256x256, .f32⟩
  | .hbm, ⟨2, _⟩ => ⟨S8x256x512, .f32⟩
  | .hbm, ⟨3, _⟩ => ⟨S8x256x1024, .f32⟩
  | .hbm, ⟨4, _⟩ => ⟨S6144, .f32⟩
  | .hbm, ⟨5, _⟩ => ⟨S4x1024x1024, .f32⟩
  | .hbm, ⟨6, _⟩ => ⟨S4x1024, .f32⟩
  | .hbm, ⟨7, _⟩ => ⟨S4x1024x4096, .f32⟩
  | .hbm, ⟨8, _⟩ => ⟨S4x4096, .f32⟩
  | .hbm, ⟨9, _⟩ => ⟨S4x4096x1024, .f32⟩
  | .hbm, ⟨10, _⟩ => ⟨S4x1024, .f32⟩
  | .hbm, ⟨11, _⟩ => ⟨S6x1x1024, .f32⟩
  | .hbm, ⟨12, _⟩ => ⟨S8x6x1x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1x4096, .f32⟩
  | .hbm, ⟨17, _⟩ => ⟨S4096, .f32⟩
  | .hbm, ⟨18, _⟩ => ⟨S1x4096, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S8x256x256, .bf16⟩
  | .hbm, ⟨23, _⟩ => ⟨S8x256x256, .bf16⟩
  | .hbm, ⟨24, _⟩ => ⟨S8x256x512, .bf16⟩
  | .hbm, ⟨25, _⟩ => ⟨S4x1024x1024, .bf16⟩
  | .hbm, ⟨26, _⟩ => ⟨S4x1024x4096, .bf16⟩
  | .hbm, ⟨27, _⟩ => ⟨S4x4096x1024, .bf16⟩
  | .hbm, ⟨28, _⟩ => ⟨S8x256x1024, .f32⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x1024, .f32⟩
  | .local _ .vmem, ⟨7, _⟩ => ⟨S1x256x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S1x1x1x1024, .f32⟩
  | .local _ .vmem, ⟨15, _⟩ => ⟨S1x1x1x1024, .f32⟩
  | .local _ .vmem, ⟨16, _⟩ => ⟨S1x1024, .f32⟩
  | .local _ .vmem, ⟨17, _⟩ => ⟨S1x256x1024, .bf16⟩
  | .local _ .vmem, ⟨18, _⟩ => ⟨S1x256x1024, .bf16⟩
  | .local _ .vmem, ⟨19, _⟩ => ⟨S1x512x1024, .bf16⟩
  | .local _ .vmem, ⟨20, _⟩ => ⟨S1x1024x4096, .bf16⟩
  | .local _ .vmem, ⟨21, _⟩ => ⟨S1x4096, .f32⟩
  | .local _ .vmem, ⟨22, _⟩ => ⟨S1x4096x1024, .bf16⟩
  | .local _ .vmem, ⟨23, _⟩ => ⟨S1x1024, .f32⟩
  | .local _ .vmem, ⟨24, _⟩ => ⟨S1x256x1024, .f32⟩
  | .local _ .vmem, ⟨25, _⟩ => ⟨S1x256x1024, .f32⟩
  | _, _ => ⟨S8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg0.toNat, c5_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let c1_i32 : BitVec 32 := 1#32
  let c0_i32 : BitVec 32 := 0#32
  let c0_i32_0 : BitVec 32 := 0#32
  ![c2_i32.toNat, c1_i32.toNat, c0_i32.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let c1_i32 : BitVec 32 := 1#32
  let c0_i32 : BitVec 32 := 0#32
  let c0_i32_0 : BitVec 32 := 0#32
  ![c2_i32.toNat, c1_i32.toNat, c0_i32.toNat]

def cc0_transform_12 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x4096x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference4Ideal.lean ====
abbrev S8x256x256 : Shape := ⟨3, ![8, 256, 256]⟩
abbrev S8x256x512 : Shape := ⟨3, ![8, 256, 512]⟩
abbrev S8x256x1024 : Shape := ⟨3, ![8, 256, 1024]⟩
abbrev S6144 : Shape := ⟨1, ![6144]⟩
abbrev S4x1024x1024 : Shape := ⟨3, ![4, 1024, 1024]⟩
abbrev S4x1024 : Shape := ⟨2, ![4, 1024]⟩
abbrev S4x1024x4096 : Shape := ⟨3, ![4, 1024, 4096]⟩
abbrev S4x4096 : Shape := ⟨2, ![4, 4096]⟩
abbrev S4x4096x1024 : Shape := ⟨3, ![4, 4096, 1024]⟩
abbrev S1x1x6144 : Shape := ⟨3, ![1, 1, 6144]⟩
abbrev S1x1x1024 : Shape := ⟨3, ![1, 1, 1024]⟩
abbrev S1x1024x1024 : Shape := ⟨3, ![1, 1024, 1024]⟩
abbrev S1024x1024 : Shape := ⟨2, ![1024, 1024]⟩
abbrev S_ : Shape := ⟨0, ![]⟩
abbrev S8x256 : Shape := ⟨2, ![8, 256]⟩
abbrev S8x256x1 : Shape := ⟨3, ![8, 256, 1]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S8x256x4096 : Shape := ⟨3, ![8, 256, 4096]⟩
abbrev S1x4096 : Shape := ⟨2, ![1, 4096]⟩
abbrev S4096 : Shape := ⟨1, ![4096]⟩
abbrev S1x1x4096 : Shape := ⟨3, ![1, 1, 4096]⟩
abbrev S1x4096x1024 : Shape := ⟨3, ![1, 4096, 1024]⟩
abbrev S4096x1024 : Shape := ⟨2, ![4096, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8x256x256, .f32⟩
  | .hbm, ⟨1, _⟩ => ⟨S8x256x256, .f32⟩
  | .hbm, ⟨2, _⟩ => ⟨S8x256x512, .f32⟩
  | .hbm, ⟨3, _⟩ => ⟨S8x256x1024, .f32⟩
  | .hbm, ⟨4, _⟩ => ⟨S6144, .f32⟩
  | .hbm, ⟨5, _⟩ => ⟨S4x1024x1024, .f32⟩
  | .hbm, ⟨6, _⟩ => ⟨S4x1024, .f32⟩
  | .hbm, ⟨7, _⟩ => ⟨S4x1024x4096, .f32⟩
  | .hbm, ⟨8, _⟩ => ⟨S4x4096, .f32⟩
  | .hbm, ⟨9, _⟩ => ⟨S4x4096x1024, .f32⟩
  | .hbm, ⟨10, _⟩ => ⟨S4x1024, .f32⟩
  | .hbm, ⟨11, _⟩ => ⟨S1x1x6144, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S1x1x1024, .f32⟩
  | .hbm, ⟨18, _⟩ => ⟨S8x256x1024, .f32⟩
  | .hbm, ⟨19, _⟩ => ⟨S1x1024x1024, .f32⟩
  | .hbm, ⟨20, _⟩ => ⟨S1024x1024, .f32⟩
  | .hbm, ⟨21, _⟩ => ⟨S8x256x1024, .f32⟩
  | .hbm, ⟨22, _⟩ => ⟨S8x256x1024, .f32⟩
  | .hbm, ⟨23, _⟩ => ⟨S8x256x1024, .f32⟩
  | .hbm, ⟨24, _⟩ => ⟨S8x256x1024, .f32⟩
  | .hbm, ⟨25, _⟩ => ⟨S8x256x1024, .f32⟩
  | .hbm, ⟨26, _⟩ => ⟨S_, .f32⟩
  | .hbm, ⟨27, _⟩ => ⟨S8x256, .f32⟩
  | .hbm, ⟨28, _⟩ => ⟨S8x256x1, .f32⟩
  | .hbm, ⟨29, _⟩ => ⟨S_, .f32⟩
  | .hbm, ⟨30, _⟩ => ⟨S8x256x1, .f32⟩
  | .hbm, ⟨31, _⟩ => ⟨S8x256x1, .f32⟩
  | .hbm, ⟨32, _⟩ => ⟨S_, .f32⟩
  | .hbm, ⟨33, _⟩ => ⟨S8x256x1, .f32⟩
  | .hbm, ⟨34, _⟩ => ⟨S8x256x1, .f32⟩
  | .hbm, ⟨35, _⟩ => ⟨S8x256x1, .f32⟩
  | .hbm, ⟨36, _⟩ => ⟨S8x256x1024, .f32⟩
  | .hbm, ⟨37, _⟩ => ⟨S8x256x1024, .f32⟩
  | .hbm, ⟨38, _⟩ => ⟨S1x1024, .f32⟩
  | .hbm, ⟨39, _⟩ => ⟨S1024, .f32⟩
  | .hbm, ⟨40, _⟩ => ⟨S1x1x1024, .f32⟩
  | .hbm, ⟨41, _⟩ => ⟨S8x256x1024, .f32⟩
  | .hbm, ⟨42, _⟩ => ⟨S8x256x1024, .f32⟩
  | .hbm, ⟨43, _⟩ => ⟨S_, .f32⟩
  | .hbm, ⟨44, _⟩ => ⟨S1x1x1024, .f32⟩
  | .hbm, ⟨45, _⟩ => ⟨S1x1x1024, .f32⟩
  | .hbm, ⟨46, _⟩ => ⟨S8x256x1024, .f32⟩
  | .hbm, ⟨47, _⟩ => ⟨S8x256x1024, .f32⟩
  | .hbm, ⟨48, _⟩ => ⟨S8x256x1024, .f32⟩
  | .hbm, ⟨49, _⟩ => ⟨S8x256x1024, .f32⟩
  | .hbm, ⟨50, _⟩ => ⟨S1x1024x4096, .f32⟩
  | .hbm, ⟨51, _⟩ => ⟨S1024x4096, .f32⟩
  | .hbm, ⟨52, _⟩ => ⟨S8x256x4096, .f32⟩
  | .hbm, ⟨53, _⟩ => ⟨S1x4096, .f32⟩
  | .hbm, ⟨54, _⟩ => ⟨S4096, .f32⟩
  | .hbm, ⟨55, _⟩ => ⟨S1x1x4096, .f32⟩
  | .hbm, ⟨56, _⟩ => ⟨S8x256x4096, .f32⟩
  | .hbm, ⟨57, _⟩ => ⟨S8x256x4096, .f32⟩
  | .hbm, ⟨58, _⟩ => ⟨S_, .f32⟩
  | .hbm, ⟨59, _⟩ => ⟨S8x256x4096, .f32⟩
  | .hbm, ⟨60, _⟩ => ⟨S8x256x4096, .f32⟩
  | .hbm, ⟨61, _⟩ => ⟨S8x256x4096, .f32⟩
  | .hbm, ⟨62, _⟩ => ⟨S1x4096x1024, .f32⟩
  | .hbm, ⟨63, _⟩ => ⟨S4096x1024, .f32⟩
  | .hbm, ⟨64, _⟩ => ⟨S8x256x1024, .f32⟩
  | .hbm, ⟨65, _⟩ => ⟨S1x1024, .f32⟩
  | .hbm, ⟨66, _⟩ => ⟨S1024, .f32⟩
  | .hbm, ⟨67, _⟩ => ⟨S1x1x1024, .f32⟩
  | .hbm, ⟨68, _⟩ => ⟨S8x256x1024, .f32⟩
  | .hbm, ⟨69, _⟩ => ⟨S8x256x1024, .f32⟩
  | .hbm, ⟨70, _⟩ => ⟨S8x256x1024, .f32⟩
  | .hbm, ⟨71, _⟩ => ⟨S8x256x1024, .f32⟩
  | .hbm, ⟨72, _⟩ => ⟨S8x256x1024, .f32⟩
  | _, _ => ⟨S8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call0_cst : Ref sig .tc := ⟨.hbm, 58, rfl⟩
abbrev main_call0_v0 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Proof.Attn.Block.lean ====
/- What one grid point of the attention call leaves in its output window: sixteen units (two query blocks by eight heads), each the same function of its own
   loads, stacked by rows, transposed and cut into two query blocks. -/
module

public import proofs.«01_k».proof.Proof.Gen.KernelIdeal.Frame
public import Idealize.ShloMosaic.Lib.Pipeline.ValueKit
public import Idealize.ShloMosaic.Lib.Pipeline.ReadBack
public import Idealize.ShloMosaic.Lib.Pipeline.RowLoads
public import Idealize.ShloMosaic.Lib.Pointwise

@[expose] public section

set_option maxRecDepth 16384

noncomputable section

open Idealize.ShloMosaic Idealize.ShloMosaic.TcCoe Idealize.SL.Sem
open scoped BigOperators

namespace Cert.Attn.K

open Cert.KernelIdeal Cert.KernelIdeal.Gen

open RowLoads

/-! ### The scores read back from the scratch -/

/-- A load of rows that lie inside the newest store reads that store's payload, whatever the older ones. -/
theorem rows_inside {m n k k' : ℕ} {Val : EltTy → Type} [∀ e, Nonempty (Val e)] {sig : RefSig} {κ : Kind} {sp : Space} {e : EltTy}
    (v : View sig κ sp (⟨2, ![m, n]⟩ : Shape) e) (o o' : ℕ) (h : o ≤ o' ∧ o' - o + k' ≤ k) (x : (⟨2, ![k, n]⟩ : Shape).Idx → Val e)
    (L : List (View.Piece Val (⟨2, ![m, n]⟩ : Shape) e))
    (inb : ∀ a, (![o, 0] : Fin 2 → Nat) a + (⟨2, ![k, n]⟩ : Shape).size a ≤ (⟨2, ![m, n]⟩ : Shape).size a)
    (inb' : ∀ a, (![o', 0] : Fin 2 → Nat) a + (⟨2, ![k', n]⟩ : Shape).size a ≤ (⟨2, ![m, n]⟩ : Shape).size a) :
    v.readCov ((⟨Rect.unit (s := (⟨2, ![m, n]⟩ : Shape)) ![o, 0] (⟨2, ![k, n]⟩ : Shape).size inb, x⟩ : View.Piece Val (⟨2, ![m, n]⟩ : Shape) e) :: L)
      (Rect.unit (s := (⟨2, ![m, n]⟩ : Shape)) ![o', 0] (⟨2, ![k', n]⟩ : Shape).size inb').toLoadRect
      = rowsFrom k' x (o' - o) h.2 := by
  rw [View.readCov_eq_canon']
  funext j
  have hj : (Rect.unit (s := (⟨2, ![m, n]⟩ : Shape)) ![o', 0] (⟨2, ![k', n]⟩ : Shape).size inb').toLoadRect.idx j
      = (Rect.unit (s := (⟨2, ![m, n]⟩ : Shape)) ![o, 0] (⟨2, ![k, n]⟩ : Shape).size inb).emb
          (ix2 (⟨o' - o + (j 0).val, by have := (j 0).isLt; have h2 := h.2; change (j 0).val < k' at this; omega⟩ : Fin k) (j 1)) := by
    funext a; apply Fin.ext
    fin_cases a
    · show o' + 1 * (j 0).val = o + 1 * (o' - o + (j 0).val)
      have h1 := h.1; omega
    · show 0 + 1 * (j 1).val = 0 + 1 * (j 1).val
      rfl
  rw [hj, View.canon_cons_emb]
  rfl

/-! ### One unit: a block of 512 queries of one head, its keys on the rows of the scores -/

/-- The scores of the latent keys. -/
def scores (q : FVec Ideal S1x1x512x128 .bf16) (k : FVec Ideal S1x1x2048x128 .bf16) : FVec Ideal S2048x512 .f32 :=
  matmul dot_S2048x128_S512x128_S2048x512_1_1_0_0_n_n none (shapeCast S2048x128 k shapeCasts_S1x1x2048x128_S2048x128)
    (shapeCast S512x128 q shapeCasts_S1x1x512x128_S512x128) (constant S2048x512 .f32 0x00000000#32)

/-- The scores of the context keys. -/
def scoresC (q : FVec Ideal S1x1x512x128 .bf16) (k : FVec Ideal S1x1x256x128 .bf16) : FVec Ideal S256x512 .f32 :=
  matmul dot_S256x128_S512x128_S256x512_1_1_0_0_n_n none (shapeCast S256x128 k shapeCasts_S1x1x256x128_S256x128)
    (shapeCast S512x128 q shapeCasts_S1x1x512x128_S512x128) (constant S256x512 .f32 0x00000000#32)

/-- Every query's greatest score. -/
def top (s : FVec Ideal S2048x512 .f32) (sc : FVec Ideal S256x512 .f32) : FVec Ideal S1x512 .f32 :=
  maximumf
    (shapeCast S1x512 (multiReduction .maximumf [0] S512 s 0xFF800000#32 reduces_S2048x512_S512 (.inl rfl) rfl) shapeCasts_S512_S1x512)
    (shapeCast S1x512 (multiReduction .maximumf [0] S512 sc 0xFF800000#32 reduces_S256x512_S512 (.inl rfl) rfl) shapeCasts_S512_S1x512)

/-- What 128 keys add: the first 64 rows their values weighted, the others the weights' sum. -/
def chunk (mx : FVec Ideal S1x512 .f32) (s : FVec Ideal S128x512 .f32) (v : FVec Ideal S1x64x128 .bf16) : FVec Ideal S80x512 .f32 :=
  matmul dot_S80x128_S128x512_S80x512_1_0_0_1_n_n none
    (concatenate S80x128 0 [⟨S64x128, shapeCast S64x128 v shapeCasts_S1x64x128_S64x128⟩,
      ⟨S16x128, broadcast S16x128 (Scalar.ofBits (F := Ideal) .bf16 0x3F80#16)⟩] concatenates_S64x128_S16x128_S80x128_d0)
    (truncf .bf16 (exp2 (subf s (broadcastTo S128x512 mx broadcasts_S1x512_S128x512))) bitsLt_bf16_f32)
    (constant S80x512 .f32 0x00000000#32)

/-- The sum of chunks 0 to `n`, in order. -/
def sumTo (f : ℕ → FVec Ideal S80x512 .f32) : ℕ → FVec Ideal S80x512 .f32
  | 0 => f 0
  | n + 1 => addf (sumTo f n) (f (n + 1))

/-- The weighted values over the weights' sum. -/
def ratio (a : FVec Ideal S80x512 .f32) : FVec Ideal S64x512 .f32 :=
  divf (extractStridedSlice S64x512 ![0, 0] a slices_S80x512_o0_0_S64x512)
    (broadcastTo S64x512 (extractStridedSlice S1x512 ![64, 0] a slices_S80x512_o64_0_S1x512) broadcasts_S1x512_S64x512)

variable (x0 : Vec Ideal S1x8x1024x128 .bf16) (x1 : Vec Ideal S1x8x2048x128 .bf16) (x2 : Vec Ideal S1x512x2048 .bf16)
  (x3 : Vec Ideal S1x8x256x128 .bf16) (x4 : Vec Ideal S1x512x256 .bf16)

/-- The unit's queries: query block `b` of head `h`. -/
def qAt (b h : ℕ) (hb : b < 2) (hh : h < 8) : Vec Ideal S1x1x512x128 .bf16 :=
  View.ld (Val := Elt Ideal) x0 (Rect.unit (s := S1x8x1024x128) ![0, h, b * 512, 0] S1x1x512x128.size (by intro a; fin_cases a <;> simp [S1x8x1024x128, S1x1x512x128] <;> omega))
/-- The head's latent keys. -/
def kAt (h : ℕ) (hh : h < 8) : Vec Ideal S1x1x2048x128 .bf16 :=
  View.ld (Val := Elt Ideal) x1 (Rect.unit (s := S1x8x2048x128) ![0, h, 0, 0] S1x1x2048x128.size (by intro a; fin_cases a <;> simp [S1x8x2048x128, S1x1x2048x128] <;> omega))
/-- The head's context keys. -/
def kcAt (h : ℕ) (hh : h < 8) : Vec Ideal S1x1x256x128 .bf16 :=
  View.ld (Val := Elt Ideal) x3 (Rect.unit (s := S1x8x256x128) ![0, h, 0, 0] S1x1x256x128.size (by intro a; fin_cases a <;> simp [S1x8x256x128, S1x1x256x128] <;> omega))
/-- A chunk of the head's latent values. -/
def vAt (h i : ℕ) (hh : h < 8) (hi : i < 16) : Vec Ideal S1x64x128 .bf16 :=
  View.ld (Val := Elt Ideal) x2 (Rect.unit (s := S1x512x2048) ![0, h * 64, i * 128] S1x64x128.size (by intro a; fin_cases a <;> simp [S1x512x2048, S1x64x128] <;> omega))
/-- A chunk of the head's context values. -/
def vcAt (h i : ℕ) (hh : h < 8) (hi : i < 2) : Vec Ideal S1x64x128 .bf16 :=
  View.ld (Val := Elt Ideal) x4 (Rect.unit (s := S1x512x256) ![0, h * 64, i * 128] S1x64x128.size (by intro a; fin_cases a <;> simp [S1x512x256, S1x64x128] <;> omega))

/-- What chunk `n` of a unit adds: the latent chunks first, then the context's. -/
def chunkAt (b h : ℕ) (hb : b < 2) (hh : h < 8) (n : ℕ) : FVec Ideal S80x512 .f32 :=
  if hn : n < 16 then
    chunk (top (scores (qAt x0 b h hb hh) (kAt x1 h hh)) (scoresC (qAt x0 b h hb hh) (kcAt x3 h hh)))
      (rowsFrom 128 (shapeCast S2048x512 (scores (qAt x0 b h hb hh) (kAt x1 h hh)) shapeCasts_S2048x512_S2048x512) (n * 128) (by omega))
      (vAt x2 h n hh hn)
  else if hn' : n - 16 < 2 then
    chunk (top (scores (qAt x0 b h hb hh) (kAt x1 h hh)) (scoresC (qAt x0 b h hb hh) (kcAt x3 h hh)))
      (rowsFrom 128 (shapeCast S256x512 (scoresC (qAt x0 b h hb hh) (kcAt x3 h hh)) shapeCasts_S256x512_S256x512) ((n - 16) * 128) (by omega))
      (vcAt x4 h (n - 16) hh hn')
  else fun _ => 0

/-- One unit's outcome, 64 values by 512 queries. -/
def unit (b h : ℕ) (hb : b < 2) (hh : h < 8) : FVec Ideal S64x512 .f32 :=
  ratio (sumTo (chunkAt x0 x1 x2 x3 x4 b h hb hh) 17)

/-- The sixteen units stacked by rows: block by block, head by head. -/
def stack (U : (b h : ℕ) → b < 2 → h < 8 → FVec Ideal S64x512 .f32) : FVec Ideal S1024x512 .f32 :=
  concatenate S1024x512 0 [⟨S64x512, U 0 0 (by decide) (by decide)⟩, ⟨S64x512, U 0 1 (by decide) (by decide)⟩, ⟨S64x512, U 0 2 (by decide) (by decide)⟩, ⟨S64x512, U 0 3 (by decide) (by decide)⟩, ⟨S64x512, U 0 4 (by decide) (by decide)⟩, ⟨S64x512, U 0 5 (by decide) (by decide)⟩, ⟨S64x512, U 0 6 (by decide) (by decide)⟩, ⟨S64x512, U 0 7 (by decide) (by decide)⟩, ⟨S64x512, U 1 0 (by decide) (by decide)⟩, ⟨S64x512, U 1 1 (by decide) (by decide)⟩, ⟨S64x512, U 1 2 (by decide) (by decide)⟩, ⟨S64x512, U 1 3 (by decide) (by decide)⟩, ⟨S64x512, U 1 4 (by decide) (by decide)⟩, ⟨S64x512, U 1 5 (by decide) (by decide)⟩, ⟨S64x512, U 1 6 (by decide) (by decide)⟩, ⟨S64x512, U 1 7 (by decide) (by decide)⟩]
    concatenates_S64x512_S64x512_S64x512_S64x512_S64x512_S64x512_S64x512_S64x512_S64x512_S64x512_S64x512_S64x512_S64x512_S64x512_S64x512_S64x512_S1024x512_d0

/-- A query block's rows of the stack, a query to a row. -/
def turned (a : FVec Ideal S512x512 .f32) : FVec Ideal S1x512x512 .bf16 :=
  shapeCast S1x512x512 (truncf .bf16 (transpose S512x512 [1, 0] a transposes_S512x512_p1_0_S512x512) bitsLt_bf16_f32) shapeCasts_S512x512_S1x512x512

set_option maxHeartbeats 0
/-- What the body leaves in the output window. -/
theorem after_eq (m : (ℓ : Loc nD τ sig) → Buf (Elt Ideal) ℓ) (c : Dev nD) (t : Fin cfg0.N) :
    (dats m 0 c).after 5 t = View.canon
      [⟨Rect.unit (s := S1x1024x512) ![0, 512, 0] S1x512x512.size inb_S1x1024x512_S1x512x512_0_512_0,
        turned (extractStridedSlice S512x512 ![512, 0] (stack (unit (iblk m c 0 t) (iblk m c 1 t) (iblk m c 2 t) (iblk m c 3 t) (iblk m c 4 t))) slices_S1024x512_o512_0_S512x512)⟩,
       ⟨Rect.unit (s := S1x1024x512) ![0, 0, 0] S1x512x512.size inb_S1x1024x512_S1x512x512_0_0_0,
        turned (extractStridedSlice S512x512 ![0, 0] (stack (unit (iblk m c 0 t) (iblk m c 1 t) (iblk m c 2 t) (iblk m c 3 t) (iblk m c 4 t))) slices_S1024x512_o0_0_S512x512)⟩] := by
  rw [after0_5]; unfold Gen.outsAt0
  frame_open
  simp (disch := decide) only [↓ rows_inside, ↓ View.readCov_skip]
  frame_out
  generalize iblk m c 0 t = x0
  generalize iblk m c 1 t = x1
  generalize iblk m c 2 t = x2
  generalize iblk m c 3 t = x3
  generalize iblk m c 4 t = x4
  rfl
end Cert.Attn.K
end
-- ==== Proof.Attn.Unit.lean ====
/- One unit of the attention call, read at an index: a sum of weighted values over the sum of the weights. -/
module

public import proofs.«01_k».proof.Proof.Attn.Block
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.Attn.K

open Cert.KernelIdeal Cert.KernelIdeal.Gen RowLoads

theorem neg_infinity : Ideal.ofBits FTy.f32 0xFF800000#32 = ⊥ := by simp [Ideal.ofBits, Ideal.ieee]

theorem scores_at (q) (k) (j : Fin 2048) (i : Fin 512) : scores q k (ix2 j i) = ∑ e : Fin 128, k (ix4 0 0 j e) * q (ix4 0 0 i e) := by
  pointwise [scores]

theorem scoresC_at (q) (k) (j : Fin 256) (i : Fin 512) : scoresC q k (ix2 j i) = ∑ e : Fin 128, k (ix4 0 0 j e) * q (ix4 0 0 i e) := by
  pointwise [scoresC]

theorem top_at (s) (sc) (i : Fin 512) : top s sc (ix2 0 i) = max (Finset.fold max (⊥ : EReal) (fun j : Fin 2048 => s (ix2 j i)) Finset.univ)
    (Finset.fold max (⊥ : EReal) (fun j : Fin 256 => sc (ix2 j i)) Finset.univ) := by
  rw [← neg_infinity]
  pointwise [top]

theorem chunk_value (mx) (s) (v) (r : Fin 80) (d : Fin 64) (hr : r.val = d.val) (i : Fin 512) :
    chunk mx s v (ix2 r i) = ∑ k : Fin 128, v (ix3 0 d k) * Ideal.exp2 (s (ix2 k i) - mx (ix2 0 i)) := by
  pointwise [chunk]
  refine Finset.sum_congr rfl fun k _ => ?_
  rw [dif_pos (by omega)]
  refine congrArg (fun z : EReal => z * _) (congrArg v ?_)
  blk_ext

theorem chunk_weight (mx) (s) (v) (r : Fin 80) (hr : 64 ≤ r.val) (i : Fin 512) :
    chunk mx s v (ix2 r i) = ∑ k : Fin 128, Ideal.exp2 (s (ix2 k i) - mx (ix2 0 i)) := by
  pointwise [chunk]
  refine Finset.sum_congr rfl fun k _ => ?_
  rw [dif_neg (by omega), one_mul]
  rfl

theorem ratio_at (a) (d : Fin 64) (i : Fin 512) : ratio a (ix2 d i) = Ideal.div (a (ix2 ⟨d.val, by omega⟩ i)) (a (ix2 64 i)) := by
  pointwise [ratio]

theorem sumTo_at (f) (n : ℕ) (y) : sumTo f n y = ∑ i ∈ Finset.range (n + 1), f i y := by
  induction n with
  | zero => simp [sumTo]
  | succ n ih => rw [Finset.sum_range_succ, ← ih]; pointwise [sumTo]

end Cert.Attn.K
end
-- ==== Proof.Attn.Softmax.lean ====
/- The mathematics of the attention claim, apart from any program: weights of base two over scores that carry the factor 1/log 2 are the softmax's
   weights, and dividing the weighted sum at the end is weighting by the normalised weights. -/
module

public import Idealize.ShloMosaic.PureOps.Ideal
public import Mathlib.Tactic.FieldSimp
public import Mathlib.Tactic.Positivity
public import Mathlib.Tactic.NormNum

@[expose] public section

noncomputable section

open Idealize.ShloMosaic
open scoped BigOperators

namespace Cert.Attn

/-- A finite number times a sum of any numbers is the sum of the products. -/
theorem sum_mul_real {ι : Type*} (s : Finset ι) (f : ι → EReal) (a : ℝ) (ha : 0 ≤ a) : (∑ i ∈ s, f i) * (a : EReal) = ∑ i ∈ s, f i * (a : EReal) := by
  classical
  induction s using Finset.induction_on with
  | empty => simp
  | insert i s hi ih =>
    rw [Finset.sum_insert hi, Finset.sum_insert hi, ← ih]
    exact EReal.right_distrib_of_nonneg_of_ne_top (by exact_mod_cast ha) (EReal.coe_ne_top a) _ _

theorem coe_sum' {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The greatest of finitely many reals, scaled by a positive factor. -/
theorem fold_max_scaled {ι : Type*} [Fintype ι] [Nonempty ι] (s : ι → ℝ) :
    ∃ t : ℝ, (∃ j, s j = t) ∧ (∀ j, s j ≤ t) ∧ ∀ a : ℝ, 0 < a → Finset.fold max (⊥ : EReal) (fun j => ((a * s j : ℝ) : EReal)) Finset.univ = ((a * t : ℝ) : EReal) := by
  obtain ⟨j, -, hj⟩ := Finset.exists_max_image Finset.univ s Finset.univ_nonempty
  refine ⟨s j, ⟨j, rfl⟩, fun i => hj i (Finset.mem_univ _), fun a ha => le_antisymm ?_ ?_⟩
  · rw [Finset.fold_max_le]
    exact ⟨bot_le, fun i hi => EReal.coe_le_coe_iff.2 (mul_le_mul_of_nonneg_left (hj i hi) ha.le)⟩
  · rw [Finset.le_fold_max]
    exact Or.inr ⟨j, Finset.mem_univ _, le_refl _⟩

/-- The weight of base two at a score that carries the factor is the exponential's. -/
theorem exp2_scaled (a x y : ℝ) : Ideal.exp2 (((a / Real.log 2 * x : ℝ) : EReal) - ((a / Real.log 2 * y : ℝ) : EReal)) = ((Real.exp (a * x - a * y) : ℝ) : EReal) := by
  rw [← EReal.coe_sub, Ideal.exp2_coe]
  congr 1
  have h2 : Real.log 2 ≠ 0 := (Real.log_pos (by norm_num)).ne'
  change (2 : ℝ) ^ (_ : ℝ) = _
  rw [Real.rpow_def_of_pos (by norm_num)]
  congr 1
  field_simp

/-- The kernel's ratio is the softmax's weighted sum. -/
theorem ratio_eq {ι : Type*} [Fintype ι] [Nonempty ι] (s : ι → ℝ) (v : ι → EReal) (M N : EReal) (r : ℝ) (t : ℝ)
    (hM : M = ((r / Real.log 2 * t : ℝ) : EReal)) (hN : N = ((r * t : ℝ) : EReal)) :
    Ideal.div (∑ j, v j * Ideal.exp2 (((r / Real.log 2 * s j : ℝ) : EReal) - M)) (∑ j, Ideal.exp2 (((r / Real.log 2 * s j : ℝ) : EReal) - M))
      = ∑ j, Ideal.div (Ideal.exp (((r * s j : ℝ) : EReal) - N)) (∑ i, Ideal.exp (((r * s i : ℝ) : EReal) - N)) * v j := by
  subst hM hN
  have he : ∀ j, Ideal.exp (((r * s j : ℝ) : EReal) - ((r * t : ℝ) : EReal)) = ((Real.exp (r * s j - r * t) : ℝ) : EReal) := fun j => by
    rw [← EReal.coe_sub, Ideal.exp_coe]
  have hpos : (0 : ℝ) < ∑ j, Real.exp (r * s j - r * t) := Finset.sum_pos (fun j _ => Real.exp_pos _) Finset.univ_nonempty
  simp only [exp2_scaled, he, ← coe_sum']
  rw [Ideal.div_coe hpos.ne', sum_mul_real _ _ _ (by positivity)]
  refine Finset.sum_congr rfl fun j _ => ?_
  rw [Ideal.div_coe hpos.ne', mul_assoc, mul_comm]

end Cert.Attn
end
-- ==== Proof.Attn.Reference.lean ====
/- The reference of the attention call (`Reference`), cut into its stages and read at an index, its keys numbered as latent keys and context keys. -/
module

public import proofs.«01_k».proof.Proof.Gen.ReferenceIdeal.Run
public import proofs.«01_k».proof.Proof.Attn.Softmax
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.Attn

open Cert.ReferenceIdeal Cert.ReferenceIdeal.Gen

/-- The scaled scores of every key. -/
def logits (q k : FVec Ideal S8x8x2048x96 .f32) (kc : FVec Ideal S8x8x256x96 .f32) : FVec Ideal S8x8x2048x2304 .f32 :=
  mulf (Host.dotGeneral dot_S8x8x2048x96_S8x8x2304x96_S8x8x2048x2304_3_3_2_2_01_01 none q (concatenate S8x8x2304x96 2 [⟨S8x8x2048x96, k⟩, ⟨S8x8x256x96, kc⟩] concatenates_S8x8x2048x96_S8x8x256x96_S8x8x2304x96_d2)) (broadcastInDim S8x8x2048x2304 ![] bcast_S_S8x8x2048x2304 (Host.rsqrt (constant S_ .f32 0x42C00000#32)))

/-- Every query's greatest score. -/
def greatest (l : FVec Ideal S8x8x2048x2304 .f32) : FVec Ideal S8x8x2048 .f32 :=
  maximumf (broadcastInDim S8x8x2048 ![] bcast_S_S8x8x2048 (constant S_ .f32 0xFF800000#32)) (Host.reduce FloatOps.maximumf l (constant S_ .f32 0xFF800000#32) reducesTo_S8x8x2048x2304_S8x8x2048_d3 h_S_)

/-- The exponentials. -/
def powers (l : FVec Ideal S8x8x2048x2304 .f32) (g : FVec Ideal S8x8x2048 .f32) : FVec Ideal S8x8x2048x2304 .f32 :=
  Host.exp (subf l (broadcastInDim S8x8x2048x2304 ![0, 1, 2, 3] bcast_S8x8x2048x1_S8x8x2048x2304_0_1_2_3 (broadcastInDim S8x8x2048x1 ![0, 1, 2] bcast_S8x8x2048_S8x8x2048x1_0_1_2 g)))

/-- The normalised weights. -/
def weights (e : FVec Ideal S8x8x2048x2304 .f32) : FVec Ideal S8x8x2048x2304 .f32 :=
  Host.divf e (broadcastInDim S8x8x2048x2304 ![0, 1, 2, 3] bcast_S8x8x2048x1_S8x8x2048x2304_0_1_2_3 (broadcastInDim S8x8x2048x1 ![0, 1, 2] bcast_S8x8x2048_S8x8x2048x1_0_1_2 (Host.reduceAdd e (constant S_ .f32 0x00000000#32) reducesTo_S8x8x2048x2304_S8x8x2048_d3 h_S_)))

/-- The weighted values, heads side by side. -/
def mixed (w : FVec Ideal S8x8x2048x2304 .f32) (v : FVec Ideal S8x8x2048x64 .f32) (vc : FVec Ideal S8x8x256x64 .f32) : FVec Ideal S8x2048x512 .bf16 :=
  truncf .bf16 (shapeCast _ (transpose S8x2048x8x64 [0, 2, 1, 3] (Host.dotGeneral dot_S8x8x2048x2304_S8x8x2304x64_S8x8x2048x64_3_2_2_3_01_01 none w (concatenate S8x8x2304x64 2 [⟨S8x8x2048x64, v⟩, ⟨S8x8x256x64, vc⟩] concatenates_S8x8x2048x64_S8x8x256x64_S8x8x2304x64_d2)) transposes_S8x8x2048x64_S8x2048x8x64_0_2_1_3) shapeCasts_S8x2048x8x64_S8x2048x512) bitsLt_bf16_f32

/-- The whole reference of the arguments. -/
def ref (q k : FVec Ideal S8x8x2048x96 .f32) (v : FVec Ideal S8x8x2048x64 .f32) (kc : FVec Ideal S8x8x256x96 .f32) (vc : FVec Ideal S8x8x256x64 .f32) :
    FVec Ideal S8x2048x512 .bf16 :=
  mixed (weights (powers (logits q k kc) (greatest (logits q k kc)))) v vc

/-- The keys: the latent ones, then the context's. -/
abbrev Key : Type := Fin 2048 ⊕ Fin 256
def place : Key ≃ Fin 2304 := finSumFinEquiv (m := 2048) (n := 256)

theorem place_inl (j : Fin 2048) : (place (Sum.inl j)).val = j.val := rfl
theorem place_inr (j : Fin 256) : (place (Sum.inr j)).val = 2048 + j.val := rfl

theorem sum_keys (f : Fin 2304 → EReal) : ∑ j, f j = ∑ x : Key, f (place x) := (Equiv.sum_comp place f).symm

theorem fold_keys (f : Fin 2304 → EReal) : Finset.fold max (⊥ : EReal) f Finset.univ = Finset.fold max (⊥ : EReal) (fun x : Key => f (place x)) Finset.univ := by
  rw [← Finset.univ_map_equiv_to_embedding place, Finset.fold_map]
  rfl

/-- A key's entry. -/
def keyAt (k : FVec Ideal S8x8x2048x96 .f32) (kc : FVec Ideal S8x8x256x96 .f32) (b h : Fin 8) (e : Fin 96) : Key → EReal
  | .inl j => k (ix4 b h j e)
  | .inr j => kc (ix4 b h j e)

/-- A value's entry. -/
def valueAt (v : FVec Ideal S8x8x2048x64 .f32) (vc : FVec Ideal S8x8x256x64 .f32) (b h : Fin 8) (d : Fin 64) : Key → EReal
  | .inl j => v (ix4 b h j d)
  | .inr j => vc (ix4 b h j d)

/-- A key's scaled score. -/
def logitAt (q k : FVec Ideal S8x8x2048x96 .f32) (kc : FVec Ideal S8x8x256x96 .f32) (b h : Fin 8) (i : Fin 2048) (x : Key) : EReal :=
  (∑ e : Fin 96, q (ix4 b h i e) * keyAt k kc b h e x) * Ideal.rsqrt (Ideal.ofBits FTy.f32 0x42C00000#32)

theorem logits_at (q k : FVec Ideal S8x8x2048x96 .f32) (kc : FVec Ideal S8x8x256x96 .f32) (b h : Fin 8) (i : Fin 2048) (x : Key) :
    logits q k kc (ix4 b h i (place x)) = logitAt q k kc b h i x := by
  unfold logitAt
  pointwise [logits]
  refine congrArg (fun z : EReal => z * _) (Finset.sum_congr rfl fun e _ => congrArg (fun z : EReal => _ * z) ?_)
  cases x with
  | inl j => exact dif_pos j.isLt
  | inr j =>
    refine (dif_neg (Nat.not_lt.2 (Nat.le_add_right 2048 j.val))).trans (congrArg (fun z => kc (ix4 b h z e)) (Fin.ext ?_))
    exact Nat.add_sub_cancel_left 2048 j.val

theorem neg_infinity : Ideal.ofBits FTy.f32 0xFF800000#32 = ⊥ := by simp [Ideal.ofBits, Ideal.ieee]

theorem reduced_at (l : FVec Ideal S8x8x2048x2304 .f32) (z : FVec Ideal S_ .f32) (j : S8x8x2048.Idx) :
    Host.reduce FloatOps.maximumf l z reducesTo_S8x8x2048x2304_S8x8x2048_d3 h_S_ j
      = Finset.univ.fold max (z (Shape.Idx.first h_S_)) fun x : Fin 2304 => l (ix4 (j 0) (j 1) (j 2) x) := by
  simp only [pointwise]

theorem max_at {S : Shape} (a x : FVec Ideal S .f32) (j : S.Idx) : maximumf a x j = max (a j : EReal) (x j) := rfl
theorem fill_at (w : BitVec 32) (j : S8x8x2048.Idx) :
    broadcastInDim S8x8x2048 ![] bcast_S_S8x8x2048 (constant (F := Ideal) S_ .f32 w) j = Ideal.ofBits FTy.f32 w := rfl
theorem word_at (w : BitVec 32) (j : S_.Idx) : constant (F := Ideal) S_ .f32 w j = Ideal.ofBits FTy.f32 w := rfl

theorem greatest_at (l : FVec Ideal S8x8x2048x2304 .f32) (b h : Fin 8) (i : Fin 2048) :
    greatest l (ix3 b h i) = Finset.fold max (⊥ : EReal) (fun x : Key => l (ix4 b h i (place x))) Finset.univ := by
  rw [← fold_keys (fun j => l (ix4 b h i j))]
  unfold greatest
  rw [max_at, reduced_at, fill_at, word_at, neg_infinity]
  exact max_eq_right bot_le

theorem powers_at (l : FVec Ideal S8x8x2048x2304 .f32) (g) (b h : Fin 8) (i : Fin 2048) (j : Fin 2304) :
    powers l g (ix4 b h i j) = Ideal.exp (l (ix4 b h i j) - g (ix3 b h i)) := by
  pointwise [powers]

theorem weights_at (l : FVec Ideal S8x8x2048x2304 .f32) (b h : Fin 8) (i : Fin 2048) (j : Fin 2304) :
    weights l (ix4 b h i j) = Ideal.div (l (ix4 b h i j)) (∑ x : Key, l (ix4 b h i (place x))) := by
  rw [← sum_keys (fun j => l (ix4 b h i j))]
  pointwise [weights]

theorem mixed_at (w : FVec Ideal S8x8x2048x2304 .f32) (v) (vc) (b : Fin 8) (i : Fin 2048) (y : Fin 512) :
    mixed w v vc (ix3 b i y) = ∑ x : Key, w (ix4 b ⟨y.val / 64, by omega⟩ i (place x)) * valueAt v vc b ⟨y.val / 64, by omega⟩ ⟨y.val % 64, by omega⟩ x := by
  pointwise [mixed]
  rw [Fintype.sum_sum_type]
  rfl

end Cert.Attn
end
-- ==== Proof.Attn.Windows.lean ====
/- The arrays the attention call finds, and the blocks its windows bring, as entries of the arguments. -/
module

public import proofs.«01_k».proof.Proof.Attn.Reference
public import proofs.«01_k».proof.Proof.Gen.KernelIdeal.Frame
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open scoped BigOperators

namespace Cert.Attn.K

open Cert.KernelIdeal Cert.KernelIdeal.Gen

theorem idx_val : ∀ t : Fin cfg0.N, win0_0.index t = ![t.val / 2, 0, t.val % 2, 0]
    ∧ win0_1.index t = ![t.val / 2, 0, 0, 0]
    ∧ win0_2.index t = ![t.val / 2, 0, 0]
    ∧ win0_3.index t = ![t.val / 2, 0, 0, 0]
    ∧ win0_4.index t = ![t.val / 2, 0, 0]
    ∧ win0_5.index t = ![t.val / 2, t.val % 2, 0] :=
  (by decide +kernel : ∀ t : Fin grid0.N, _)

/-- The batch row of a grid point. -/
def row (t : Fin cfg0.N) : Fin 8 := ⟨t.val / 2, by have h : t.val < 16 := t.isLt; omega⟩
/-- The token at a row of a grid point's block. -/
def tok (t : Fin cfg0.N) (r : Fin 1024) : Fin 2048 := ⟨t.val % 2 * 1024 + r.val, by omega⟩

/-- The factor the queries carry. -/
def factor : EReal := Ideal.div (Ideal.rsqrt (Ideal.ofBits FTy.f32 0x42C00000#32)) (Ideal.log (Ideal.ofBits FTy.f32 0x40000000#32))

variable (m : (ℓ : Loc nD τ sig) → Buf (Elt Ideal) ℓ) (c : Dev nD) (t : Fin cfg0.N)

/-- Heads of 96 entries in slots of 128: the entries, then zeros. -/
def slots (a : FVec Ideal S8x8x2048x96 .f32) : FVec Ideal S8x8x2048x128 .bf16 :=
  truncf .bf16 (concatenate S8x8x2048x128 3 [⟨S8x8x2048x64, extractStridedSlice S8x8x2048x64 ![0, 0, 0, 0] a slices_S8x8x2048x96_S8x8x2048x64_0_0_0_0⟩,
    ⟨S8x8x2048x32, extractStridedSlice S8x8x2048x32 ![0, 0, 0, 64] a slices_S8x8x2048x96_S8x8x2048x32_0_0_0_64⟩,
    ⟨S8x8x2048x32, broadcastInDim S8x8x2048x32 ![] bcast_S_S8x8x2048x32 (constant S_ .f32 0x00000000#32)⟩] concatenates_S8x8x2048x64_S8x8x2048x32_S8x8x2048x32_S8x8x2048x128_d3) bitsLt_bf16_f32

/-- The context's keys likewise. -/
def slotsC (a : FVec Ideal S8x8x256x96 .f32) : FVec Ideal S8x8x256x128 .bf16 :=
  truncf .bf16 (concatenate S8x8x256x128 3 [⟨S8x8x256x64, extractStridedSlice S8x8x256x64 ![0, 0, 0, 0] a slices_S8x8x256x96_S8x8x256x64_0_0_0_0⟩,
    ⟨S8x8x256x32, extractStridedSlice S8x8x256x32 ![0, 0, 0, 64] a slices_S8x8x256x96_S8x8x256x32_0_0_0_64⟩,
    ⟨S8x8x256x32, broadcastInDim S8x8x256x32 ![] bcast_S_S8x8x256x32 (constant S_ .f32 0x00000000#32)⟩] concatenates_S8x8x256x64_S8x8x256x32_S8x8x256x32_S8x8x256x128_d3) bitsLt_bf16_f32

/-- The queries with the factor. -/
def scaled (a : FVec Ideal S8x8x2048x96 .f32) : FVec Ideal S8x8x2048x96 .f32 :=
  mulf a (broadcastInDim S8x8x2048x96 ![] bcast_S_S8x8x2048x96 (Host.divf (Host.rsqrt (constant S_ .f32 0x42C00000#32)) (Host.log (constant S_ .f32 0x40000000#32))))

theorem scaled_at (a) (b h : Fin 8) (i : Fin 2048) (e : Fin 96) : scaled a (ix4 b h i e) = a (ix4 b h i e) * factor := by
  pointwise [scaled, factor]

theorem slots_at (a) (b h : Fin 8) (i : Fin 2048) (e : Fin 128) :
    slots a (ix4 b h i e) = if he : e.val < 96 then a (ix4 b h i ⟨e.val, he⟩) else 0 := by
  pointwise [slots]
  by_cases h1 : e.val < 64
  · rw [dif_pos h1, dif_pos (by omega)]
  · rw [dif_neg h1]
    by_cases h2 : e.val < 96
    · rw [dif_pos h2, dif_pos (by omega)]
      exact congrArg (fun z => a (ix4 b h i z)) (Fin.ext (by simp only []; omega))
    · rw [dif_neg h2, dif_neg (by omega)]

theorem slotsC_at (a) (b h : Fin 8) (i : Fin 256) (e : Fin 128) :
    slotsC a (ix4 b h i e) = if he : e.val < 96 then a (ix4 b h i ⟨e.val, he⟩) else 0 := by
  pointwise [slotsC]
  by_cases h1 : e.val < 64
  · rw [dif_pos h1, dif_pos (by omega)]
  · rw [dif_neg h1]
    by_cases h2 : e.val < 96
    · rw [dif_pos h2, dif_pos (by omega)]
      exact congrArg (fun z => a (ix4 b h i z)) (Fin.ext (by simp only []; omega))
    · rw [dif_neg h2, dif_neg (by omega)]

theorem queries_eq : V m c main_v9 = slots (scaled (m (c, main_arg0))) := by
  unfold_abbrev_sides
  after_reads_simp
  rfl

theorem keys_eq : V m c main_v14 = slots (m (c, main_arg1)) := by
  unfold_abbrev_sides
  after_reads_simp
  rfl

theorem contextKeys_eq : V m c main_v22 = slotsC (m (c, main_arg3)) := by
  unfold_abbrev_sides
  after_reads_simp
  rfl

theorem values_at (b : Fin 8) (y : Fin 512) (j : Fin 2048) : (V m c main_v17 : FVec Ideal S8x512x2048 .bf16) (ix3 b y j)
    = (m (c, main_arg2) : FVec Ideal S8x8x2048x64 .f32) (ix4 b ⟨y.val / 64, by omega⟩ j ⟨y.val % 64, by omega⟩) := by
  entry_read
  pointwise

theorem contextValues_at (b : Fin 8) (y : Fin 512) (j : Fin 256) : (V m c main_v25 : FVec Ideal S8x512x256 .bf16) (ix3 b y j)
    = (m (c, main_arg4) : FVec Ideal S8x8x256x64 .f32) (ix4 b ⟨y.val / 64, by omega⟩ j ⟨y.val % 64, by omega⟩) := by
  entry_read
  pointwise

theorem blk0 (h : Fin 8) (i : Fin 1024) (e : Fin 128) : iblk m c 0 t (ix4 0 h i e) = (V m c main_v9 : FVec Ideal S8x8x2048x128 .bf16) (ix4 (row t) h (tok t i) e) := by
  unfold row tok
  blk_point [iblk, idx_val t]

theorem blk1 (h : Fin 8) (j : Fin 2048) (e : Fin 128) : iblk m c 1 t (ix4 0 h j e) = (V m c main_v14 : FVec Ideal S8x8x2048x128 .bf16) (ix4 (row t) h j e) := by
  unfold row
  blk_point [iblk, idx_val t]

theorem blk2 (y : Fin 512) (j : Fin 2048) : iblk m c 2 t (ix3 0 y j) = (V m c main_v17 : FVec Ideal S8x512x2048 .bf16) (ix3 (row t) y j) := by
  unfold row
  blk_point [iblk, idx_val t]

theorem blk3 (h : Fin 8) (j : Fin 256) (e : Fin 128) : iblk m c 3 t (ix4 0 h j e) = (V m c main_v22 : FVec Ideal S8x8x256x128 .bf16) (ix4 (row t) h j e) := by
  unfold row
  blk_point [iblk, idx_val t]

theorem blk4 (y : Fin 512) (j : Fin 256) : iblk m c 4 t (ix3 0 y j) = (V m c main_v25 : FVec Ideal S8x512x256 .bf16) (ix3 (row t) y j) := by
  unfold row
  blk_point [iblk, idx_val t]

end Cert.Attn.K
end
-- ==== Proof.Attn.Value.lean ====
/- One unit of the attention call over the arguments: the reference's weighted sum, for finite queries and keys. -/
module

public import proofs.«01_k».proof.Proof.Attn.Unit
public import proofs.«01_k».proof.Proof.Attn.Windows

@[expose] public section

set_option maxRecDepth 16384

noncomputable section

open Idealize.ShloMosaic Idealize.ShloMosaic.TcCoe Idealize.SL.Sem
open scoped BigOperators

namespace Cert.Attn.K

open Cert.KernelIdeal Cert.KernelIdeal.Gen RowLoads

theorem sum_slots (f g : Fin 96 → EReal) :
    (∑ e : Fin 128, (if he : e.val < 96 then f ⟨e.val, he⟩ else 0) * (if he : e.val < 96 then g ⟨e.val, he⟩ else 0)) = ∑ e, f e * g e := by
  refine (Fin.sum_univ_add (a := 96) (b := 32) _).trans ?_
  rw [Finset.sum_eq_zero (s := (Finset.univ : Finset (Fin 32))) fun e _ => ?_, add_zero]
  · refine Finset.sum_congr rfl fun e _ => ?_
    rw [dif_pos (show (Fin.castAdd 32 e).val < 96 from e.isLt), dif_pos (show (Fin.castAdd 32 e).val < 96 from e.isLt)]
    rfl
  · rw [dif_neg (show ¬ (Fin.natAdd 96 e).val < 96 from Nat.not_lt.2 (Nat.le_add_right 96 e.val)), zero_mul]

/-- Eighteen chunks of 128 keys are all the keys. -/
theorem sum_chunks (F : ℕ → EReal) (g : Key → EReal) (h : ∀ n (hn : n < 16), F n = ∑ k : Fin 128, g (.inl ⟨n * 128 + k.val, by omega⟩))
    (h' : ∀ n (hn : n < 2), F (16 + n) = ∑ k : Fin 128, g (.inr ⟨n * 128 + k.val, by omega⟩)) :
    ∑ n ∈ Finset.range 18, F n = ∑ x, g x := by
  rw [show 18 = 16 + 2 from rfl, Finset.sum_range_add, Finset.sum_range, Finset.sum_range, Fintype.sum_sum_type]
  refine congrArg₂ (· + ·) ?_ ?_
  · rw [← Fin.sum_mul_add_fin (L := 2048) 16 128 (fun j => g (.inl j))]
    exact Finset.sum_congr rfl fun n _ => h n.val n.isLt
  · rw [← Fin.sum_mul_add_fin (L := 256) 2 128 (fun j => g (.inr j))]
    exact Finset.sum_congr rfl fun n _ => h' n.val n.isLt

theorem rows_at (s : FVec Ideal S2048x512 .f32) (o : ℕ) (ho : o + 128 ≤ 2048) (k : Fin 128) (i : Fin 512) :
    rowsFrom 128 (shapeCast S2048x512 s shapeCasts_S2048x512_S2048x512) o ho (ix2 k i) = s (ix2 ⟨o + k.val, by omega⟩ i) := by
  unfold rowsFrom
  pointwise
  rfl

theorem rowsC_at (s : FVec Ideal S256x512 .f32) (o : ℕ) (ho : o + 128 ≤ 256) (k : Fin 128) (i : Fin 512) :
    rowsFrom 128 (shapeCast S256x512 s shapeCasts_S256x512_S256x512) o ho (ix2 k i) = s (ix2 ⟨o + k.val, by omega⟩ i) := by
  unfold rowsFrom
  pointwise
  rfl

/-- A key's value in a unit. -/
def val (x2 : Vec Ideal S1x512x2048 .bf16) (x4 : Vec Ideal S1x512x256 .bf16) (h : ℕ) (hh : h < 8) (d : Fin 64) : Key → EReal
  | .inl j => x2 (ix3 0 ⟨h * 64 + d.val, by omega⟩ j)
  | .inr j => x4 (ix3 0 ⟨h * 64 + d.val, by omega⟩ j)

section
variable (x0 : Vec Ideal S1x8x1024x128 .bf16) (x1 : Vec Ideal S1x8x2048x128 .bf16) (x2 : Vec Ideal S1x512x2048 .bf16)
  (x3 : Vec Ideal S1x8x256x128 .bf16) (x4 : Vec Ideal S1x512x256 .bf16) (b h : ℕ) (hb : b < 2) (hh : h < 8)

theorem qAt_at (i : Fin 512) (e : Fin 128) : qAt x0 b h hb hh (ix4 0 0 i e) = x0 (ix4 0 ⟨h, hh⟩ ⟨b * 512 + i.val, by omega⟩ e) := by
  unfold qAt
  rw [View.ld_apply]
  blk_ext
  all_goals simp [Rect.idx_unit_val]
theorem kAt_at (j : Fin 2048) (e : Fin 128) : kAt x1 h hh (ix4 0 0 j e) = x1 (ix4 0 ⟨h, hh⟩ j e) := by
  unfold kAt
  rw [View.ld_apply]
  blk_ext
  all_goals simp [Rect.idx_unit_val]
theorem kcAt_at (j : Fin 256) (e : Fin 128) : kcAt x3 h hh (ix4 0 0 j e) = x3 (ix4 0 ⟨h, hh⟩ j e) := by
  unfold kcAt
  rw [View.ld_apply]
  blk_ext
  all_goals simp [Rect.idx_unit_val]
theorem vAt_at (n : ℕ) (hn : n < 16) (d : Fin 64) (k : Fin 128) : vAt x2 h n hh hn (ix3 0 d k) = x2 (ix3 0 ⟨h * 64 + d.val, by omega⟩ ⟨n * 128 + k.val, by omega⟩) := by
  unfold vAt
  rw [View.ld_apply]
  blk_ext
  all_goals simp [Rect.idx_unit_val]
theorem vcAt_at (n : ℕ) (hn : n < 2) (d : Fin 64) (k : Fin 128) : vcAt x4 h n hh hn (ix3 0 d k) = x4 (ix3 0 ⟨h * 64 + d.val, by omega⟩ ⟨n * 128 + k.val, by omega⟩) := by
  unfold vcAt
  rw [View.ld_apply]
  blk_ext
  all_goals simp [Rect.idx_unit_val]

/-- A key's score in a unit. -/
def score (i : Fin 512) : Key → EReal
  | .inl j => scores (qAt x0 b h hb hh) (kAt x1 h hh) (ix2 j i)
  | .inr j => scoresC (qAt x0 b h hb hh) (kcAt x3 h hh) (ix2 j i)
/-- A query's greatest score in a unit. -/
def best (i : Fin 512) : EReal := Finset.fold max (⊥ : EReal) (score x0 x1 x3 b h hb hh i) Finset.univ

theorem fold_sum (s : Key → EReal) : max (Finset.fold max (⊥ : EReal) (fun j => s (.inl j)) Finset.univ) (Finset.fold max (⊥ : EReal) (fun j => s (.inr j)) Finset.univ)
    = Finset.fold max (⊥ : EReal) s Finset.univ := by
  refine le_antisymm (max_le ?_ ?_) ?_
  · rw [Finset.fold_max_le]
    exact ⟨bot_le, fun j _ => (Finset.le_fold_max _).2 (Or.inr ⟨_, Finset.mem_univ _, le_refl _⟩)⟩
  · rw [Finset.fold_max_le]
    exact ⟨bot_le, fun j _ => (Finset.le_fold_max _).2 (Or.inr ⟨_, Finset.mem_univ _, le_refl _⟩)⟩
  · rw [Finset.fold_max_le]
    refine ⟨bot_le, fun x _ => ?_⟩
    cases x with
    | inl j => exact le_max_of_le_left ((Finset.le_fold_max _).2 (Or.inr ⟨j, Finset.mem_univ _, le_refl _⟩))
    | inr j => exact le_max_of_le_right ((Finset.le_fold_max _).2 (Or.inr ⟨j, Finset.mem_univ _, le_refl _⟩))

theorem top_eq (i : Fin 512) : top (scores (qAt x0 b h hb hh) (kAt x1 h hh)) (scoresC (qAt x0 b h hb hh) (kcAt x3 h hh)) (ix2 0 i) = best x0 x1 x3 b h hb hh i := by
  rw [top_at]
  exact fold_sum (score x0 x1 x3 b h hb hh i)

theorem chunks_value (d : Fin 64) (i : Fin 512) : sumTo (chunkAt x0 x1 x2 x3 x4 b h hb hh) 17 (ix2 ⟨d.val, by omega⟩ i)
    = ∑ x : Key, val x2 x4 h hh d x * Ideal.exp2 (score x0 x1 x3 b h hb hh i x - best x0 x1 x3 b h hb hh i) := by
  rw [sumTo_at]
  refine sum_chunks _ _ (fun n hn => ?_) (fun n hn => ?_)
  · rw [chunkAt, dif_pos hn, chunk_value _ _ _ _ d rfl]
    refine Finset.sum_congr rfl fun k _ => ?_
    rw [top_eq, rows_at, vAt_at (b := b)]
    rfl
  · rw [chunkAt, dif_neg (by omega), dif_pos (by omega), chunk_value _ _ _ _ d rfl]
    refine Finset.sum_congr rfl fun k _ => ?_
    rw [top_eq, rowsC_at, vcAt_at (b := b)]
    simp only [Nat.add_sub_cancel_left]
    rfl

theorem chunks_weight (i : Fin 512) : sumTo (chunkAt x0 x1 x2 x3 x4 b h hb hh) 17 (ix2 64 i)
    = ∑ x : Key, Ideal.exp2 (score x0 x1 x3 b h hb hh i x - best x0 x1 x3 b h hb hh i) := by
  rw [sumTo_at]
  refine sum_chunks _ _ (fun n hn => ?_) (fun n hn => ?_)
  · rw [chunkAt, dif_pos hn, chunk_weight _ _ _ _ (le_refl 64)]
    refine Finset.sum_congr rfl fun k _ => ?_
    rw [top_eq, rows_at]
    rfl
  · rw [chunkAt, dif_neg (by omega), dif_pos (by omega), chunk_weight _ _ _ _ (le_refl 64)]
    refine Finset.sum_congr rfl fun k _ => ?_
    rw [top_eq, rowsC_at]
    simp only [Nat.add_sub_cancel_left]
    rfl

theorem unit_at (d : Fin 64) (i : Fin 512) : unit x0 x1 x2 x3 x4 b h hb hh (ix2 d i)
    = Ideal.div (∑ x : Key, val x2 x4 h hh d x * Ideal.exp2 (score x0 x1 x3 b h hb hh i x - best x0 x1 x3 b h hb hh i))
      (∑ x : Key, Ideal.exp2 (score x0 x1 x3 b h hb hh i x - best x0 x1 x3 b h hb hh i)) := by
  unfold unit
  rw [ratio_at, chunks_value, chunks_weight]

end

/-! ### Over the arguments -/

/-- The reference's factor, and the kernel's. -/
def root : ℝ := (Real.sqrt 96)⁻¹

theorem root_eq : Ideal.rsqrt (Ideal.ofBits FTy.f32 0x42C00000#32) = ((root : ℝ) : EReal) := by
  have h : Ideal.ofBits FTy.f32 0x42C00000#32 = ((96 : ℝ) : EReal) := by
    simp [Ideal.ofBits, Ideal.ieee, -EReal.coe_mul]; norm_num
  rw [h, Ideal.rsqrt_coe, if_neg (by norm_num), if_neg (by norm_num)]
  rfl

theorem factor_eq : factor = ((root / Real.log 2 : ℝ) : EReal) := by
  have h : Ideal.ofBits FTy.f32 0x40000000#32 = ((2 : ℝ) : EReal) := by
    simp [Ideal.ofBits, Ideal.ieee, -EReal.coe_mul]; norm_num
  have h2 : Real.log 2 ≠ 0 := (Real.log_pos (by norm_num)).ne'
  unfold factor
  rw [root_eq, h, Ideal.log_coe, if_neg (by norm_num), Ideal.div_coe h2, ← EReal.coe_mul]
  congr 1
  field_simp

section
variable (q k : FVec Ideal S8x8x2048x96 .f32) (kc : FVec Ideal S8x8x256x96 .f32)

/-- A key's score as a real number, without the factor. -/
def real (b h : Fin 8) (i : Fin 2048) (x : Key) : ℝ := ∑ e : Fin 96, (q (ix4 b h i e) : EReal).toReal * (keyAt k kc b h e x).toReal

theorem keyAt_real (hk : ∀ y, k y = ((k y : EReal).toReal : EReal)) (hkc : ∀ y, kc y = ((kc y : EReal).toReal : EReal)) (b h : Fin 8) (e : Fin 96) (x : Key) :
    keyAt k kc b h e x = ((keyAt k kc b h e x).toReal : EReal) := by
  cases x with
  | inl j => exact hk _
  | inr j => exact hkc _

theorem logit_real (hq : ∀ y, q y = ((q y : EReal).toReal : EReal)) (hk : ∀ y, k y = ((k y : EReal).toReal : EReal))
    (hkc : ∀ y, kc y = ((kc y : EReal).toReal : EReal)) (b h : Fin 8) (i : Fin 2048) (x : Key) :
    logitAt q k kc b h i x = ((root * real q k kc b h i x : ℝ) : EReal) := by
  unfold logitAt real
  rw [root_eq, mul_comm root, EReal.coe_mul, coe_sum']
  refine congrArg (fun z : EReal => z * _) (Finset.sum_congr rfl fun e _ => ?_)
  rw [EReal.coe_mul, ← keyAt_real k kc hk hkc]
  exact congrArg (fun z : EReal => z * _) (hq _)

theorem slot_real (hq : ∀ y, q y = ((q y : EReal).toReal : EReal)) (hk : ∀ y, k y = ((k y : EReal).toReal : EReal))
    (hkc : ∀ y, kc y = ((kc y : EReal).toReal : EReal)) (b h : Fin 8) (i : Fin 2048) (x : Key) :
    (∑ e : Fin 96, keyAt k kc b h e x * (q (ix4 b h i e) * factor)) = ((root / Real.log 2 * real q k kc b h i x : ℝ) : EReal) := by
  unfold real
  rw [factor_eq, Finset.mul_sum, coe_sum']
  refine Finset.sum_congr rfl fun e _ => ?_
  rw [show (q (ix4 b h i e) : EReal) = ((q (ix4 b h i e) : EReal).toReal : EReal) from hq _]
  conv_lhs => rw [keyAt_real k kc hk hkc b h e x]
  rw [← EReal.coe_mul, ← EReal.coe_mul]
  congr 1
  simp only [EReal.toReal_coe]
  ring

/-- The reference at an index: the softmax's weighted sum. -/
theorem ref_at (v : FVec Ideal S8x8x2048x64 .f32) (vc : FVec Ideal S8x8x256x64 .f32) (b : Fin 8) (i : Fin 2048) (y : Fin 512) :
    ref q k v kc vc (ix3 b i y) = ∑ x : Key, Ideal.div
      (Ideal.exp (logitAt q k kc b ⟨y.val / 64, by omega⟩ i x - Finset.fold max (⊥ : EReal) (logitAt q k kc b ⟨y.val / 64, by omega⟩ i) Finset.univ))
      (∑ z : Key, Ideal.exp (logitAt q k kc b ⟨y.val / 64, by omega⟩ i z - Finset.fold max (⊥ : EReal) (logitAt q k kc b ⟨y.val / 64, by omega⟩ i) Finset.univ))
      * valueAt v vc b ⟨y.val / 64, by omega⟩ ⟨y.val % 64, by omega⟩ x := by
  unfold ref
  rw [mixed_at]
  refine Finset.sum_congr rfl fun x _ => congrArg (fun z : EReal => z * _) ?_
  rw [weights_at]
  simp only [powers_at, greatest_at, logits_at]

end

variable (m : (ℓ : Loc nD τ sig) → Buf (Elt Ideal) ℓ) (c : Dev nD) (t : Fin cfg0.N)

/-! The arguments, at their shapes. -/
abbrev argQ : FVec Ideal S8x8x2048x96 .f32 := m (c, main_arg0)
abbrev argK : FVec Ideal S8x8x2048x96 .f32 := m (c, main_arg1)
abbrev argV : FVec Ideal S8x8x2048x64 .f32 := m (c, main_arg2)
abbrev argKc : FVec Ideal S8x8x256x96 .f32 := m (c, main_arg3)
abbrev argVc : FVec Ideal S8x8x256x64 .f32 := m (c, main_arg4)

theorem score_eq (b h : ℕ) (hb : b < 2) (hh : h < 8) (i : Fin 512) (x : Key) :
    score (iblk m c 0 t) (iblk m c 1 t) (iblk m c 3 t) b h hb hh i x
      = ∑ e : Fin 96, keyAt (argK m c) (argKc m c) (row t) ⟨h, hh⟩ e x
        * (argQ m c (ix4 (row t) ⟨h, hh⟩ (tok t ⟨b * 512 + i.val, by omega⟩) e) * factor) := by
  cases x with
  | inl j =>
    refine (scores_at _ _ j i).trans (Eq.trans (Finset.sum_congr rfl fun e _ => ?_) (sum_slots _ _))
    rw [kAt_at, qAt_at, blk0, blk1, queries_eq, keys_eq, slots_at, slots_at]
    simp only [scaled_at]
    rfl
  | inr j =>
    refine (scoresC_at _ _ j i).trans (Eq.trans (Finset.sum_congr rfl fun e _ => ?_) (sum_slots _ _))
    rw [kcAt_at, qAt_at, blk0, blk3, queries_eq, contextKeys_eq, slots_at, slotsC_at]
    simp only [scaled_at]
    rfl

theorem val_eq (h : ℕ) (hh : h < 8) (d : Fin 64) (x : Key) :
    val (iblk m c 2 t) (iblk m c 4 t) h hh d x = valueAt (argV m c) (argVc m c) (row t) ⟨h, hh⟩ d x := by
  have h1 : (h * 64 + d.val) / 64 = h := by omega
  have h2 : (h * 64 + d.val) % 64 = d.val := by omega
  cases x with
  | inl j =>
    refine (blk2 m c t _ j).trans ((values_at m c _ _ j).trans ?_)
    simp only [h1, h2]
    rfl
  | inr j =>
    refine (blk4 m c t _ j).trans ((contextValues_at m c _ _ j).trans ?_)
    simp only [h1, h2]
    rfl

/-- A unit is the reference's attention of its queries and head. -/
theorem unit_eq (hq : ∀ y, argQ m c y = ((argQ m c y : EReal).toReal : EReal))
    (hk : ∀ y, argK m c y = ((argK m c y : EReal).toReal : EReal))
    (hkc : ∀ y, argKc m c y = ((argKc m c y : EReal).toReal : EReal))
    (b h : ℕ) (hb : b < 2) (hh : h < 8) (d : Fin 64) (i : Fin 512) :
    unit (iblk m c 0 t) (iblk m c 1 t) (iblk m c 2 t) (iblk m c 3 t) (iblk m c 4 t) b h hb hh (ix2 d i)
      = ref (argQ m c) (argK m c) (argV m c) (argKc m c) (argVc m c)
        (ix3 (row t) (tok t ⟨b * 512 + i.val, by omega⟩) ⟨h * 64 + d.val, by omega⟩) := by
  have h1 : (h * 64 + d.val) / 64 = h := by omega
  have h2 : (h * 64 + d.val) % 64 = d.val := by omega
  obtain ⟨u, -, -, hu⟩ := fold_max_scaled (real (argQ m c) (argK m c) (argKc m c) (row t) ⟨h, hh⟩ (tok t ⟨b * 512 + i.val, by omega⟩))
  have hlog : (0 : ℝ) < Real.log 2 := Real.log_pos (by norm_num)
  have hroot : 0 < root := inv_pos.2 (Real.sqrt_pos.2 (by norm_num))
  have hs : score (iblk m c 0 t) (iblk m c 1 t) (iblk m c 3 t) b h hb hh i
      = fun x => ((root / Real.log 2 * real (argQ m c) (argK m c) (argKc m c) (row t) ⟨h, hh⟩ (tok t ⟨b * 512 + i.val, by omega⟩) x : ℝ) : EReal) :=
    funext fun x => (score_eq m c t b h hb hh i x).trans (slot_real _ _ _ hq hk hkc _ _ _ x)
  have hl : logitAt (argQ m c) (argK m c) (argKc m c) (row t) ⟨h, hh⟩ (tok t ⟨b * 512 + i.val, by omega⟩)
      = fun x => ((root * real (argQ m c) (argK m c) (argKc m c) (row t) ⟨h, hh⟩ (tok t ⟨b * 512 + i.val, by omega⟩) x : ℝ) : EReal) :=
    funext fun x => logit_real _ _ _ hq hk hkc _ _ _ x
  rw [unit_at, ref_at]
  unfold best
  simp only [h1, h2, hs, hl, val_eq]
  exact ratio_eq _ _ _ _ root u (hu _ (div_pos hroot hlog)) (hu _ hroot)

end Cert.Attn.K
end
-- ==== Proof.Attn.Kernel.lean ====
/- The attention call's result array: every grid point stores the reference's block. -/
module

public import proofs.«01_k».proof.Proof.Attn.Value

@[expose] public section

set_option maxRecDepth 16384

noncomputable section

open Idealize.ShloMosaic Idealize.ShloMosaic.TcCoe Idealize.SL.Sem
open scoped BigOperators

namespace Cert.Attn.K

open Cert.KernelIdeal Cert.KernelIdeal.Gen

theorem stack_eq (U : (b h : ℕ) → b < 2 → h < 8 → FVec Ideal S64x512 .f32) :
    ∃ hc, stack U = concatenate S1024x512 0 (List.ofFn fun n : Fin 16 => ⟨S64x512, U (n.val / 8) (n.val % 8) (by omega) (by omega)⟩) hc :=
  ⟨concatenates_S64x512_S64x512_S64x512_S64x512_S64x512_S64x512_S64x512_S64x512_S64x512_S64x512_S64x512_S64x512_S64x512_S64x512_S64x512_S64x512_S1024x512_d0, rfl⟩

theorem stack_at (U : (b h : ℕ) → b < 2 → h < 8 → FVec Ideal S64x512 .f32) (r : Fin 1024) (i : Fin 512) :
    stack U (ix2 r i) = U (r.val / 64 / 8) (r.val / 64 % 8) (by omega) (by omega) (ix2 ⟨r.val % 64, by omega⟩ i) := by
  obtain ⟨hc, e⟩ := stack_eq U
  rw [e]
  refine concatenate_ofFn_apply (t := S1024x512) (s₁ := S64x512) 0 (fun n : Fin 16 => U (n.val / 8) (n.val % 8) (by omega) (by omega)) hc rfl 64 rfl
    (ix2 r i) ⟨r.val / 64, by omega⟩ rfl (ix2 ⟨r.val % 64, by omega⟩ i) ?_ ?_
  · rfl
  · intro a ha
    fin_cases a
    · exact absurd rfl ha
    · rfl

theorem turned_at (a : FVec Ideal S1024x512 .f32) (p y : Fin 512) :
    turned (extractStridedSlice S512x512 ![0, 0] a slices_S1024x512_o0_0_S512x512) (ix3 0 p y) = a (ix2 ⟨y.val, by omega⟩ p) := by
  pointwise [turned]

theorem turned_at' (a : FVec Ideal S1024x512 .f32) (p y : Fin 512) :
    turned (extractStridedSlice S512x512 ![512, 0] a slices_S1024x512_o512_0_S512x512) (ix3 0 p y) = a (ix2 ⟨512 + y.val, by omega⟩ p) := by
  pointwise [turned]

variable (m : (ℓ : Loc nD τ sig) → Buf (Elt Ideal) ℓ) (c : Dev nD) (t : Fin cfg0.N)

theorem emb_at (r : Fin 1024) (j : Fin 512) : ((View.whole main_v26).slice (win0_5.rect t)).emb (ix3 (0 : Fin 1) r j) = ix3 (row t) (tok t r) j := by
  unfold row tok
  blk_ext [idx_val t]

theorem final (hq : ∀ y, argQ m c y = ((argQ m c y : EReal).toReal : EReal)) (hk : ∀ y, argK m c y = ((argK m c y : EReal).toReal : EReal))
    (hkc : ∀ y, argKc m c y = ((argKc m c y : EReal).toReal : EReal)) :
    (dats m 0 c).arrAt 5 (cfgs 0).N = ref (argQ m c) (argK m c) (argV m c) (argKc m c) (argVc m c) := by
  refine (dats m 0 c).arrAt_eq_of_covers 5 _ (by decide +kernel) fun t _ y => ?_
  blk_simp
  rw [after_eq]
  idx_vars y
  obtain rfl : y0 = 0 := Subsingleton.elim _ _
  rw [emb_at]
  canon_tiles x e
  · idx_vars x
    obtain rfl : x0 = 0 := Subsingleton.elim _ _
    have e1' : y1.val = 512 + x1.val := e1
    have e2' : y2 = x2 := Fin.ext e2
    subst e2'
    rw [turned_at', stack_at, unit_eq m c t hq hk hkc]
    refine congrArg _ (congrArg₂ (fun a b => ix3 (row t) a b) (congrArg (tok t) (Fin.ext ?_)) (Fin.ext ?_)) <;> simp only [] <;> omega
  · idx_vars x
    obtain rfl : x0 = 0 := Subsingleton.elim _ _
    have e1' : y1.val = x1.val := e1
    have e2' : y2 = x2 := Fin.ext e2
    subst e2'
    rw [turned_at, stack_at, unit_eq m c t hq hk hkc]
    refine congrArg _ (congrArg₂ (fun a b => ix3 (row t) a b) (congrArg (tok t) (Fin.ext ?_)) (Fin.ext ?_)) <;> simp only [] <;> omega

end Cert.Attn.K
end
-- ==== Proof.Attn.Finite.lean ====
/- What the precondition of the attention claim says: every query and key is a real number. -/
module

public import proofs.«01_k».proof.Pre_finite_queries_and_keys
public import Idealize.ShloMosaic.PureOps.Ideal
public import Idealize.ShloMosaic.Lib.ReduceAll

@[expose] public section

set_option maxRecDepth 16384

noncomputable section

open Idealize.ShloMosaic

namespace Cert.Attn.Finite

open Cert.Pre_finite_queries_and_keys

/-- The predicate's side conditions. -/
theorem facts : Cert.Pre_finite_queries_and_keys.Facts where
  bcast_S_S8x8x2048x96 := by decide
  reducesTo_S8x8x2048x96_S_d0_1_2_3 := by decide
  h_S_ := by decide
  bcast_S_S8x8x256x96 := by decide
  reducesTo_S8x8x256x96_S_d0_1_2_3 := by decide

theorem infinity : Ideal.ofBits FTy.f32 0x7F800000#32 = ⊤ := by simp [Ideal.ofBits, Ideal.ieee]

/-- A number whose absolute value is below infinity is real. -/
theorem real_of_lt (x : EReal) (h : Ideal.cmp .olt (max x (-x)) (Ideal.ofBits FTy.f32 0x7F800000#32) = 1#1) : x = ((x.toReal : ℝ) : EReal) := by
  rw [infinity] at h
  have hlt : max x (-x) < ⊤ := by
    by_contra hn
    simp [Ideal.cmp, hn] at h
  refine (EReal.coe_toReal (fun hx => ?_) (fun hx => ?_)).symm
  · subst hx; simp at hlt
  · subst hx; simp at hlt

instance : Subsingleton S_.Idx := ⟨fun a b => funext fun i => i.elim0⟩

theorem decode [Cert.Pre_finite_queries_and_keys.Facts] (q k : FVec Ideal S8x8x2048x96 .f32) (v : FVec Ideal S8x8x2048x64 .f32) (kc : FVec Ideal S8x8x256x96 .f32) (vc : FVec Ideal S8x8x256x64 .f32)
    (h : fn (F := Ideal) q k v kc vc = fun _ => 1#1) :
    (∀ y, q y = ((q y : EReal).toReal : EReal)) ∧ (∀ y, k y = ((k y : EReal).toReal : EReal)) ∧ (∀ y, kc y = ((kc y : EReal).toReal : EReal)) := by
  have h0 := congrFun h (fun i => i.elim0)
  obtain ⟨h1, h2⟩ := IntOp.andi_eq_one.1 h0
  obtain ⟨h3, h4⟩ := IntOp.andi_eq_one.1 h1
  exact ⟨fun y => real_of_lt _ (Host.reduce_andi_all _ _ _ _ _ h3 y), fun y => real_of_lt _ (Host.reduce_andi_all _ _ _ _ _ h4 y),
    fun y => real_of_lt _ (Host.reduce_andi_all _ _ _ _ _ h2 y)⟩

end Cert.Attn.Finite
end
-- ==== Proof.Attn.Algebraic.lean ====
/- The value claim of the attention call (`Kernel`): from finite queries and keys its runs end in the reference's result. -/
module

public import proofs.«01_k».proof.Defs
public import proofs.«01_k».proof.Proof.Attn.Kernel
public import proofs.«01_k».proof.Proof.Attn.Finite
public import Idealize.ShloMosaic.Lib.Claim

@[expose] public section

set_option maxRecDepth 16384

noncomputable section

open Idealize.ShloMosaic Idealize.ShloMosaic.TcCoe Idealize.SL.Sem

namespace Cert.Attn

open Cert.KernelIdeal Cert.KernelIdeal.Gen

theorem algebraic [hP : Cert.Pre_finite_queries_and_keys.Facts] : Cert.algebraic_KernelIdeal_ReferenceIdeal_pre_finite_queries_and_keys := by
  pair_intro
  · run_from Cert.KernelIdeal.Gen.run_main m g
  · run_from Cert.ReferenceIdeal.Value.run m' g'
    obtain ⟨hq, hk, hkc⟩ := Finite.decode _ _ _ _ _ (hpre c)
    obtain ⟨-, h1, h2, h3, h4⟩ := hagree c
    refine Eq.trans (b := ref (K.argQ m c) (m' (c.tc.loc Cert.ReferenceIdeal.main_arg1)) (m' (c.tc.loc Cert.ReferenceIdeal.main_arg2))
      (m' (c.tc.loc Cert.ReferenceIdeal.main_arg3)) (m' (c.tc.loc Cert.ReferenceIdeal.main_arg4))) rfl ?_
    rw [h1, h2, h3, h4]
    exact (K.final m c hq hk hkc).symm

end Cert.Attn

end
-- ==== Proof.Mlp.Reference.lean ====
/- The reference of the output projection and MLP (`Reference2`), cut into its three stages: the gated residual after the
   projection, the modulated norm, and the squared-ReLU MLP with the second gated residual. Each stage is read at an index. -/
module

public import proofs.«01_k».proof.Proof.Gen.Reference2Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.Mlp

open Cert.Reference2Ideal Cert.Reference2Ideal.Gen

/-- The tokens after the output projection and its gated residual. -/
def mixed (a0 a1 : FVec Ideal S8x2048x256 .f32) (a2 : FVec Ideal S8x2048x512 .f32) (a3 : FVec Ideal S8x2048x1024 .f32)
    (a4 : FVec Ideal S8x6144 .f32) (a5 : FVec Ideal S4x1024x1024 .f32) : FVec Ideal S8x2048x1024 .f32 :=
  addf a3 (mulf (broadcastInDim S8x2048x1024 ![0, 1, 2] bcast_S8x1x1024_S8x2048x1024_0_1_2 (extractStridedSlice S8x1x1024 ![0, 0, 2048] (broadcastInDim S8x1x6144 ![0, 2] bcast_S8x6144_S8x1x6144_0_2 a4) slices_S8x1x6144_S8x1x1024_0_0_2048)) (Host.dotGeneral dot_S8x2048x1024_S1024x1024_S8x2048x1024_2_0_01_1_n_n none ((concatenate S8x2048x1024 2 [⟨S8x2048x256, a0⟩, ⟨S8x2048x256, a1⟩, ⟨S8x2048x512, a2⟩] concatenates_S8x2048x256_S8x2048x256_S8x2048x512_S8x2048x1024_d2 : FVec Ideal S8x2048x1024 .f32)) (shapeCast _ (extractStridedSlice S1x1024x1024 ![3, 0, 0] a5 slices_S4x1024x1024_S1x1024x1024_3_0_0) shapeCasts_S1x1024x1024_S1024x1024)))

/-- The modulated norm of the tokens. -/
def normed (X : FVec Ideal S8x2048x1024 .f32) (a4 : FVec Ideal S8x6144 .f32) (a6 : FVec Ideal S4x1024 .f32) :
    FVec Ideal S8x2048x1024 .f32 :=
  addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![3, 0] a6 slices_S4x1024_S1x1024_3_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 0, 4096] (broadcastInDim S8x1x6144 ![0, 2] bcast_S8x6144_S8x1x6144_0_2 a4) slices_S8x1x6144_S8x1x1024_0_0_4096)))) (broadcastInDim S8x2048x1024 ![0, 1, 2] bcast_S8x1x1024_S8x2048x1024_0_1_2 (extractStridedSlice S8x1x1024 ![0, 0, 3072] (broadcastInDim S8x1x6144 ![0, 2] bcast_S8x6144_S8x1x6144_0_2 a4) slices_S8x1x6144_S8x1x1024_0_0_3072))

/-- The hidden units before squaring. -/
def hidden (H : FVec Ideal S8x2048x1024 .f32) (a7 : FVec Ideal S4x1024x4096 .f32) (a8 : FVec Ideal S4x4096 .f32) :
    FVec Ideal S8x2048x4096 .f32 :=
  maximumf (addf (Host.dotGeneral dot_S8x2048x1024_S1024x4096_S8x2048x4096_2_0_01_1_n_n none H (shapeCast _ (extractStridedSlice S1x1024x4096 ![3, 0, 0] a7 slices_S4x1024x4096_S1x1024x4096_3_0_0) shapeCasts_S1x1024x4096_S1024x4096)) (broadcastInDim S8x2048x4096 ![0, 1, 2] bcast_S1x1x4096_S8x2048x4096_0_1_2 (broadcastInDim S1x1x4096 ![2] bcast_S4096_S1x1x4096_2 (shapeCast _ (extractStridedSlice S1x4096 ![3, 0] a8 slices_S4x4096_S1x4096_3_0) shapeCasts_S1x4096_S4096)))) (broadcastInDim S8x2048x4096 ![] bcast_S_S8x2048x4096 (constant S_ .f32 0x00000000#32))

/-- The result, from the tokens and the hidden units. -/
def result (X : FVec Ideal S8x2048x1024 .f32) (A : FVec Ideal S8x2048x4096 .f32) (a4 : FVec Ideal S8x6144 .f32)
    (a9 : FVec Ideal S4x4096x1024 .f32) (a10 : FVec Ideal S4x1024 .f32) : FVec Ideal S8x2048x1024 .f32 :=
  addf X (mulf (broadcastInDim S8x2048x1024 ![0, 1, 2] bcast_S8x1x1024_S8x2048x1024_0_1_2 (extractStridedSlice S8x1x1024 ![0, 0, 5120] (broadcastInDim S8x1x6144 ![0, 2] bcast_S8x6144_S8x1x6144_0_2 a4) slices_S8x1x6144_S8x1x1024_0_0_5120)) (addf (Host.dotGeneral dot_S8x2048x4096_S4096x1024_S8x2048x1024_2_0_01_1_n_n none (mulf A A) (shapeCast _ (extractStridedSlice S1x4096x1024 ![3, 0, 0] a9 slices_S4x4096x1024_S1x4096x1024_3_0_0) shapeCasts_S1x4096x1024_S4096x1024)) (broadcastInDim S8x2048x1024 ![0, 1, 2] bcast_S1x1x1024_S8x2048x1024_0_1_2 (broadcastInDim S1x1x1024 ![2] bcast_S1024_S1x1x1024_2 (shapeCast _ (extractStridedSlice S1x1024 ![3, 0] a10 slices_S4x1024_S1x1024_3_0) shapeCasts_S1x1024_S1024)))))

/-- The whole reference of the arguments. -/
def ref (a0 a1 : FVec Ideal S8x2048x256 .f32) (a2 : FVec Ideal S8x2048x512 .f32) (a3 : FVec Ideal S8x2048x1024 .f32)
    (a4 : FVec Ideal S8x6144 .f32) (a5 : FVec Ideal S4x1024x1024 .f32) (a6 : FVec Ideal S4x1024 .f32)
    (a7 : FVec Ideal S4x1024x4096 .f32) (a8 : FVec Ideal S4x4096 .f32) (a9 : FVec Ideal S4x4096x1024 .f32)
    (a10 : FVec Ideal S4x1024 .f32) : FVec Ideal S8x2048x1024 .f32 :=
  result (mixed a0 a1 a2 a3 a4 a5) (hidden (normed (mixed a0 a1 a2 a3 a4 a5) a4 a6) a7 a8) a4 a9 a10

theorem res_eq (m : (ℓ : Loc nD τ sig) → Buf (Elt Ideal) ℓ) (c : Dev nD) :
    Value.res_main_v55 m c = ref (m (c, main_arg0)) (m (c, main_arg1)) (m (c, main_arg2)) (m (c, main_arg3))
      (m (c, main_arg4)) (m (c, main_arg5)) (m (c, main_arg6)) (m (c, main_arg7)) (m (c, main_arg8)) (m (c, main_arg9))
      (m (c, main_arg10)) := by
  unfold Value.res_main_v55 ref result hidden normed mixed
  rfl

theorem mixed_at (a0 a1 : FVec Ideal S8x2048x256 .f32) (a2 : FVec Ideal S8x2048x512 .f32) (a3 : FVec Ideal S8x2048x1024 .f32)
    (a4 : FVec Ideal S8x6144 .f32) (a5 : FVec Ideal S4x1024x1024 .f32) (b : Fin 8) (t : Fin 2048) (j : Fin 1024) :
    mixed a0 a1 a2 a3 a4 a5 (ix3 b t j) = a3 (ix3 b t j) + a4 (ix2 b ⟨2048 + j.val, by omega⟩) *
      (∑ x : Fin 256, a0 (ix3 b t x) * a5 (ix3 (3 : Fin 4) ⟨0 + x.val, by omega⟩ j)
        + ∑ x : Fin 256, a1 (ix3 b t x) * a5 (ix3 (3 : Fin 4) ⟨256 + x.val, by omega⟩ j)
        + ∑ x : Fin 512, a2 (ix3 b t x) * a5 (ix3 (3 : Fin 4) ⟨512 + x.val, by omega⟩ j)) := by
  pointwise [mixed]
  rw [Fin.sum_univ_two_halves 512 512 rfl, Fin.sum_univ_two_halves 256 256 rfl]
  refine congrArg₂ _ rfl (congrArg₂ _ rfl (congrArg₂ _ (congrArg₂ _ ?_ ?_) ?_)) <;> refine Finset.sum_congr rfl fun x _ => ?_
  · rw [dif_pos (show (x.val : ℕ) < 256 from x.isLt)]
  · rw [dif_neg (show ¬ (256 + x.val : ℕ) < 256 by omega), dif_pos (show (256 + x.val - 256 : ℕ) < 256 by omega)]
    simp only [Nat.add_sub_cancel_left]
  · rw [dif_neg (show ¬ (512 + x.val : ℕ) < 256 by omega), dif_neg (show ¬ (512 + x.val - 256 : ℕ) < 256 by omega)]
    have e : (⟨512 + x.val - 256 - 256, by omega⟩ : Fin 512) = x := Fin.ext (by show 512 + x.val - 256 - 256 = x.val; omega)
    exact congrArg (· * _) (congrArg (fun y => a2 (ix3 b t y)) e)

theorem normed_at (X : FVec Ideal S8x2048x1024 .f32) (a4 : FVec Ideal S8x6144 .f32) (a6 : FVec Ideal S4x1024 .f32) (b : Fin 8) (t : Fin 2048) (j : Fin 1024) :
    normed X a4 a6 (ix3 b t j) = X (ix3 b t j) * Ideal.rsqrt (Ideal.div (∑ x : Fin 1024, X (ix3 b t x) * X (ix3 b t x))
      (Ideal.ofBits FTy.f32 1149239296#32) + Ideal.ofBits FTy.f32 897988541#32) * a6 (ix2 (3 : Fin 4) j)
      * (1 + a4 (ix2 b ⟨4096 + j.val, by omega⟩)) + a4 (ix2 b ⟨3072 + j.val, by omega⟩) := by
  pointwise [normed]

theorem hidden_at (H : FVec Ideal S8x2048x1024 .f32) (a7 : FVec Ideal S4x1024x4096 .f32) (a8 : FVec Ideal S4x4096 .f32) (b : Fin 8) (t : Fin 2048) (j : Fin 4096) :
    hidden H a7 a8 (ix3 b t j)
      = max (∑ x : Fin 1024, H (ix3 b t x) * a7 (ix3 (3 : Fin 4) x j) + a8 (ix2 (3 : Fin 4) j)) 0 := by
  pointwise [hidden]

theorem result_at (X : FVec Ideal S8x2048x1024 .f32) (A : FVec Ideal S8x2048x4096 .f32) (a4 : FVec Ideal S8x6144 .f32)
    (a9 : FVec Ideal S4x4096x1024 .f32) (a10 : FVec Ideal S4x1024 .f32) (b : Fin 8) (t : Fin 2048) (j : Fin 1024) :
    result X A a4 a9 a10 (ix3 b t j) = X (ix3 b t j) + a4 (ix2 b ⟨5120 + j.val, by omega⟩) *
      (∑ q : Fin 4, ∑ x : Fin 1024, A (ix3 b t ⟨q.val * 1024 + x.val, by omega⟩) * A (ix3 b t ⟨q.val * 1024 + x.val, by omega⟩)
          * a9 (ix3 (3 : Fin 4) ⟨q.val * 1024 + x.val, by omega⟩ j)
        + a10 (ix2 (3 : Fin 4) j)) := by
  pointwise [result]
  rw [Fin.sum_univ_tiles 4 1024 rfl]

end Cert.Mlp

end
-- ==== Proof.Mlp.Kernel.lean ====
/- The body of the output projection and MLP (`Kernel2`), read at an index, stage by stage. -/
module

public import proofs.«01_k».proof.Proof.Gen.Kernel2Ideal.Frame
public import proofs.«01_k».proof.Proof.Gen.Kernel2Ideal.Value
public import proofs.«01_k».proof.Proof.Mlp.Reference
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.Mlp.K

open Cert.Kernel2Ideal Cert.Kernel2Ideal.Gen

theorem pay2_at (v0 : FVec Ideal S1x1024x256 .bf16) (v2 : FVec Ideal S1x256x1024 .bf16) (v5 : FVec Ideal S1x1024x256 .bf16) (v7 : FVec Ideal S1x256x1024 .bf16) (v11 : FVec Ideal S1x1024x512 .bf16) (v13 : FVec Ideal S1x512x1024 .bf16) (v17 : FVec Ideal S1x1024x1024 .f32) (v19 : FVec Ideal S1x1x1x1024 .f32) (r : Fin 1024) (j : Fin 1024) :
  k0_pay2 (F := Ideal) v0 v2 v5 v7 v11 v13 v17 v19 (ix2 r j) = v17 (ix3 (0 : Fin 1) r j) + v19 (ix4 (0 : Fin 1) (0 : Fin 1) (0 : Fin 1) j) * (∑ x : Fin 256, v0 (ix3 (0 : Fin 1) r x) * v2 (ix3 (0 : Fin 1) x j)
    + ∑ x : Fin 256, v5 (ix3 (0 : Fin 1) r x) * v7 (ix3 (0 : Fin 1) x j) + ∑ x : Fin 512, v11 (ix3 (0 : Fin 1) r x) * v13 (ix3 (0 : Fin 1) x j)) := by
  pointwise [k0_pay2]

theorem pay4_at (v23 : FVec Ideal S1024x1024 .f32) (v25 : FVec Ideal S1x1024 .f32) (v26 : FVec Ideal S1x1x1x1024 .f32) (v28 : FVec Ideal S1x1x1x1024 .f32) (r : Fin 1024) (j : Fin 1024) :
  k0_pay4 (F := Ideal) v23 v25 v26 v28 (ix2 r j) = v23 (ix2 r j) * Ideal.rsqrt (Ideal.div (∑ x : Fin 1024, v23 (ix2 r x) * v23 (ix2 r x))
      (Ideal.ofBits FTy.f32 1149239296#32) + Ideal.ofBits FTy.f32 897988541#32) * v25 (ix2 (0 : Fin 1) j)
      * (1 + v28 (ix4 (0 : Fin 1) (0 : Fin 1) (0 : Fin 1) j)) + v26 (ix4 (0 : Fin 1) (0 : Fin 1) (0 : Fin 1) j) := by
  pointwise [k0_pay4]

theorem pay6_at (v23 : FVec Ideal S1024x1024 .f32) (v25 : FVec Ideal S1x1024 .f32) (v26 : FVec Ideal S1x1x1x1024 .f32) (v28 : FVec Ideal S1x1x1x1024 .f32) (v50 : FVec Ideal S1x1024x1024 .bf16) (v53 v61) (r : Fin 1024) (j : Fin 1024) :
  k0_pay6 (F := Ideal) v23 v25 v26 v28 v50 v53 v61 (ix2 r j) = ∑ x : Fin 1024, max (∑ z : Fin 1024, k0_pay4 (F := Ideal) v23 v25 v26 v28 (ix2 r z) * v50 (ix3 (0 : Fin 1) z x) + v53 (ix2 (0 : Fin 1) x)) 0
      * max (∑ z : Fin 1024, k0_pay4 (F := Ideal) v23 v25 v26 v28 (ix2 r z) * v50 (ix3 (0 : Fin 1) z x) + v53 (ix2 (0 : Fin 1) x)) 0
      * v61 (ix3 (0 : Fin 1) x j) := by
  pointwise [k0_pay6]

theorem pay7_at (h a b x y z u v w) (r : Fin 1024) (j : Fin 1024) :
  k0_pay7 (F := Ideal) h a b x y z u v w (ix2 r j) = a (ix2 r j) + b (ix2 r j)
    + ∑ q : Fin 1024, max (∑ p : Fin 1024, h (ix2 r p) * x (ix3 (0 : Fin 1) p q) + y (ix2 (0 : Fin 1) q)) 0
      * max (∑ p : Fin 1024, h (ix2 r p) * x (ix3 (0 : Fin 1) p q) + y (ix2 (0 : Fin 1) q)) 0 * z (ix3 (0 : Fin 1) q j)
    + ∑ q : Fin 1024, max (∑ p : Fin 1024, h (ix2 r p) * u (ix3 (0 : Fin 1) p q) + v (ix2 (0 : Fin 1) q)) 0
      * max (∑ p : Fin 1024, h (ix2 r p) * u (ix3 (0 : Fin 1) p q) + v (ix2 (0 : Fin 1) q)) 0 * w (ix3 (0 : Fin 1) q j) := by
  pointwise [k0_pay7]

theorem pay8_at (h x) (r : Fin 1024) (j : Fin 1024) :
  k0_pay8 (F := Ideal) h x (ix2 r j) = ∑ p : Fin 1024, h (ix2 r p) * x (ix3 (0 : Fin 1) p j) := by
  pointwise [k0_pay8]

theorem pay1_at (a b x y z u v) (r : Fin 1024) (j : Fin 1024) :
  k0_pay1 (F := Ideal) a b x y z u v (ix3 0 r j) = a (ix2 r j) + u (ix4 (0 : Fin 1) (0 : Fin 1) (0 : Fin 1) j) * (b (ix2 r j)
    + ∑ q : Fin 1024, max (x (ix2 r q) + y (ix2 (0 : Fin 1) q)) 0 * max (x (ix2 r q) + y (ix2 (0 : Fin 1) q)) 0 * z (ix3 (0 : Fin 1) q j)
    + v (ix2 (0 : Fin 1) j)) := by
  pointwise [k0_pay1]

theorem pay5_at (r j : Fin 1024) : k0_pay5 (F := Ideal) (ix2 r j) = 0 := by
  pointwise [k0_pay5]

theorem bias_read (f : FVec Ideal S4096 .f32) (i : S1x4096.Idx) :
    broadcastInDim S1x4096 ![1] bcast_S4096_S1x4096_1 f i = f (ix1 (i 1)) := by
  idx_vars i
  pointwise

theorem idx_val : ∀ t : Fin cfg0.N, win0_0.index t = ![t.val / 2, t.val % 2, 0]
    ∧ win0_1.index t = ![t.val / 2, t.val % 2, 0]
    ∧ win0_2.index t = ![t.val / 2, t.val % 2, 0]
    ∧ win0_3.index t = ![t.val / 2, t.val % 2, 0]
    ∧ win0_4.index t = ![t.val / 2, 2, 0, 0]
    ∧ win0_5.index t = ![t.val / 2, 3, 0, 0]
    ∧ win0_6.index t = ![t.val / 2, 4, 0, 0]
    ∧ win0_7.index t = ![t.val / 2, 5, 0, 0]
    ∧ win0_8.index t = ![0, 0]
    ∧ win0_9.index t = ![3, 0, 0]
    ∧ win0_10.index t = ![3, 1, 0]
    ∧ win0_11.index t = ![3, 1, 0]
    ∧ win0_12.index t = ![3, 0, 0]
    ∧ win0_13.index t = ![0, 0]
    ∧ win0_14.index t = ![3, 0, 0]
    ∧ win0_15.index t = ![0, 0]
    ∧ win0_16.index t = ![t.val / 2, t.val % 2, 0] :=
  (by decide +kernel : ∀ t : Fin grid0.N, _)

/-- The batch row of a grid point. -/
def row (t : Fin cfg0.N) : Fin 8 := ⟨t.val / 2, by have h : t.val < 16 := t.isLt; omega⟩
/-- The token at a row of a grid point's block. -/
def tok (t : Fin cfg0.N) (r : Fin 1024) : Fin 2048 := ⟨t.val % 2 * 1024 + r.val, by omega⟩

variable (m : (ℓ : Loc nD τ sig) → Buf (Elt Ideal) ℓ) (c : Dev nD) (t : Fin cfg0.N) (r j : Fin 1024)

theorem blk0 (x : Fin 256) : iblk m c 0 t (ix3 (0 : Fin 1) r x) = m (c, main_arg0) (ix3 (row t) (tok t r) x) := by
  unfold row tok
  blk_point [iblk, V, idx_val t]
theorem blk1 (x : Fin 256) : iblk m c 1 t (ix3 (0 : Fin 1) r x) = m (c, main_arg1) (ix3 (row t) (tok t r) x) := by
  unfold row tok
  blk_point [iblk, V, idx_val t]
theorem blk2 (x : Fin 512) : iblk m c 2 t (ix3 (0 : Fin 1) r x) = m (c, main_arg2) (ix3 (row t) (tok t r) x) := by
  unfold row tok
  blk_point [iblk, V, idx_val t]
theorem blk3 (x : Fin 1024) : iblk m c 3 t (ix3 (0 : Fin 1) r x) = m (c, main_arg3) (ix3 (row t) (tok t r) x) := by
  unfold row tok
  blk_point [iblk, V, idx_val t]
theorem blk4 : iblk m c 4 t (ix4 (0 : Fin 1) (0 : Fin 1) (0 : Fin 1) j) = m (c, main_arg4) (ix2 (row t) ⟨2048 + j.val, by omega⟩) := by
  try unfold row
  blk_point [iblk, V, idx_val t]
theorem blk5 : iblk m c 5 t (ix4 (0 : Fin 1) (0 : Fin 1) (0 : Fin 1) j) = m (c, main_arg4) (ix2 (row t) ⟨3072 + j.val, by omega⟩) := by
  try unfold row
  blk_point [iblk, V, idx_val t]
theorem blk6 : iblk m c 6 t (ix4 (0 : Fin 1) (0 : Fin 1) (0 : Fin 1) j) = m (c, main_arg4) (ix2 (row t) ⟨4096 + j.val, by omega⟩) := by
  try unfold row
  blk_point [iblk, V, idx_val t]
theorem blk7 : iblk m c 7 t (ix4 (0 : Fin 1) (0 : Fin 1) (0 : Fin 1) j) = m (c, main_arg4) (ix2 (row t) ⟨5120 + j.val, by omega⟩) := by
  try unfold row
  blk_point [iblk, V, idx_val t]
theorem blk8 : iblk m c 8 t (ix2 (0 : Fin 1) j) = m (c, main_arg6) (ix2 (3 : Fin 4) j) := by
  try unfold row
  blk_point [iblk, V, idx_val t]
theorem blk9 (x : Fin 256) : iblk m c 9 t (ix3 (0 : Fin 1) x j) = m (c, main_arg5) (ix3 (3 : Fin 4) ⟨0 + x.val, by omega⟩ j) := by
  try unfold row
  blk_point [iblk, V, idx_val t]
theorem blk10 (x : Fin 256) : iblk m c 10 t (ix3 (0 : Fin 1) x j) = m (c, main_arg5) (ix3 (3 : Fin 4) ⟨256 + x.val, by omega⟩ j) := by
  try unfold row
  blk_point [iblk, V, idx_val t]
theorem blk11 (x : Fin 512) : iblk m c 11 t (ix3 (0 : Fin 1) x j) = m (c, main_arg5) (ix3 (3 : Fin 4) ⟨512 + x.val, by omega⟩ j) := by
  try unfold row
  blk_point [iblk, V, idx_val t]
theorem blk15 : iblk m c 15 t (ix2 (0 : Fin 1) j) = m (c, main_arg10) (ix2 (3 : Fin 4) j) := by
  try unfold row
  blk_point [iblk, V, idx_val t]
theorem bias_at (i : S1x4096.Idx) : (V m c main_v5 : FVec Ideal S1x4096 .f32) i = m (c, main_arg8) (ix2 (3 : Fin 4) (i 1)) := by
  idx_vars i
  entry_read
  rw [bias_read]
  pointwise

theorem ld7 : View.ld (iblk m c 12 t) r0_7 (ix3 (0 : Fin 1) r j) = m (c, main_arg7) (ix3 (3 : Fin 4) r ⟨0 * 1024 + j.val, by omega⟩) := by
  try unfold row
  blk_point [iblk, V, idx_val t]
theorem ld8 : View.ld (iblk m c 13 t) r0_8 (ix2 (0 : Fin 1) j) = m (c, main_arg8) (ix2 (3 : Fin 4) ⟨0 * 1024 + j.val, by omega⟩) := by
  refine Eq.trans (bias_at m c (((win0_13.blk t).view.emb (r0_8.idx (ix2 (0 : Fin 1) j))))) ?_
  blk_ext [idx_val t]
  simp [r0_8]
theorem ld9 : View.ld (iblk m c 14 t) r0_9 (ix3 (0 : Fin 1) r j) = m (c, main_arg9) (ix3 (3 : Fin 4) ⟨0 * 1024 + r.val, by omega⟩ j) := by
  try unfold row
  blk_point [iblk, V, idx_val t]
theorem ld10 : View.ld (iblk m c 12 t) r0_10 (ix3 (0 : Fin 1) r j) = m (c, main_arg7) (ix3 (3 : Fin 4) r ⟨1 * 1024 + j.val, by omega⟩) := by
  try unfold row
  blk_point [iblk, V, idx_val t]
theorem ld11 : View.ld (iblk m c 13 t) r0_11 (ix2 (0 : Fin 1) j) = m (c, main_arg8) (ix2 (3 : Fin 4) ⟨1 * 1024 + j.val, by omega⟩) := by
  refine Eq.trans (bias_at m c (((win0_13.blk t).view.emb (r0_11.idx (ix2 (0 : Fin 1) j))))) ?_
  blk_ext [idx_val t]
  simp [r0_11]
theorem ld12 : View.ld (iblk m c 14 t) r0_12 (ix3 (0 : Fin 1) r j) = m (c, main_arg9) (ix3 (3 : Fin 4) ⟨1 * 1024 + r.val, by omega⟩ j) := by
  try unfold row
  blk_point [iblk, V, idx_val t]
theorem ld13 : View.ld (iblk m c 12 t) r0_13 (ix3 (0 : Fin 1) r j) = m (c, main_arg7) (ix3 (3 : Fin 4) r ⟨2 * 1024 + j.val, by omega⟩) := by
  try unfold row
  blk_point [iblk, V, idx_val t]
theorem ld14 : View.ld (iblk m c 13 t) r0_14 (ix2 (0 : Fin 1) j) = m (c, main_arg8) (ix2 (3 : Fin 4) ⟨2 * 1024 + j.val, by omega⟩) := by
  refine Eq.trans (bias_at m c (((win0_13.blk t).view.emb (r0_14.idx (ix2 (0 : Fin 1) j))))) ?_
  blk_ext [idx_val t]
  simp [r0_14]
theorem ld15 : View.ld (iblk m c 14 t) r0_15 (ix3 (0 : Fin 1) r j) = m (c, main_arg9) (ix3 (3 : Fin 4) ⟨2 * 1024 + r.val, by omega⟩ j) := by
  try unfold row
  blk_point [iblk, V, idx_val t]
theorem ld16 : View.ld (iblk m c 12 t) r0_16 (ix3 (0 : Fin 1) r j) = m (c, main_arg7) (ix3 (3 : Fin 4) r ⟨3 * 1024 + j.val, by omega⟩) := by
  try unfold row
  blk_point [iblk, V, idx_val t]
theorem ld17 : View.ld (iblk m c 13 t) r0_17 (ix2 (0 : Fin 1) j) = m (c, main_arg8) (ix2 (3 : Fin 4) ⟨3 * 1024 + j.val, by omega⟩) := by
  refine Eq.trans (bias_at m c (((win0_13.blk t).view.emb (r0_17.idx (ix2 (0 : Fin 1) j))))) ?_
  blk_ext [idx_val t]
  simp [r0_17]
theorem ld18 : View.ld (iblk m c 14 t) r0_18 (ix3 (0 : Fin 1) r j) = m (c, main_arg9) (ix3 (3 : Fin 4) ⟨3 * 1024 + r.val, by omega⟩ j) := by
  try unfold row
  blk_point [iblk, V, idx_val t]

theorem pay9_eq (x0 : FVec Ideal S1x1024x256 .bf16) (x1 : FVec Ideal S1x1024x256 .bf16) (x2 : FVec Ideal S1x1024x512 .bf16) (x3 : FVec Ideal S1x1024x1024 .f32) (x4 : FVec Ideal S1x1x1x1024 .f32) (x5 : FVec Ideal S1x1x1x1024 .f32) (x6 : FVec Ideal S1x1x1x1024 .f32) (x7 : FVec Ideal S1x1x1x1024 .f32) (x8 : FVec Ideal S1x1024 .f32) (x9 : FVec Ideal S1x256x1024 .bf16) (x10 : FVec Ideal S1x256x1024 .bf16) (x11 : FVec Ideal S1x512x1024 .bf16) (x12 x13 x14 x15) : k0_pay9 (F := Ideal) x0 x1 x2 x3 x4 x5 x6 x7 x8 x9 x10 x11 x12 x13 x14 x15 = k0_pay2 (F := Ideal) x0 x9 x1 x10 x2 x11 x3 x4 := by
  unfold k0_pay9
  simp (disch := decide) only [View.ld_unit_lit']

theorem pay10_eq (x0 : FVec Ideal S1x1024x256 .bf16) (x1 : FVec Ideal S1x1024x256 .bf16) (x2 : FVec Ideal S1x1024x512 .bf16) (x3 : FVec Ideal S1x1024x1024 .f32) (x4 : FVec Ideal S1x1x1x1024 .f32) (x5 : FVec Ideal S1x1x1x1024 .f32) (x6 : FVec Ideal S1x1x1x1024 .f32) (x7 : FVec Ideal S1x1x1x1024 .f32) (x8 : FVec Ideal S1x1024 .f32) (x9 : FVec Ideal S1x256x1024 .bf16) (x10 : FVec Ideal S1x256x1024 .bf16) (x11 : FVec Ideal S1x512x1024 .bf16) (x12 x13 x14 x15) : k0_pay10 (F := Ideal) x0 x1 x2 x3 x4 x5 x6 x7 x8 x9 x10 x11 x12 x13 x14 x15 = k0_pay3 (F := Ideal) x8 := by
  unfold k0_pay10
  simp (disch := decide) only [View.ld_unit_lit']

theorem pay11_eq (x0 : FVec Ideal S1x1024x256 .bf16) (x1 : FVec Ideal S1x1024x256 .bf16) (x2 : FVec Ideal S1x1024x512 .bf16) (x3 : FVec Ideal S1x1024x1024 .f32) (x4 : FVec Ideal S1x1x1x1024 .f32) (x5 : FVec Ideal S1x1x1x1024 .f32) (x6 : FVec Ideal S1x1x1x1024 .f32) (x7 : FVec Ideal S1x1x1x1024 .f32) (x8 : FVec Ideal S1x1024 .f32) (x9 : FVec Ideal S1x256x1024 .bf16) (x10 : FVec Ideal S1x256x1024 .bf16) (x11 : FVec Ideal S1x512x1024 .bf16) (x12 x13 x14 x15) : k0_pay11 (F := Ideal) x0 x1 x2 x3 x4 x5 x6 x7 x8 x9 x10 x11 x12 x13 x14 x15 = k0_pay4 (F := Ideal) (k0_pay9 (F := Ideal) x0 x1 x2 x3 x4 x5 x6 x7 x8 x9 x10 x11 x12 x13 x14 x15) (k0_pay10 (F := Ideal) x0 x1 x2 x3 x4 x5 x6 x7 x8 x9 x10 x11 x12 x13 x14 x15) x5 x6 := by
  unfold k0_pay11
  simp (disch := decide) only [View.ld_unit_lit']

/-- A point's tokens after the output projection and its gated residual. -/
abbrev P9 : FVec Ideal S1024x1024 .f32 := k0_pay9 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
/-- A point's gain of the norm. -/
abbrev P10 : FVec Ideal S1x1024 .f32 := k0_pay10 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
/-- A point's modulated norm. -/
abbrev P11 : FVec Ideal S1024x1024 .f32 := k0_pay11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- The arrays of the reference at the kernel's arguments. -/
abbrev M : FVec Ideal S8x2048x1024 .f32 :=
  mixed (m (c, main_arg0)) (m (c, main_arg1)) (m (c, main_arg2)) (m (c, main_arg3)) (m (c, main_arg4)) (m (c, main_arg5))
abbrev H : FVec Ideal S8x2048x1024 .f32 := normed (M m c) (m (c, main_arg4)) (m (c, main_arg6))
abbrev A : FVec Ideal Cert.Reference2Ideal.S8x2048x4096 .f32 := hidden (H m c) (m (c, main_arg7)) (m (c, main_arg8))

theorem p9_at : P9 m c t (ix2 r j) = M m c (ix3 (row t) (tok t r) j) := by
  rw [P9, pay9_eq, pay2_at, M, mixed_at]
  simp only [blk0, blk1, blk2, blk3, blk4, blk9, blk10, blk11]

theorem p10_at : P10 m c t (ix2 (0 : Fin 1) j) = m (c, main_arg6) (ix2 (3 : Fin 4) j) := by
  rw [P10, pay10_eq]
  pointwise [k0_pay3]
  exact blk8 m c t j

theorem p4_at : k0_pay4 (F := Ideal) (P9 m c t) (P10 m c t) (iblk m c 5 t) (iblk m c 6 t) (ix2 r j) = H m c (ix3 (row t) (tok t r) j) := by
  rw [pay4_at, H, normed_at]
  simp only [p9_at, p10_at, blk5, blk6]

theorem p11_at : P11 m c t (ix2 r j) = H m c (ix3 (row t) (tok t r) j) := by
  rw [← p4_at]
  rw [P11, pay11_eq]

theorem emb_at : ((View.whole main_v16).slice (win0_16.rect t)).emb (ix3 (0 : Fin 1) r j) = ix3 (row t) (tok t r) j := by
  unfold row tok
  blk_ext [idx_val t]

theorem hid0 : max (∑ p : Fin 1024, H m c (ix3 (row t) (tok t r) p) * View.ld (iblk m c 12 t) r0_7 (ix3 (0 : Fin 1) p j)
      + View.ld (iblk m c 13 t) r0_8 (ix2 (0 : Fin 1) j)) 0 = A m c (ix3 (row t) (tok t r) ⟨0 * 1024 + j.val, by omega⟩) := by
  rw [A, hidden_at]
  simp only [ld7, ld8]
theorem hid1 : max (∑ p : Fin 1024, H m c (ix3 (row t) (tok t r) p) * View.ld (iblk m c 12 t) r0_10 (ix3 (0 : Fin 1) p j)
      + View.ld (iblk m c 13 t) r0_11 (ix2 (0 : Fin 1) j)) 0 = A m c (ix3 (row t) (tok t r) ⟨1 * 1024 + j.val, by omega⟩) := by
  rw [A, hidden_at]
  simp only [ld10, ld11]
theorem hid2 : max (∑ p : Fin 1024, H m c (ix3 (row t) (tok t r) p) * View.ld (iblk m c 12 t) r0_13 (ix3 (0 : Fin 1) p j)
      + View.ld (iblk m c 13 t) r0_14 (ix2 (0 : Fin 1) j)) 0 = A m c (ix3 (row t) (tok t r) ⟨2 * 1024 + j.val, by omega⟩) := by
  rw [A, hidden_at]
  simp only [ld13, ld14]
theorem hid3 : max (∑ p : Fin 1024, H m c (ix3 (row t) (tok t r) p) * View.ld (iblk m c 12 t) r0_16 (ix3 (0 : Fin 1) p j)
      + View.ld (iblk m c 13 t) r0_17 (ix2 (0 : Fin 1) j)) 0 = A m c (ix3 (row t) (tok t r) ⟨3 * 1024 + j.val, by omega⟩) := by
  rw [A, hidden_at]
  simp only [ld16, ld17]

/-- What a grid point stores is the reference's block. -/
theorem point : k0_pay1 (F := Ideal) (P9 m c t)
      (k0_pay7 (F := Ideal) (P11 m c t) (k0_pay5 (F := Ideal))
        (k0_pay6 (F := Ideal) (P9 m c t) (P10 m c t) (iblk m c 5 t) (iblk m c 6 t) (View.ld (iblk m c 12 t) r0_7) (View.ld (iblk m c 13 t) r0_8) (View.ld (iblk m c 14 t) r0_9))
        (View.ld (iblk m c 12 t) r0_10) (View.ld (iblk m c 13 t) r0_11) (View.ld (iblk m c 14 t) r0_12)
        (View.ld (iblk m c 12 t) r0_13) (View.ld (iblk m c 13 t) r0_14) (View.ld (iblk m c 14 t) r0_15))
      (k0_pay8 (F := Ideal) (P11 m c t) (View.ld (iblk m c 12 t) r0_16))
      (View.ld (iblk m c 13 t) r0_17) (View.ld (iblk m c 14 t) r0_18) (iblk m c 7 t) (iblk m c 15 t)
    (ix3 (0 : Fin 1) r j) = ref (m (c, main_arg0)) (m (c, main_arg1)) (m (c, main_arg2)) (m (c, main_arg3))
      (m (c, main_arg4)) (m (c, main_arg5)) (m (c, main_arg6)) (m (c, main_arg7)) (m (c, main_arg8)) (m (c, main_arg9))
      (m (c, main_arg10)) (ix3 (row t) (tok t r) j) := by
  rw [ref, result_at, Fin.sum_univ_four]
  rw [pay1_at]
  rw [pay7_at]
  rw [pay6_at, pay5_at]
  simp only [pay8_at, p11_at, p9_at, p4_at, ld9, ld12, ld15, ld18, blk7, blk15]
  rw [zero_add]
  refine congrArg₂ _ rfl (congrArg₂ _ rfl (congrArg₂ _ (congrArg₂ _ (congrArg₂ _ (congrArg₂ _ ?_ ?_) ?_) ?_) rfl)) <;>
    refine Finset.sum_congr rfl fun x _ => ?_
  · exact congrArg (fun z : EReal => z * z * _) (hid0 m c t r x)
  · exact congrArg (fun z : EReal => z * z * _) (hid1 m c t r x)
  · exact congrArg (fun z : EReal => z * z * _) (hid2 m c t r x)
  · exact congrArg (fun z : EReal => z * z * _) (hid3 m c t r x)

theorem final : (dats m 0 c).arrAt 16 (cfgs 0).N = ref (m (c, main_arg0)) (m (c, main_arg1)) (m (c, main_arg2)) (m (c, main_arg3))
      (m (c, main_arg4)) (m (c, main_arg5)) (m (c, main_arg6)) (m (c, main_arg7)) (m (c, main_arg8)) (m (c, main_arg9))
      (m (c, main_arg10)) := by
  refine (dats m 0 c).arrAt_eq_of_covers 16 _ (by decide +kernel) fun t _ y => ?_
  blk_simp
  rw [after0_16]; frame_out
  idx_vars y
  obtain rfl : y0 = 0 := Subsingleton.elim _ _
  rw [emb_at]
  exact point m c t y1 y2

end Cert.Mlp.K

end
-- ==== Proof.Mlp.Algebraic.lean ====
/- The value claim of the output projection and MLP (`Kernel2`): its runs end in the reference's result. -/
module

public import proofs.«01_k».proof.Defs
public import proofs.«01_k».proof.Proof.Mlp.Kernel
public import Idealize.ShloMosaic.Lib.Claim

@[expose] public section

set_option maxRecDepth 16384

noncomputable section

open Idealize.ShloMosaic Idealize.ShloMosaic.TcCoe Idealize.SL.Sem

namespace Cert.Mlp

open Cert.Kernel2Ideal Cert.Kernel2Ideal.Gen

theorem algebraic : Cert.algebraic_Kernel2Ideal_Reference2Ideal := by
  pair_intro
  · run_from Cert.Kernel2Ideal.Gen.run_main m g
    exact hc.1 16
  · run_from Cert.Reference2Ideal.Value.run m' g'
    rw [res_eq]
    simp only [hagree c]
    exact (K.final m c).symm

end Cert.Mlp

end
-- ==== Proof.Proj.Windows.lean ====
/- The arrays the projection call finds, as entries of the arguments. -/
module

public import proofs.«01_k».proof.Proof.Gen.Kernel3Ideal.Frame
public import proofs.«01_k».proof.Proof.Gen.Reference3Ideal.Run
public import Idealize.ShloMosaic.Lib.Pipeline.ValueKit
public import Idealize.ShloMosaic.Lib.Pointwise
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open scoped BigOperators

namespace Cert.Proj.K

open Cert.Kernel3Ideal Cert.Kernel3Ideal.Gen

variable (m : (ℓ : Loc nD τ sig) → Buf (Elt Ideal) ℓ) (c : Dev nD)

/-- The arguments: tokens, modulation, norm gains, input weights, the heads' and the latents' gains, the up-projections. -/
abbrev X : FVec Ideal S8x2048x1024 .f32 := m (c, main_arg0)
abbrev Mod : FVec Ideal S8x6144 .f32 := m (c, main_arg1)
abbrev G1 : FVec Ideal S4x1024 .f32 := m (c, main_arg2)
abbrev Win : FVec Ideal S4x1024x1952 .f32 := m (c, main_arg3)
abbrev Gnq : FVec Ideal S4x64 .f32 := m (c, main_arg4)
abbrev Gnk : FVec Ideal S4x64 .f32 := m (c, main_arg5)
abbrev Gqa : FVec Ideal S4x256 .f32 := m (c, main_arg6)
abbrev Gkva : FVec Ideal S4x128 .f32 := m (c, main_arg7)
abbrev Wq : FVec Ideal S4x256x768 .f32 := m (c, main_arg8)
abbrev Wkv : FVec Ideal S4x128x1024 .f32 := m (c, main_arg9)
abbrev Gq : FVec Ideal S4x96 .f32 := m (c, main_arg10)
abbrev Gk : FVec Ideal S4x96 .f32 := m (c, main_arg11)

/-- The rotary dim that a rotary dim is turned with: the two halves of each sixteen change places. -/
def swp (e : Fin 32) : Fin 32 := ⟨e.val / 16 * 16 + (e.val % 16 + 8) % 16, by omega⟩

/-- The angles of a token, per axis and frequency: the reference's own array of them, which depends on no argument. -/
abbrev ang (V0 : Valuation Cert.Reference3Ideal.τ Cert.Reference3Ideal.sig (Elt Ideal)) : FVec Ideal S2048x2x8 .f32 := Cert.Reference3Ideal.Value.res_main_v17 V0

theorem take4 {α : Type} (x : S4x256x8x32.Idx → α) (idx : IVec S32x1 32) (a : Fin 4) (d : Fin 256) (h : Fin 8) (e : Fin 32) :
    Host.gather gather_S4x256x8x32_S32x1_S4x256x8x32_012_3_n_n_3_1_425681 x idx (ix4 a d h e)
      = x (ix4 a d h ⟨min (idx (ix2 e 0)).toInt.toNat 31, by omega⟩) := by
  unfold Host.gather
  congr 1
  funext q
  refine Fin.ext ?_
  show GatherDims.start gather_S4x256x8x32_S32x1_S4x256x8x32_012_3_n_n_3_1_425681 (ix4 a d h e) idx q + GatherDims.batchCoord gather_S4x256x8x32_S32x1_S4x256x8x32_012_3_n_n_3_1_425681 (ix4 a d h e) q + GatherDims.offCoord gather_S4x256x8x32_S32x1_S4x256x8x32_012_3_n_n_3_1_425681 (ix4 a d h e) q = _
  rw [GatherDims.batchCoord_eq_zero _ _ _ List.not_mem_nil]
  unfold GatherDims.start GatherDims.offCoord
  obtain rfl | rfl | rfl | rfl : q = 0 ∨ q = 1 ∨ q = 2 ∨ q = 3 := by revert q; decide
  · rw [dif_neg (by decide), dif_pos (by decide)]
    have key : ∀ (n : Nat) (h : n < (gather_S4x256x8x32_S32x1_S4x256x8x32_012_3_n_n_3_1_425681).offsetDims.length), n = 0 → (gather_S4x256x8x32_S32x1_S4x256x8x32_012_3_n_n_3_1_425681).offsetDims[n] = 0 := by rintro _ _ rfl; rfl
    simp only [Nat.zero_add]
    exact congrArg (fun z => ((ix4 a d h e : Shape.Idx _) z).val) (key _ _ (by decide))
  · rw [dif_neg (by decide), dif_pos (by decide)]
    have key : ∀ (n : Nat) (h : n < (gather_S4x256x8x32_S32x1_S4x256x8x32_012_3_n_n_3_1_425681).offsetDims.length), n = 1 → (gather_S4x256x8x32_S32x1_S4x256x8x32_012_3_n_n_3_1_425681).offsetDims[n] = 1 := by rintro _ _ rfl; rfl
    simp only [Nat.zero_add]
    exact congrArg (fun z => ((ix4 a d h e : Shape.Idx _) z).val) (key _ _ (by decide))
  · rw [dif_neg (by decide), dif_pos (by decide)]
    have key : ∀ (n : Nat) (h : n < (gather_S4x256x8x32_S32x1_S4x256x8x32_012_3_n_n_3_1_425681).offsetDims.length), n = 2 → (gather_S4x256x8x32_S32x1_S4x256x8x32_012_3_n_n_3_1_425681).offsetDims[n] = 2 := by rintro _ _ rfl; rfl
    simp only [Nat.zero_add]
    exact congrArg (fun z => ((ix4 a d h e : Shape.Idx _) z).val) (key _ _ (by decide))
  · rw [dif_pos (by decide), dif_neg (by decide)]
    have key : ∀ z ∈ (gather_S4x256x8x32_S32x1_S4x256x8x32_012_3_n_n_3_1_425681).batchDims, z = 3 := by decide
    simp only [Nat.add_zero]
    refine congrArg (fun z => min (idx z).toInt.toNat 31) ?_
    funext b
    refine Fin.ext ?_
    obtain rfl | rfl : b = 0 ∨ b = 1 := by revert b; decide
    · unfold GatherDims.siIdx GatherDims.siCoord
      rw [dif_neg (by decide)]
      exact congrArg (fun z => ((ix4 a d h e : Shape.Idx _) z).val) (key _ (List.getElem_mem _))
    · rfl

theorem take2 {α : Type} (x : S4x32.Idx → α) (idx : IVec S32x1 32) (a : Fin 4) (e : Fin 32) :
    Host.gather gather_S4x32_S32x1_S4x32_0_1_n_n_1_1_41 x idx (ix2 a e)
      = x (ix2 a ⟨min (idx (ix2 e 0)).toInt.toNat 31, by omega⟩) := by
  unfold Host.gather
  congr 1
  funext q
  refine Fin.ext ?_
  show GatherDims.start gather_S4x32_S32x1_S4x32_0_1_n_n_1_1_41 (ix2 a e) idx q + GatherDims.batchCoord gather_S4x32_S32x1_S4x32_0_1_n_n_1_1_41 (ix2 a e) q + GatherDims.offCoord gather_S4x32_S32x1_S4x32_0_1_n_n_1_1_41 (ix2 a e) q = _
  rw [GatherDims.batchCoord_eq_zero _ _ _ List.not_mem_nil]
  unfold GatherDims.start GatherDims.offCoord
  obtain rfl | rfl : q = 0 ∨ q = 1 := by revert q; decide
  · rw [dif_neg (by decide), dif_pos (by decide)]
    have key : ∀ (n : Nat) (h : n < (gather_S4x32_S32x1_S4x32_0_1_n_n_1_1_41).offsetDims.length), n = 0 → (gather_S4x32_S32x1_S4x32_0_1_n_n_1_1_41).offsetDims[n] = 0 := by rintro _ _ rfl; rfl
    simp only [Nat.zero_add]
    exact congrArg (fun z => ((ix2 a e : Shape.Idx _) z).val) (key _ _ (by decide))
  · rw [dif_pos (by decide), dif_neg (by decide)]
    have key : ∀ z ∈ (gather_S4x32_S32x1_S4x32_0_1_n_n_1_1_41).batchDims, z = 1 := by decide
    simp only [Nat.add_zero]
    refine congrArg (fun z => min (idx z).toInt.toNat 31) ?_
    funext b
    refine Fin.ext ?_
    obtain rfl | rfl : b = 0 ∨ b = 1 := by revert b; decide
    · unfold GatherDims.siIdx GatherDims.siCoord
      rw [dif_neg (by decide)]
      exact congrArg (fun z => ((ix2 a e : Shape.Idx _) z).val) (key _ (List.getElem_mem _))
    · rfl

theorem take3 {α : Type} (x : S4x1024x32.Idx → α) (idx : IVec S32x1 32) (a : Fin 4) (d : Fin 1024) (e : Fin 32) :
    Host.gather gather_S4x1024x32_S32x1_S4x1024x32_01_2_n_n_2_1_410241 x idx (ix3 a d e)
      = x (ix3 a d ⟨min (idx (ix2 e 0)).toInt.toNat 31, by omega⟩) := by
  unfold Host.gather
  congr 1
  funext q
  refine Fin.ext ?_
  show GatherDims.start gather_S4x1024x32_S32x1_S4x1024x32_01_2_n_n_2_1_410241 (ix3 a d e) idx q + GatherDims.batchCoord gather_S4x1024x32_S32x1_S4x1024x32_01_2_n_n_2_1_410241 (ix3 a d e) q + GatherDims.offCoord gather_S4x1024x32_S32x1_S4x1024x32_01_2_n_n_2_1_410241 (ix3 a d e) q = _
  rw [GatherDims.batchCoord_eq_zero _ _ _ List.not_mem_nil]
  unfold GatherDims.start GatherDims.offCoord
  obtain rfl | rfl | rfl : q = 0 ∨ q = 1 ∨ q = 2 := by revert q; decide
  · rw [dif_neg (by decide), dif_pos (by decide)]
    have key : ∀ (n : Nat) (h : n < (gather_S4x1024x32_S32x1_S4x1024x32_01_2_n_n_2_1_410241).offsetDims.length), n = 0 → (gather_S4x1024x32_S32x1_S4x1024x32_01_2_n_n_2_1_410241).offsetDims[n] = 0 := by rintro _ _ rfl; rfl
    simp only [Nat.zero_add]
    exact congrArg (fun z => ((ix3 a d e : Shape.Idx _) z).val) (key _ _ (by decide))
  · rw [dif_neg (by decide), dif_pos (by decide)]
    have key : ∀ (n : Nat) (h : n < (gather_S4x1024x32_S32x1_S4x1024x32_01_2_n_n_2_1_410241).offsetDims.length), n = 1 → (gather_S4x1024x32_S32x1_S4x1024x32_01_2_n_n_2_1_410241).offsetDims[n] = 1 := by rintro _ _ rfl; rfl
    simp only [Nat.zero_add]
    exact congrArg (fun z => ((ix3 a d e : Shape.Idx _) z).val) (key _ _ (by decide))
  · rw [dif_pos (by decide), dif_neg (by decide)]
    have key : ∀ z ∈ (gather_S4x1024x32_S32x1_S4x1024x32_01_2_n_n_2_1_410241).batchDims, z = 2 := by decide
    simp only [Nat.add_zero]
    refine congrArg (fun z => min (idx z).toInt.toNat 31) ?_
    funext b
    refine Fin.ext ?_
    obtain rfl | rfl : b = 0 ∨ b = 1 := by revert b; decide
    · unfold GatherDims.siIdx GatherDims.siCoord
      rw [dif_neg (by decide)]
      exact congrArg (fun z => ((ix3 a d e : Shape.Idx _) z).val) (key _ (List.getElem_mem _))
    · rfl

/-- The table of the turned dims, as the gathers take it. -/
abbrev order1 : IVec S32x1 32 := broadcastInDim S32x1 ![0] bcast_S32_S32x1_0
        (select
          (cmpi CmpIPredicate.slt (fun i => lit1 (S32.rowMajor i))
            (broadcastInDim S32 ![] bcast_S_S32 (constantI S_ 32 0#32)))
          (addi (fun i => lit1 (S32.rowMajor i)) (broadcastInDim S32 ![] bcast_S_S32 (constantI S_ 32 32#32))) fun i =>
          lit1 (S32.rowMajor i))
abbrev order0 : IVec S32x1 32 := broadcastInDim S32x1 ![0] bcast_S32_S32x1_0
        (select
          (cmpi CmpIPredicate.slt (fun i => lit0 (S32.rowMajor i))
            (broadcastInDim S32 ![] bcast_S_S32 (constantI S_ 32 0#32)))
          (addi (fun i => lit0 (S32.rowMajor i)) (broadcastInDim S32 ![] bcast_S_S32 (constantI S_ 32 32#32))) fun i =>
          lit0 (S32.rowMajor i))

theorem order1_at (e : Fin 32) : (⟨min (order1 (ix2 e 0)).toInt.toNat 31, by omega⟩ : Fin 32) = swp e := by
  revert e
  decide +kernel

theorem order0_at (e : Fin 32) : (⟨min (order0 (ix2 e 0)).toInt.toNat 31, by omega⟩ : Fin 32) = swp e := by
  revert e
  decide +kernel

theorem wq_at (d : Fin 256) (h : Fin 8) (e : Fin 128) : (V m c main_v54 : FVec Ideal S4x256x1024 .bf16) (ix3 3 d ⟨h.val * 128 + e.val, by omega⟩) =
    if he : e.val < 96 then Wq m c (ix3 3 d ⟨h.val * 96 + e.val, by omega⟩) else (0 : EReal) := by
  unfold V
  rcases (by omega : e.val < 64 ∨ (64 ≤ e.val ∧ e.val < 96) ∨ 96 ≤ e.val) with he | he | he
  · after_reads_at
    try simp (disch := omega) only [dif_pos, dif_neg, if_pos, if_neg]
    try after_reads_at
    try simp (disch := omega) only [dif_pos, dif_neg, if_pos, if_neg]
    try after_reads_at
    all_goals first | rfl | exact congrArg _ (congrArg (ix3 3 d) (Fin.mk_eq_mk.mpr (by omega)))
  · after_reads_at
    try simp (disch := omega) only [dif_pos, dif_neg, if_pos, if_neg]
    try after_reads_at
    try simp (disch := omega) only [dif_pos, dif_neg, if_pos, if_neg]
    try after_reads_at
    all_goals first | rfl | exact congrArg _ (congrArg (ix3 3 d) (Fin.mk_eq_mk.mpr (by omega)))
  · after_reads_at
    try simp (disch := omega) only [dif_pos, dif_neg, if_pos, if_neg]
    try after_reads_at
    try simp (disch := omega) only [dif_pos, dif_neg, if_pos, if_neg]
    try after_reads_at
    all_goals first | rfl | exact congrArg _ (congrArg (ix3 3 d) (Fin.mk_eq_mk.mpr (by omega)))

theorem wqs_at (d : Fin 256) (h : Fin 8) (e : Fin 128) : (V m c main_v67 : FVec Ideal S4x256x1024 .bf16) (ix3 3 d ⟨h.val * 128 + e.val, by omega⟩) =
    if he : 64 ≤ e.val ∧ e.val < 96 then Wq m c (ix3 3 d ⟨h.val * 96 + 64 + (swp ⟨e.val - 64, by omega⟩).val, by omega⟩) else (0 : EReal) := by
  unfold V
  rcases (by omega : e.val < 64 ∨ (64 ≤ e.val ∧ e.val < 96) ∨ 96 ≤ e.val) with he | he | he
  · after_reads_at
    try simp (disch := omega) only [dif_pos, dif_neg, if_pos, if_neg]
    try after_reads_at
    try simp (disch := omega) only [dif_pos, dif_neg, if_pos, if_neg]
    try after_reads_at
    try rfl
  · after_reads_at
    try simp (disch := omega) only [dif_pos, dif_neg, if_pos, if_neg]
    try after_reads_at
    try simp (disch := omega) only [dif_pos, dif_neg, if_pos, if_neg]
    try after_reads_at
    refine (take4 _ order1 3 d _ _).trans ?_
    rw [order1_at]
    pointwise
    exact congrArg _ (congrArg (ix3 3 d) (Fin.mk_eq_mk.mpr (by simp only [swp]; omega)))
  · after_reads_at
    try simp (disch := omega) only [dif_pos, dif_neg, if_pos, if_neg]
    try after_reads_at
    try simp (disch := omega) only [dif_pos, dif_neg, if_pos, if_neg]
    try after_reads_at
    try rfl

theorem wkn_at (d : Fin 128) (h : Fin 8) (e : Fin 128) : (V m c main_v73 : FVec Ideal S4x128x1024 .bf16) (ix3 3 d ⟨h.val * 128 + e.val, by omega⟩) =
    if he : e.val < 64 then Wkv m c (ix3 3 d ⟨h.val * 128 + e.val, by omega⟩) else (0 : EReal) := by
  unfold V
  rcases (by omega : e.val < 64 ∨ (64 ≤ e.val ∧ e.val < 96) ∨ 96 ≤ e.val) with he | he | he
  · after_reads_at
    try simp (disch := omega) only [dif_pos, dif_neg, if_pos, if_neg]
    try after_reads_at
    try simp (disch := omega) only [dif_pos, dif_neg, if_pos, if_neg]
    try after_reads_at
    all_goals first | rfl | exact congrArg _ (congrArg (ix3 3 d) (Fin.mk_eq_mk.mpr (by omega)))
  · after_reads_at
    try simp (disch := omega) only [dif_pos, dif_neg, if_pos, if_neg]
    try after_reads_at
    try simp (disch := omega) only [dif_pos, dif_neg, if_pos, if_neg]
    try after_reads_at
    all_goals first | rfl | exact congrArg _ (congrArg (ix3 3 d) (Fin.mk_eq_mk.mpr (by omega)))
  · after_reads_at
    try simp (disch := omega) only [dif_pos, dif_neg, if_pos, if_neg]
    try after_reads_at
    try simp (disch := omega) only [dif_pos, dif_neg, if_pos, if_neg]
    try after_reads_at
    all_goals first | rfl | exact congrArg _ (congrArg (ix3 3 d) (Fin.mk_eq_mk.mpr (by omega)))

theorem wv_at (y : Fin 512) (d : Fin 128) : (V m c main_v77 : FVec Ideal S4x512x128 .bf16) (ix3 3 y d) =
   Wkv m c (ix3 3 d ⟨y.val / 64 * 128 + 64 + y.val % 64, by omega⟩) := by
  unfold V
  after_reads_at
  first | rfl | exact congrArg _ (congrArg (ix3 3 d) (Fin.mk_eq_mk.mpr (by omega)))

theorem gq0_at (e : Fin 128) : (V m c main_v112 : FVec Ideal S4x4x128 .f32) (ix3 3 0 e) =
    if he : e.val < 96 then Gq m c (ix2 3 ⟨e.val, he⟩) else (0 : EReal) := by
  unfold V
  rcases (by omega : e.val < 64 ∨ (64 ≤ e.val ∧ e.val < 96) ∨ 96 ≤ e.val) with he | he | he
  · after_reads_at
    try simp (disch := omega) only [dif_pos, dif_neg, if_pos, if_neg]
    try after_reads_at
    try simp (disch := omega) only [dif_pos, dif_neg, if_pos, if_neg]
    try after_reads_at
    all_goals first | rfl | exact congrArg _ (congrArg (ix2 3) (Fin.mk_eq_mk.mpr (by omega)))
  · after_reads_at
    try simp (disch := omega) only [dif_pos, dif_neg, if_pos, if_neg]
    try after_reads_at
    try simp (disch := omega) only [dif_pos, dif_neg, if_pos, if_neg]
    try after_reads_at
    all_goals first | rfl | exact congrArg _ (congrArg (ix2 3) (Fin.mk_eq_mk.mpr (by omega)))
  · after_reads_at
    try simp (disch := omega) only [dif_pos, dif_neg, if_pos, if_neg]
    try after_reads_at
    try simp (disch := omega) only [dif_pos, dif_neg, if_pos, if_neg]
    try after_reads_at
    all_goals first | rfl | exact congrArg _ (congrArg (ix2 3) (Fin.mk_eq_mk.mpr (by omega)))

theorem gq1_at (e : Fin 128) : (V m c main_v112 : FVec Ideal S4x4x128 .f32) (ix3 3 1 e) =
    if he : 64 ≤ e.val ∧ e.val < 96 then Gq m c (ix2 3 ⟨64 + (swp ⟨e.val - 64, by omega⟩).val, by omega⟩) else (0 : EReal) := by
  unfold V
  rcases (by omega : e.val < 64 ∨ (64 ≤ e.val ∧ e.val < 96) ∨ 96 ≤ e.val) with he | he | he
  · after_reads_at
    try simp (disch := omega) only [dif_pos, dif_neg, if_pos, if_neg]
    try after_reads_at
    try simp (disch := omega) only [dif_pos, dif_neg, if_pos, if_neg]
    try after_reads_at
    try rfl
  · after_reads_at
    try simp (disch := omega) only [dif_pos, dif_neg, if_pos, if_neg]
    try after_reads_at
    try simp (disch := omega) only [dif_pos, dif_neg, if_pos, if_neg]
    try after_reads_at
    refine (take2 _ order1 3 _).trans ?_
    rw [order1_at]
    pointwise
    try rfl
  · after_reads_at
    try simp (disch := omega) only [dif_pos, dif_neg, if_pos, if_neg]
    try after_reads_at
    try simp (disch := omega) only [dif_pos, dif_neg, if_pos, if_neg]
    try after_reads_at
    try rfl

theorem gk2_at (e : Fin 128) : (V m c main_v112 : FVec Ideal S4x4x128 .f32) (ix3 3 2 e) =
    if he : e.val < 96 then Gk m c (ix2 3 ⟨e.val, he⟩) else (0 : EReal) := by
  unfold V
  rcases (by omega : e.val < 64 ∨ (64 ≤ e.val ∧ e.val < 96) ∨ 96 ≤ e.val) with he | he | he
  · after_reads_at
    try simp (disch := omega) only [dif_pos, dif_neg, if_pos, if_neg]
    try after_reads_at
    try simp (disch := omega) only [dif_pos, dif_neg, if_pos, if_neg]
    try after_reads_at
    all_goals first | rfl | exact congrArg _ (congrArg (ix2 3) (Fin.mk_eq_mk.mpr (by omega)))
  · after_reads_at
    try simp (disch := omega) only [dif_pos, dif_neg, if_pos, if_neg]
    try after_reads_at
    try simp (disch := omega) only [dif_pos, dif_neg, if_pos, if_neg]
    try after_reads_at
    all_goals first | rfl | exact congrArg _ (congrArg (ix2 3) (Fin.mk_eq_mk.mpr (by omega)))
  · after_reads_at
    try simp (disch := omega) only [dif_pos, dif_neg, if_pos, if_neg]
    try after_reads_at
    try simp (disch := omega) only [dif_pos, dif_neg, if_pos, if_neg]
    try after_reads_at
    all_goals first | rfl | exact congrArg _ (congrArg (ix2 3) (Fin.mk_eq_mk.mpr (by omega)))

theorem gk3_at (e : Fin 128) : (V m c main_v112 : FVec Ideal S4x4x128 .f32) (ix3 3 3 e) =
    if he : 64 ≤ e.val ∧ e.val < 96 then Gk m c (ix2 3 ⟨64 + (swp ⟨e.val - 64, by omega⟩).val, by omega⟩) else (0 : EReal) := by
  unfold V
  rcases (by omega : e.val < 64 ∨ (64 ≤ e.val ∧ e.val < 96) ∨ 96 ≤ e.val) with he | he | he
  · after_reads_at
    try simp (disch := omega) only [dif_pos, dif_neg, if_pos, if_neg]
    try after_reads_at
    try simp (disch := omega) only [dif_pos, dif_neg, if_pos, if_neg]
    try after_reads_at
    try rfl
  · after_reads_at
    try simp (disch := omega) only [dif_pos, dif_neg, if_pos, if_neg]
    try after_reads_at
    try simp (disch := omega) only [dif_pos, dif_neg, if_pos, if_neg]
    try after_reads_at
    refine (take2 _ order1 3 _).trans ?_
    rw [order1_at]
    pointwise
    try rfl
  · after_reads_at
    try simp (disch := omega) only [dif_pos, dif_neg, if_pos, if_neg]
    try after_reads_at
    try simp (disch := omega) only [dif_pos, dif_neg, if_pos, if_neg]
    try after_reads_at
    try rfl

theorem wm_at (d : Fin 1024) (y : Fin 384) : (V m c main_v129 : FVec Ideal S4x1024x640 .bf16) (ix3 3 d ⟨y.val, by omega⟩) = Win m c (ix3 3 d ⟨1536 + y.val, by omega⟩) := by
  unfold V
  after_reads_at
  after_reads_at

theorem wkr_at (d : Fin 1024) (e : Fin 128) : (V m c main_v129 : FVec Ideal S4x1024x640 .bf16) (ix3 3 d ⟨384 + e.val, by omega⟩) =
    if he : 64 ≤ e.val ∧ e.val < 96 then Win m c (ix3 3 d ⟨1856 + e.val, by omega⟩) else (0 : EReal) := by
  unfold V
  rcases (by omega : e.val < 64 ∨ (64 ≤ e.val ∧ e.val < 96) ∨ 96 ≤ e.val) with he | he | he
  · after_reads_at
    try simp (disch := omega) only [dif_pos, dif_neg, if_pos, if_neg]
    try after_reads_at
    try simp (disch := omega) only [dif_pos, dif_neg, if_pos, if_neg]
    try after_reads_at
    all_goals first | rfl | exact congrArg _ (congrArg (ix3 3 d) (Fin.mk_eq_mk.mpr (by omega)))
  · after_reads_at
    try simp (disch := omega) only [dif_pos, dif_neg, if_pos, if_neg]
    try after_reads_at
    try simp (disch := omega) only [dif_pos, dif_neg, if_pos, if_neg]
    try after_reads_at
    all_goals first | rfl | exact congrArg _ (congrArg (ix3 3 d) (Fin.mk_eq_mk.mpr (by omega)))
  · after_reads_at
    try simp (disch := omega) only [dif_pos, dif_neg, if_pos, if_neg]
    try after_reads_at
    try simp (disch := omega) only [dif_pos, dif_neg, if_pos, if_neg]
    try after_reads_at
    all_goals first | rfl | exact congrArg _ (congrArg (ix3 3 d) (Fin.mk_eq_mk.mpr (by omega)))

theorem wkrs_at (d : Fin 1024) (e : Fin 128) : (V m c main_v129 : FVec Ideal S4x1024x640 .bf16) (ix3 3 d ⟨512 + e.val, by omega⟩) =
    if he : 64 ≤ e.val ∧ e.val < 96 then Win m c (ix3 3 d ⟨1920 + (swp ⟨e.val - 64, by omega⟩).val, by omega⟩) else (0 : EReal) := by
  unfold V
  rcases (by omega : e.val < 64 ∨ (64 ≤ e.val ∧ e.val < 96) ∨ 96 ≤ e.val) with he | he | he
  · after_reads_at
    try simp (disch := omega) only [dif_pos, dif_neg, if_pos, if_neg]
    try after_reads_at
    try simp (disch := omega) only [dif_pos, dif_neg, if_pos, if_neg]
    try after_reads_at
    try rfl
  · after_reads_at
    try simp (disch := omega) only [dif_pos, dif_neg, if_pos, if_neg]
    try after_reads_at
    try simp (disch := omega) only [dif_pos, dif_neg, if_pos, if_neg]
    try after_reads_at
    refine (take3 _ order0 3 d _).trans ?_
    rw [order0_at]
    pointwise
    try exact congrArg _ (congrArg (ix3 3 d) (Fin.mk_eq_mk.mpr (by simp only [swp]; omega)))
  · after_reads_at
    try simp (disch := omega) only [dif_pos, dif_neg, if_pos, if_neg]
    try after_reads_at
    try simp (disch := omega) only [dif_pos, dif_neg, if_pos, if_neg]
    try after_reads_at
    try rfl

theorem g1_at (y : Fin 1024) : (V m c main_v132 : FVec Ideal S1x1024 .f32) (ix2 0 y) = G1 m c (ix2 3 y) := by
  unfold V
  after_reads_at

theorem mod_at (b : Fin 8) (k : Fin 6) (y : Fin 1024) : (V m c main_v141 : FVec Ideal S8x6x1x1024 .f32) (ix4 b k 0 y) = Mod m c (ix2 b ⟨k.val * 1024 + y.val, by omega⟩) := by
  unfold V
  after_reads_at

theorem gqn_at (y : Fin 256) : (V m c main_v145 : FVec Ideal S1x256 .f32) (ix2 0 y) = Gnq m c (ix2 3 ⟨y.val % 64, by omega⟩) := by
  unfold V
  after_reads_at

theorem gkn_at (y : Fin 256) : (V m c main_v149 : FVec Ideal S1x256 .f32) (ix2 0 y) = Gnk m c (ix2 3 ⟨y.val % 64, by omega⟩) := by
  unfold V
  after_reads_at

theorem gqa_at (y : Fin 256) : (V m c main_v158 : FVec Ideal S1x256 .f32) (ix2 0 y) = Gqa m c (ix2 3 y) := by
  unfold V
  after_reads_at

theorem gkva_at (y : Fin 128) : (V m c main_v159 : FVec Ideal S1x128 .f32) (ix2 0 y) = Gkva m c (ix2 3 y) := by
  unfold V
  after_reads_at

theorem win_at (d : Fin 1024) (y : Fin 1952) : (V m c main_v46 : FVec Ideal S4x1024x1952 .bf16) (ix3 3 d y) = Win m c (ix3 3 d y) := by
  unfold V
  after_reads_at

/-- The number of an entry's head, as the host computes it: a quotient rounded down. -/
def headWord (d : Fin 256) : BitVec 32 := Scalar.select
          (IntOp.andi
            (IntOp.cmpi CmpIPredicate.ne
              (if BitVec.ofNat 32 d.val = 0 then (0 : BitVec 32) else if (BitVec.ofNat 32 d.val).msb = true then (-1 : BitVec 32) else 1)
              (if (64#32 : BitVec 32) = 0 then (0 : BitVec 32)
              else if BitVec.msb 64#32 = true then (-1 : BitVec 32) else 1))
            (IntOp.cmpi CmpIPredicate.ne
              (IntOp.remsi ArithUnit.host (BitVec.ofNat 32 d.val) 64#32) 0#32))
          (IntOp.subi (IntOp.divsi ArithUnit.host (BitVec.ofNat 32 d.val) 64#32) 1#32)
          (IntOp.divsi ArithUnit.host (BitVec.ofNat 32 d.val) 64#32)

theorem headWord_eq (d : Fin 256) : headWord d = BitVec.ofNat 32 (d.val / 64) := by
  revert d
  decide +kernel

theorem bd_at (d y : Fin 256) : (V m c main_v157 : FVec Ideal S256x256 .bf16) (ix2 d y) = if d.val / 64 = y.val / 64 then (1 : EReal) else 0 := by
  unfold V
  after_reads_at
  show FloatOps.uitofp (F := Ideal) FTy.bf16 (IntOp.cmpi CmpIPredicate.eq (headWord d) (headWord y)) = _
  rw [headWord_eq, headWord_eq]
  have hd := d.isLt
  have hy := y.isLt
  have hc : (BitVec.ofNat 32 (d.val / 64) = BitVec.ofNat 32 (y.val / 64)) ↔ d.val / 64 = y.val / 64 := by
    constructor
    · intro h
      have h' := congrArg BitVec.toNat h
      simp only [BitVec.toNat_ofNat] at h'
      omega
    · intro h
      rw [h]
  by_cases h : d.val / 64 = y.val / 64
  · rw [if_pos h, h]
    show (((BitVec.ofBool (BitVec.ofNat 32 (y.val / 64) == BitVec.ofNat 32 (y.val / 64))).toNat : ℝ) : EReal) = 1
    rw [beq_self_eq_true]
    simp
  · rw [if_neg h]
    show (((BitVec.ofBool (BitVec.ofNat 32 (d.val / 64) == BitVec.ofNat 32 (y.val / 64))).toNat : ℝ) : EReal) = 0
    rw [beq_eq_false_iff_ne.mpr (fun hh => h (hc.mp hh))]
    simp

end Cert.Proj.K
end
-- ==== Proof.Proj.Tables.lean ====
/- The rotary tables the projection call finds, and its blocks of every array. -/
module

public import proofs.«01_k».proof.Proof.Proj.Windows
public import proofs.«01_k».proof.Proof.Gen.Reference3Ideal.Run
public import Idealize.ShloMosaic.Lib.Pipeline.ValueKit
public import Idealize.ShloMosaic.Lib.Pointwise
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open scoped BigOperators

namespace Cert.Proj.K

open Cert.Kernel3Ideal Cert.Kernel3Ideal.Gen

variable (m : (ℓ : Loc nD τ sig) → Buf (Elt Ideal) ℓ) (c : Dev nD)

open Cert.Reference3Ideal.Value in
set_option maxHeartbeats 1000000 in
theorem cos_quarters (V0) (i : Fin 2048) (f : Fin 8) : (V m c main_v42 : FVec Ideal S2048x128 .f32) (ix2 i ⟨64 + f.val, by omega⟩) = (Ideal.cos (ang V0 (ix3 i 0 f)) : EReal) ∧
    (V m c main_v42 : FVec Ideal S2048x128 .f32) (ix2 i ⟨72 + f.val, by omega⟩) = (Ideal.cos (ang V0 (ix3 i 0 f)) : EReal) ∧
    (V m c main_v42 : FVec Ideal S2048x128 .f32) (ix2 i ⟨80 + f.val, by omega⟩) = (Ideal.cos (ang V0 (ix3 i 1 f)) : EReal) ∧
    (V m c main_v42 : FVec Ideal S2048x128 .f32) (ix2 i ⟨88 + f.val, by omega⟩) = (Ideal.cos (ang V0 (ix3 i 1 f)) : EReal) := by
  refine ⟨?_, ?_, ?_, ?_⟩
  all_goals
    unfold V
    after_reads_at
    simp (disch := omega) only [dif_pos, dif_neg, if_pos, if_neg]
    after_reads_at
    try simp (disch := omega) only [dif_pos, dif_neg, if_pos, if_neg]
    after_reads_at
    after_reads_at
    pointwise [ang, res_main_v17, res_main_v0, res_main_call0_v0, res_main_call0_v2, res_main_call1_v0, res_main_call1_v2, res_main_call1_v4]
    all_goals first
      | rfl
      | (rw [show 72 + f.val - 64 - 8 = f.val by omega]; try rfl)
      | (rw [show 80 + f.val - 64 - 8 - 8 = f.val by omega]; try rfl)
      | (rw [show 88 + f.val - 64 - 8 - 8 - 8 = f.val by omega]; try rfl)

open Cert.Reference3Ideal.Value in
set_option maxHeartbeats 1000000 in
theorem sin_quarters (V0) (i : Fin 2048) (f : Fin 8) : (V m c main_v45 : FVec Ideal S2048x128 .f32) (ix2 i ⟨64 + f.val, by omega⟩) = (-Ideal.sin (ang V0 (ix3 i 0 f)) : EReal) ∧
    (V m c main_v45 : FVec Ideal S2048x128 .f32) (ix2 i ⟨72 + f.val, by omega⟩) = (Ideal.sin (ang V0 (ix3 i 0 f)) : EReal) ∧
    (V m c main_v45 : FVec Ideal S2048x128 .f32) (ix2 i ⟨80 + f.val, by omega⟩) = (-Ideal.sin (ang V0 (ix3 i 1 f)) : EReal) ∧
    (V m c main_v45 : FVec Ideal S2048x128 .f32) (ix2 i ⟨88 + f.val, by omega⟩) = (Ideal.sin (ang V0 (ix3 i 1 f)) : EReal) := by
  refine ⟨?_, ?_, ?_, ?_⟩
  all_goals
    unfold V
    after_reads_at
    simp (disch := omega) only [dif_pos, dif_neg, if_pos, if_neg]
    after_reads_at
    try simp (disch := omega) only [dif_pos, dif_neg, if_pos, if_neg]
    after_reads_at
    after_reads_at
    pointwise [ang, res_main_v17, res_main_v0, res_main_call0_v0, res_main_call0_v2, res_main_call1_v0, res_main_call1_v2, res_main_call1_v4]
    all_goals first
      | rfl
      | (rw [show 72 + f.val - 64 - 8 = f.val by omega]; try rfl)
      | (rw [show 80 + f.val - 64 - 8 - 8 = f.val by omega]; try rfl)
      | (rw [show 88 + f.val - 64 - 8 - 8 - 8 = f.val by omega]; try rfl)

theorem table_low (i : Fin 2048) (e : Fin 128) (he : e.val < 64) :
    (V m c main_v42 : FVec Ideal S2048x128 .f32) (ix2 i e) = (1 : EReal) ∧ (V m c main_v45 : FVec Ideal S2048x128 .f32) (ix2 i e) = (0 : EReal) := by
  refine ⟨?_, ?_⟩
  all_goals
    unfold V
    after_reads_at
    simp (disch := omega) only [dif_pos, dif_neg, if_pos, if_neg]
    after_reads_at
    try rfl

theorem table_high (i : Fin 2048) (e : Fin 128) (he : 96 ≤ e.val) :
    (V m c main_v42 : FVec Ideal S2048x128 .f32) (ix2 i e) = (0 : EReal) ∧ (V m c main_v45 : FVec Ideal S2048x128 .f32) (ix2 i e) = (0 : EReal) := by
  refine ⟨?_, ?_⟩
  all_goals
    unfold V
    after_reads_at
    simp (disch := omega) only [dif_pos, dif_neg, if_pos, if_neg]
    after_reads_at
    try rfl

theorem idx_val : ∀ t : Fin cfg0.N, win0_0.index t = ![t.val / 2, t.val % 2, 0]
    ∧ win0_1.index t = ![t.val / 2, 0, 0, 0]
    ∧ win0_2.index t = ![t.val / 2, 1, 0, 0]
    ∧ win0_3.index t = ![0, 0]
    ∧ win0_4.index t = ![3, 0, 0]
    ∧ win0_5.index t = ![3, 0, 1]
    ∧ win0_6.index t = ![3, 0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![3, 0, 0]
    ∧ win0_13.index t = ![3, 0, 0]
    ∧ win0_14.index t = ![3, 0, 0]
    ∧ win0_15.index t = ![3, 0, 0]
    ∧ win0_16.index t = ![3, 0, 0]
    ∧ win0_17.index t = ![t.val % 2, 0]
    ∧ win0_18.index t = ![t.val % 2, 0] :=
  (by decide +kernel : ∀ t : Fin grid0.N, _)

theorem idx_out : ∀ t : Fin cfg0.N, win0_19.index t = ![t.val / 2, t.val % 2, 0]
    ∧ win0_20.index t = ![t.val / 2, 0, t.val % 2, 0]
    ∧ win0_21.index t = ![t.val / 2, 0, t.val % 2, 0]
    ∧ win0_22.index t = ![t.val / 2, 0, t.val % 2]
    ∧ win0_23.index t = ![t.val / 2, 0, t.val % 2, 0]
    ∧ win0_24.index t = ![t.val / 2, 0, t.val % 2, 0]
    ∧ win0_25.index t = ![t.val / 2, 0, t.val % 2] :=
  (by decide +kernel : ∀ t : Fin grid0.N, _)

/-- The batch row of a grid point. -/
def row (t : Fin cfg0.N) : Fin 8 := ⟨t.val / 2, by have h : t.val < 16 := t.isLt; omega⟩
/-- The token at a row of a grid point's block. -/
def tok (t : Fin cfg0.N) (r : Fin 1024) : Fin 2048 := ⟨t.val % 2 * 1024 + r.val, by omega⟩

variable (t : Fin cfg0.N)

theorem blk0 (r j : Fin 1024) : iblk m c 0 t (ix3 (0 : Fin 1) r j) = X m c (ix3 (row t) (tok t r) j) := by
  unfold row tok
  blk_point [iblk, V_main_arg0, idx_val t]
theorem blk1 (j : Fin 1024) : iblk m c 1 t (ix4 (0 : Fin 1) (0 : Fin 1) (0 : Fin 1) j) = Mod m c (ix2 (row t) ⟨j.val, by omega⟩) := by
  refine Eq.trans (b := (V m c main_v141 : FVec Ideal S8x6x1x1024 .f32) (ix4 (row t) 0 0 j)) ?_ ?_
  · unfold row
    blk_point [iblk, idx_val t]
  · rw [mod_at]
    exact congrArg _ (congrArg (ix2 _) (Fin.mk_eq_mk.mpr (by simp)))
theorem blk2 (j : Fin 1024) : iblk m c 2 t (ix4 (0 : Fin 1) (0 : Fin 1) (0 : Fin 1) j) = Mod m c (ix2 (row t) ⟨1024 + j.val, by omega⟩) := by
  refine Eq.trans (b := (V m c main_v141 : FVec Ideal S8x6x1x1024 .f32) (ix4 (row t) 1 0 j)) ?_ ?_
  · unfold row
    blk_point [iblk, idx_val t]
  · rw [mod_at]
    exact congrArg _ (congrArg (ix2 _) (Fin.mk_eq_mk.mpr (by simp)))
theorem blk3 (j : Fin 1024) : iblk m c 3 t (ix2 (0 : Fin 1) j) = G1 m c (ix2 3 j) := by
  refine Eq.trans (b := (V m c main_v132 : FVec Ideal S1x1024 .f32) (ix2 0 j)) ?_ (g1_at m c j)
  blk_point [iblk, idx_val t]
theorem blk6 (z : Fin 1024) (j : Fin 640) : iblk m c 6 t (ix3 (0 : Fin 1) z j) = (V m c main_v129 : FVec Ideal S4x1024x640 .bf16) (ix3 3 z j) := by
  blk_point [iblk, idx_val t]
theorem blk7 (j : Fin 256) : iblk m c 7 t (ix2 (0 : Fin 1) j) = (V m c main_v145 : FVec Ideal S1x256 .f32) (ix2 0 j) := by
  blk_point [iblk, idx_val t]
theorem blk8 (j : Fin 256) : iblk m c 8 t (ix2 (0 : Fin 1) j) = (V m c main_v149 : FVec Ideal S1x256 .f32) (ix2 0 j) := by
  blk_point [iblk, idx_val t]
theorem blk9 (z j : Fin 256) : iblk m c 9 t (ix2 z j) = (V m c main_v157 : FVec Ideal S256x256 .bf16) (ix2 z j) := by
  blk_point [iblk, idx_val t]
theorem blk10 (j : Fin 256) : iblk m c 10 t (ix2 (0 : Fin 1) j) = (V m c main_v158 : FVec Ideal S1x256 .f32) (ix2 0 j) := by
  blk_point [iblk, idx_val t]
theorem blk11 (j : Fin 128) : iblk m c 11 t (ix2 (0 : Fin 1) j) = (V m c main_v159 : FVec Ideal S1x128 .f32) (ix2 0 j) := by
  blk_point [iblk, idx_val t]
theorem blk12 (z : Fin 256) (j : Fin 1024) : iblk m c 12 t (ix3 (0 : Fin 1) z j) = (V m c main_v54 : FVec Ideal S4x256x1024 .bf16) (ix3 3 z j) := by
  blk_point [iblk, idx_val t]
theorem blk13 (z : Fin 128) (j : Fin 1024) : iblk m c 13 t (ix3 (0 : Fin 1) z j) = (V m c main_v73 : FVec Ideal S4x128x1024 .bf16) (ix3 3 z j) := by
  blk_point [iblk, idx_val t]
theorem blk14 (y : Fin 512) (z : Fin 128) : iblk m c 14 t (ix3 (0 : Fin 1) y z) = (V m c main_v77 : FVec Ideal S4x512x128 .bf16) (ix3 3 y z) := by
  blk_point [iblk, idx_val t]
theorem blk15 (a : Fin 4) (e : Fin 128) : iblk m c 15 t (ix3 (0 : Fin 1) a e) = (V m c main_v112 : FVec Ideal S4x4x128 .f32) (ix3 3 a e) := by
  blk_point [iblk, idx_val t]
theorem blk16 (z : Fin 256) (j : Fin 1024) : iblk m c 16 t (ix3 (0 : Fin 1) z j) = (V m c main_v67 : FVec Ideal S4x256x1024 .bf16) (ix3 3 z j) := by
  blk_point [iblk, idx_val t]
theorem blk17 (r : Fin 1024) (e : Fin 128) : iblk m c 17 t (ix2 r e) = (V m c main_v42 : FVec Ideal S2048x128 .f32) (ix2 (tok t r) e) := by
  unfold tok
  blk_point [iblk, idx_val t]
theorem blk18 (r : Fin 1024) (e : Fin 128) : iblk m c 18 t (ix2 r e) = (V m c main_v45 : FVec Ideal S2048x128 .f32) (ix2 (tok t r) e) := by
  unfold tok
  blk_point [iblk, idx_val t]

theorem blk4 (z : Fin 1024) (j : Fin 768) : X0_4 m c t (ix3 (0 : Fin 1) z j) = Win m c (ix3 3 z ⟨j.val, by omega⟩) := by
  refine Eq.trans (b := (V m c main_v46 : FVec Ideal S4x1024x1952 .bf16) (ix3 3 z ⟨j.val, by omega⟩)) ?_ (win_at m c _ _)
  unfold X0_4 Pipeline.Window.fill
  rw [dif_pos (moved0_4 t _)]
  blk_point [iblk, idx_val t]
theorem blk5 (z : Fin 1024) (j : Fin 768) : X0_5 m c t (ix3 (0 : Fin 1) z j) = Win m c (ix3 3 z ⟨768 + j.val, by omega⟩) := by
  refine Eq.trans (b := (V m c main_v46 : FVec Ideal S4x1024x1952 .bf16) (ix3 3 z ⟨768 + j.val, by omega⟩)) ?_ (win_at m c _ _)
  unfold X0_5 Pipeline.Window.fill
  rw [dif_pos (moved0_5 t _)]
  blk_point [iblk, idx_val t]

end Cert.Proj.K
end
-- ==== Proof.Proj.Body.lean ====
/- What one grid point of the projection call leaves in its seven output windows: every head the same function of its own columns. -/
module

public import proofs.«01_k».proof.Proof.Gen.Kernel3Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

namespace Cert.Proj.K

open Cert.Kernel3Ideal Cert.Kernel3Ideal.Gen

/-- A head's 128 columns. -/
def lanes (h : Nat) (hh : h < 8) (a : FVec Ideal S1024x1024 .f32) : FVec Ideal S1024x128 .f32 :=
  extractStridedSlice S1024x128 ![0, h * 128] a (by
    refine ⟨rfl, fun a => ?_⟩; fin_cases a <;> simp [S1024x1024, S1024x128] <;> omega)

/-- A head's 64 columns. -/
def dims (h : Nat) (hh : h < 4) (a : FVec Ideal S1024x256 .bf16) : FVec Ideal S1x1x1024x64 .bf16 :=
  shapeCast S1x1x1024x64 (extractStridedSlice S1024x64 ![0, h * 64] a (by
    refine ⟨rfl, fun a => ?_⟩; fin_cases a <;> simp [S1024x256, S1024x64] <;> omega)) shapeCasts_S1024x64_S1x1x1024x64

/-- The reciprocal of a row's root mean square over the 96 dims. -/
def invRms (x : FVec Ideal S1024x128 .f32) : FVec Ideal S1024x1 .f32 :=
  rsqrt (addf (mulf (shapeCast S1024x1 (multiReduction .add [1] S1024 (mulf x x) 0x00000000#32 reduces_S1024x128_S1024 (.inl rfl) rfl) shapeCasts_S1024_S1024x1)
    (broadcast S1024x1 (Named.named κ "inv_qk" 0x3C2AAAAB#32))) (broadcast S1024x1 (Scalar.ofBits (F := Ideal) .f32 0x358637BD#32)))

/-- A head's queries: turned, normed and scaled. -/
def queryUnit (xq xs aq bq : FVec Ideal S1024x128 .f32) : FVec Ideal S1x1x1024x128 .bf16 :=
  shapeCast S1x1x1024x128 (truncf .bf16 (mulf (addf (mulf xq aq) (mulf xs bq))
    (broadcastTo S1024x128 (mulf (invRms xq) (broadcast S1024x1 (Scalar.ofBits (F := Ideal) .f32 0x3E16C740#32))) broadcasts_S1024x1_S1024x128)) bitsLt_bf16_f32)
    shapeCasts_S1024x128_S1x1x1024x128

/-- A head's keys: turned and normed. -/
def keyUnit (xk ak rot : FVec Ideal S1024x128 .f32) : FVec Ideal S1x1x1024x128 .bf16 :=
  shapeCast S1x1x1024x128 (truncf .bf16 (mulf (addf (mulf xk ak) rot)
    (broadcastTo S1024x128 (invRms xk) broadcasts_S1024x1_S1024x128)) bitsLt_bf16_f32)
    shapeCasts_S1024x128_S1x1x1024x128

variable (x0 : Vec Ideal S1x1024x1024 .f32) (x1 : Vec Ideal S1x1x1x1024 .f32) (x2 : Vec Ideal S1x1x1x1024 .f32) (x3 : Vec Ideal S1x1024 .f32) (x4 : Vec Ideal S1x1024x768 .bf16) (x5 : Vec Ideal S1x1024x768 .bf16) (x6 : Vec Ideal S1x1024x640 .bf16) (x7 : Vec Ideal S1x256 .f32) (x8 : Vec Ideal S1x256 .f32) (x9 : Vec Ideal S256x256 .bf16) (x10 : Vec Ideal S1x256 .f32) (x11 : Vec Ideal S1x128 .f32) (x12 : Vec Ideal S1x256x1024 .bf16) (x13 : Vec Ideal S1x128x1024 .bf16) (x14 : Vec Ideal S1x512x128 .bf16) (x15 : Vec Ideal S1x4x128 .f32) (x16 : Vec Ideal S1x256x1024 .bf16) (x17 : Vec Ideal S1024x128 .f32) (x18 : Vec Ideal S1024x128 .f32)

/-- The modulated tokens. -/
def hid : FVec Ideal S1024x1024 .bf16 := k0_pay2 x0 x3 x1 x2
/-- The latent attention's columns of the input projection. -/
def lat : FVec Ideal S1024x640 .f32 := k0_pay3 x0 x3 x1 x2 x6
/-- The neighbourhood attention's columns of the input projection. -/
def near : FVec Ideal S1024x768 .f32 := k0_pay54 (hid x0 x1 x2 x3) x5
/-- The queries' latents, normed. -/
def cqn (p : FVec Ideal S1024x640 .f32) : FVec Ideal S1024x256 .bf16 := k0_pay8 p (k0_pay4 x10)
/-- The keys' and values' latents, normed. -/
def ckvn (p : FVec Ideal S1024x640 .f32) : FVec Ideal S1024x128 .bf16 := k0_pay9 p x11

/-- The queries of head `h`. -/
def headQ (h : Nat) (hh : h < 8) : FVec Ideal S1x1x1024x128 .bf16 :=
  queryUnit (lanes h hh (k0_pay10 (lat x0 x1 x2 x3 x6) (k0_pay4 x10) x12)) (lanes h hh (k0_pay14 (cqn x10 (lat x0 x1 x2 x3 x6)) x16))
    (k0_pay17 (k0_pay12 x15) x17) (k0_pay18 (k0_pay5 x15) x18)

/-- The keys of head `h`. -/
def headK (h : Nat) (hh : h < 8) : FVec Ideal S1x1x1024x128 .bf16 :=
  keyUnit (addf (lanes h hh (k0_pay11 (lat x0 x1 x2 x3 x6) x11 x13)) (k0_pay6 (lat x0 x1 x2 x3 x6)))
    (k0_pay19 (k0_pay13 x15) x17) (k0_pay20 (k0_pay5 x15) (k0_pay7 (lat x0 x1 x2 x3 x6)) x18)

/-- The neighbourhood attention's queries and keys, all heads side by side. -/
def nearQ : FVec Ideal S1024x256 .bf16 := k0_pay57 (hid x0 x1 x2 x3) x5 x7 x9
def nearK : FVec Ideal S1024x256 .bf16 :=
  k0_pay63 (k0_pay55 x8) (k0_pay56 x9) (k0_pay58 (hid x0 x1 x2 x3) x5) (k0_pay61 (hid x0 x1 x2 x3) x5) (k0_pay62 (hid x0 x1 x2 x3) x5 x9) (constant S1024x256 .f32 0x00000000#32)

set_option maxHeartbeats 0

variable (m : (ℓ : Loc nD τ sig) → Buf (Elt Ideal) ℓ) (c : Dev nD) (t : Fin cfg0.N)

theorem after_q : (dats m 0 c).after 23 t = View.canon
      [⟨Rect.unit (s := S1x8x1024x128) ![0, 7, 0, 0] S1x1x1024x128.size inb_S1x8x1024x128_S1x1x1024x128_0_7_0_0, headQ (iblk m c 0 t) (iblk m c 1 t) (iblk m c 2 t) (iblk m c 3 t) (iblk m c 6 t) (iblk m c 10 t) (iblk m c 12 t) (iblk m c 15 t) (iblk m c 16 t) (iblk m c 17 t) (iblk m c 18 t) 7 (by decide)⟩,
       ⟨Rect.unit (s := S1x8x1024x128) ![0, 6, 0, 0] S1x1x1024x128.size inb_S1x8x1024x128_S1x1x1024x128_0_6_0_0, headQ (iblk m c 0 t) (iblk m c 1 t) (iblk m c 2 t) (iblk m c 3 t) (iblk m c 6 t) (iblk m c 10 t) (iblk m c 12 t) (iblk m c 15 t) (iblk m c 16 t) (iblk m c 17 t) (iblk m c 18 t) 6 (by decide)⟩,
       ⟨Rect.unit (s := S1x8x1024x128) ![0, 5, 0, 0] S1x1x1024x128.size inb_S1x8x1024x128_S1x1x1024x128_0_5_0_0, headQ (iblk m c 0 t) (iblk m c 1 t) (iblk m c 2 t) (iblk m c 3 t) (iblk m c 6 t) (iblk m c 10 t) (iblk m c 12 t) (iblk m c 15 t) (iblk m c 16 t) (iblk m c 17 t) (iblk m c 18 t) 5 (by decide)⟩,
       ⟨Rect.unit (s := S1x8x1024x128) ![0, 4, 0, 0] S1x1x1024x128.size inb_S1x8x1024x128_S1x1x1024x128_0_4_0_0, headQ (iblk m c 0 t) (iblk m c 1 t) (iblk m c 2 t) (iblk m c 3 t) (iblk m c 6 t) (iblk m c 10 t) (iblk m c 12 t) (iblk m c 15 t) (iblk m c 16 t) (iblk m c 17 t) (iblk m c 18 t) 4 (by decide)⟩,
       ⟨Rect.unit (s := S1x8x1024x128) ![0, 3, 0, 0] S1x1x1024x128.size inb_S1x8x1024x128_S1x1x1024x128_0_3_0_0, headQ (iblk m c 0 t) (iblk m c 1 t) (iblk m c 2 t) (iblk m c 3 t) (iblk m c 6 t) (iblk m c 10 t) (iblk m c 12 t) (iblk m c 15 t) (iblk m c 16 t) (iblk m c 17 t) (iblk m c 18 t) 3 (by decide)⟩,
       ⟨Rect.unit (s := S1x8x1024x128) ![0, 2, 0, 0] S1x1x1024x128.size inb_S1x8x1024x128_S1x1x1024x128_0_2_0_0, headQ (iblk m c 0 t) (iblk m c 1 t) (iblk m c 2 t) (iblk m c 3 t) (iblk m c 6 t) (iblk m c 10 t) (iblk m c 12 t) (iblk m c 15 t) (iblk m c 16 t) (iblk m c 17 t) (iblk m c 18 t) 2 (by decide)⟩,
       ⟨Rect.unit (s := S1x8x1024x128) ![0, 1, 0, 0] S1x1x1024x128.size inb_S1x8x1024x128_S1x1x1024x128_0_1_0_0, headQ (iblk m c 0 t) (iblk m c 1 t) (iblk m c 2 t) (iblk m c 3 t) (iblk m c 6 t) (iblk m c 10 t) (iblk m c 12 t) (iblk m c 15 t) (iblk m c 16 t) (iblk m c 17 t) (iblk m c 18 t) 1 (by decide)⟩,
       ⟨Rect.unit (s := S1x8x1024x128) ![0, 0, 0, 0] S1x1x1024x128.size inb_S1x8x1024x128_S1x1x1024x128_0_0_0_0, headQ (iblk m c 0 t) (iblk m c 1 t) (iblk m c 2 t) (iblk m c 3 t) (iblk m c 6 t) (iblk m c 10 t) (iblk m c 12 t) (iblk m c 15 t) (iblk m c 16 t) (iblk m c 17 t) (iblk m c 18 t) 0 (by decide)⟩] := by
  rw [after0_23]; unfold Gen.outsAt0
  frame_open
  frame_out
  generalize iblk m c 0 t = x0
  generalize iblk m c 1 t = x1
  generalize iblk m c 2 t = x2
  generalize iblk m c 3 t = x3
  generalize X0_4 m c t = x4
  generalize X0_5 m c t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  generalize iblk m c 15 t = x15
  generalize iblk m c 16 t = x16
  generalize iblk m c 17 t = x17
  generalize iblk m c 18 t = x18
  rfl

theorem after_k : (dats m 0 c).after 24 t = View.canon
      [⟨Rect.unit (s := S1x8x1024x128) ![0, 7, 0, 0] S1x1x1024x128.size inb_S1x8x1024x128_S1x1x1024x128_0_7_0_0, headK (iblk m c 0 t) (iblk m c 1 t) (iblk m c 2 t) (iblk m c 3 t) (iblk m c 6 t) (iblk m c 11 t) (iblk m c 13 t) (iblk m c 15 t) (iblk m c 17 t) (iblk m c 18 t) 7 (by decide)⟩,
       ⟨Rect.unit (s := S1x8x1024x128) ![0, 6, 0, 0] S1x1x1024x128.size inb_S1x8x1024x128_S1x1x1024x128_0_6_0_0, headK (iblk m c 0 t) (iblk m c 1 t) (iblk m c 2 t) (iblk m c 3 t) (iblk m c 6 t) (iblk m c 11 t) (iblk m c 13 t) (iblk m c 15 t) (iblk m c 17 t) (iblk m c 18 t) 6 (by decide)⟩,
       ⟨Rect.unit (s := S1x8x1024x128) ![0, 5, 0, 0] S1x1x1024x128.size inb_S1x8x1024x128_S1x1x1024x128_0_5_0_0, headK (iblk m c 0 t) (iblk m c 1 t) (iblk m c 2 t) (iblk m c 3 t) (iblk m c 6 t) (iblk m c 11 t) (iblk m c 13 t) (iblk m c 15 t) (iblk m c 17 t) (iblk m c 18 t) 5 (by decide)⟩,
       ⟨Rect.unit (s := S1x8x1024x128) ![0, 4, 0, 0] S1x1x1024x128.size inb_S1x8x1024x128_S1x1x1024x128_0_4_0_0, headK (iblk m c 0 t) (iblk m c 1 t) (iblk m c 2 t) (iblk m c 3 t) (iblk m c 6 t) (iblk m c 11 t) (iblk m c 13 t) (iblk m c 15 t) (iblk m c 17 t) (iblk m c 18 t) 4 (by decide)⟩,
       ⟨Rect.unit (s := S1x8x1024x128) ![0, 3, 0, 0] S1x1x1024x128.size inb_S1x8x1024x128_S1x1x1024x128_0_3_0_0, headK (iblk m c 0 t) (iblk m c 1 t) (iblk m c 2 t) (iblk m c 3 t) (iblk m c 6 t) (iblk m c 11 t) (iblk m c 13 t) (iblk m c 15 t) (iblk m c 17 t) (iblk m c 18 t) 3 (by decide)⟩,
       ⟨Rect.unit (s := S1x8x1024x128) ![0, 2, 0, 0] S1x1x1024x128.size inb_S1x8x1024x128_S1x1x1024x128_0_2_0_0, headK (iblk m c 0 t) (iblk m c 1 t) (iblk m c 2 t) (iblk m c 3 t) (iblk m c 6 t) (iblk m c 11 t) (iblk m c 13 t) (iblk m c 15 t) (iblk m c 17 t) (iblk m c 18 t) 2 (by decide)⟩,
       ⟨Rect.unit (s := S1x8x1024x128) ![0, 1, 0, 0] S1x1x1024x128.size inb_S1x8x1024x128_S1x1x1024x128_0_1_0_0, headK (iblk m c 0 t) (iblk m c 1 t) (iblk m c 2 t) (iblk m c 3 t) (iblk m c 6 t) (iblk m c 11 t) (iblk m c 13 t) (iblk m c 15 t) (iblk m c 17 t) (iblk m c 18 t) 1 (by decide)⟩,
       ⟨Rect.unit (s := S1x8x1024x128) ![0, 0, 0, 0] S1x1x1024x128.size inb_S1x8x1024x128_S1x1x1024x128_0_0_0_0, headK (iblk m c 0 t) (iblk m c 1 t) (iblk m c 2 t) (iblk m c 3 t) (iblk m c 6 t) (iblk m c 11 t) (iblk m c 13 t) (iblk m c 15 t) (iblk m c 17 t) (iblk m c 18 t) 0 (by decide)⟩] := by
  rw [after0_24]; unfold Gen.outsAt0
  frame_open
  frame_out
  generalize iblk m c 0 t = x0
  generalize iblk m c 1 t = x1
  generalize iblk m c 2 t = x2
  generalize iblk m c 3 t = x3
  generalize X0_4 m c t = x4
  generalize X0_5 m c t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  generalize iblk m c 15 t = x15
  generalize iblk m c 16 t = x16
  generalize iblk m c 17 t = x17
  generalize iblk m c 18 t = x18
  rfl

theorem after_nq : (dats m 0 c).after 20 t = View.canon
      [⟨Rect.unit (s := S1x4x1024x64) ![0, 3, 0, 0] S1x1x1024x64.size inb_S1x4x1024x64_S1x1x1024x64_0_3_0_0, dims 3 (by decide) (nearQ (iblk m c 0 t) (iblk m c 1 t) (iblk m c 2 t) (iblk m c 3 t) (X0_5 m c t) (iblk m c 7 t) (iblk m c 9 t))⟩,
       ⟨Rect.unit (s := S1x4x1024x64) ![0, 2, 0, 0] S1x1x1024x64.size inb_S1x4x1024x64_S1x1x1024x64_0_2_0_0, dims 2 (by decide) (nearQ (iblk m c 0 t) (iblk m c 1 t) (iblk m c 2 t) (iblk m c 3 t) (X0_5 m c t) (iblk m c 7 t) (iblk m c 9 t))⟩,
       ⟨Rect.unit (s := S1x4x1024x64) ![0, 1, 0, 0] S1x1x1024x64.size inb_S1x4x1024x64_S1x1x1024x64_0_1_0_0, dims 1 (by decide) (nearQ (iblk m c 0 t) (iblk m c 1 t) (iblk m c 2 t) (iblk m c 3 t) (X0_5 m c t) (iblk m c 7 t) (iblk m c 9 t))⟩,
       ⟨Rect.unit (s := S1x4x1024x64) ![0, 0, 0, 0] S1x1x1024x64.size inb_S1x4x1024x64_S1x1x1024x64_0_0_0_0, dims 0 (by decide) (nearQ (iblk m c 0 t) (iblk m c 1 t) (iblk m c 2 t) (iblk m c 3 t) (X0_5 m c t) (iblk m c 7 t) (iblk m c 9 t))⟩] := by
  rw [after0_20]; unfold Gen.outsAt0
  frame_open
  frame_out
  generalize iblk m c 0 t = x0
  generalize iblk m c 1 t = x1
  generalize iblk m c 2 t = x2
  generalize iblk m c 3 t = x3
  generalize X0_4 m c t = x4
  generalize X0_5 m c t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  generalize iblk m c 15 t = x15
  generalize iblk m c 16 t = x16
  generalize iblk m c 17 t = x17
  generalize iblk m c 18 t = x18
  rfl

theorem after_nk : (dats m 0 c).after 21 t = View.canon
      [⟨Rect.unit (s := S1x4x1024x64) ![0, 3, 0, 0] S1x1x1024x64.size inb_S1x4x1024x64_S1x1x1024x64_0_3_0_0, dims 3 (by decide) (nearK (iblk m c 0 t) (iblk m c 1 t) (iblk m c 2 t) (iblk m c 3 t) (X0_5 m c t) (iblk m c 8 t) (iblk m c 9 t))⟩,
       ⟨Rect.unit (s := S1x4x1024x64) ![0, 2, 0, 0] S1x1x1024x64.size inb_S1x4x1024x64_S1x1x1024x64_0_2_0_0, dims 2 (by decide) (nearK (iblk m c 0 t) (iblk m c 1 t) (iblk m c 2 t) (iblk m c 3 t) (X0_5 m c t) (iblk m c 8 t) (iblk m c 9 t))⟩,
       ⟨Rect.unit (s := S1x4x1024x64) ![0, 1, 0, 0] S1x1x1024x64.size inb_S1x4x1024x64_S1x1x1024x64_0_1_0_0, dims 1 (by decide) (nearK (iblk m c 0 t) (iblk m c 1 t) (iblk m c 2 t) (iblk m c 3 t) (X0_5 m c t) (iblk m c 8 t) (iblk m c 9 t))⟩,
       ⟨Rect.unit (s := S1x4x1024x64) ![0, 0, 0, 0] S1x1x1024x64.size inb_S1x4x1024x64_S1x1x1024x64_0_0_0_0, dims 0 (by decide) (nearK (iblk m c 0 t) (iblk m c 1 t) (iblk m c 2 t) (iblk m c 3 t) (X0_5 m c t) (iblk m c 8 t) (iblk m c 9 t))⟩] := by
  rw [after0_21]; unfold Gen.outsAt0
  frame_open
  frame_out
  generalize iblk m c 0 t = x0
  generalize iblk m c 1 t = x1
  generalize iblk m c 2 t = x2
  generalize iblk m c 3 t = x3
  generalize X0_4 m c t = x4
  generalize X0_5 m c t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  generalize iblk m c 15 t = x15
  generalize iblk m c 16 t = x16
  generalize iblk m c 17 t = x17
  generalize iblk m c 18 t = x18
  rfl

theorem after_hy : (dats m 0 c).after 19 t = k0_pay1 (F := Ideal) (k0_pay74 (hid (iblk m c 0 t) (iblk m c 1 t) (iblk m c 2 t) (iblk m c 3 t)) (X0_4 m c t)) := by
  rw [after0_19]; unfold Gen.outsAt0
  frame_open
  frame_out
  generalize iblk m c 0 t = x0
  generalize iblk m c 1 t = x1
  generalize iblk m c 2 t = x2
  generalize iblk m c 3 t = x3
  generalize X0_4 m c t = x4
  generalize X0_5 m c t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  generalize iblk m c 15 t = x15
  generalize iblk m c 16 t = x16
  generalize iblk m c 17 t = x17
  generalize iblk m c 18 t = x18
  rfl

theorem after_nv : (dats m 0 c).after 22 t = k0_pay73 (F := Ideal) (near (iblk m c 0 t) (iblk m c 1 t) (iblk m c 2 t) (iblk m c 3 t) (X0_5 m c t)) := by
  rw [after0_22]; unfold Gen.outsAt0
  frame_open
  frame_out
  generalize iblk m c 0 t = x0
  generalize iblk m c 1 t = x1
  generalize iblk m c 2 t = x2
  generalize iblk m c 3 t = x3
  generalize X0_4 m c t = x4
  generalize X0_5 m c t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  generalize iblk m c 15 t = x15
  generalize iblk m c 16 t = x16
  generalize iblk m c 17 t = x17
  generalize iblk m c 18 t = x18
  rfl

theorem after_mv : (dats m 0 c).after 25 t = k0_pay53 (F := Ideal) (k0_pay52 (ckvn (iblk m c 11 t) (lat (iblk m c 0 t) (iblk m c 1 t) (iblk m c 2 t) (iblk m c 3 t) (iblk m c 6 t))) (iblk m c 14 t)) := by
  rw [after0_25]; unfold Gen.outsAt0
  frame_open
  frame_out
  generalize iblk m c 0 t = x0
  generalize iblk m c 1 t = x1
  generalize iblk m c 2 t = x2
  generalize iblk m c 3 t = x3
  generalize X0_4 m c t = x4
  generalize X0_5 m c t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  generalize iblk m c 15 t = x15
  generalize iblk m c 16 t = x16
  generalize iblk m c 17 t = x17
  generalize iblk m c 18 t = x18
  rfl

end Cert.Proj.K
end
-- ==== Proof.Proj.Reference.lean ====
/- The projections of the latent tokens, written as functions of a token: the modulated norm, the columns of the input projection, the
   latent attention's up-projections, norms and rotary turn. The reference's seven results are these, entry by entry. -/
module

public import proofs.«01_k».proof.Proof.Gen.Reference3Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.Proj

open Cert.Reference3Ideal Cert.Reference3Ideal.Gen Cert.Reference3Ideal.Value

/-- The arguments, and the angles of every token per axis and frequency. -/
structure Args where
  x : FVec Ideal S8x2048x1024 .f32
  md : FVec Ideal S8x6144 .f32
  g1 : FVec Ideal S4x1024 .f32
  win : FVec Ideal S4x1024x1952 .f32
  gnq : FVec Ideal S4x64 .f32
  gnk : FVec Ideal S4x64 .f32
  gqa : FVec Ideal S4x256 .f32
  gkva : FVec Ideal S4x128 .f32
  wq : FVec Ideal S4x256x768 .f32
  wkv : FVec Ideal S4x128x1024 .f32
  gq : FVec Ideal S4x96 .f32
  gk : FVec Ideal S4x96 .f32
  ang : FVec Ideal S2048x2x8 .f32

/-- What the norms add to the mean square. -/
abbrev eps : EReal := Ideal.ofBits FTy.f32 0x358637BD#32

/-- The reciprocal of the root of `n` squares' mean. -/
def inv {k : Nat} (n : BitVec 32) (v : Fin k → EReal) : EReal :=
  Ideal.rsqrt (Ideal.div (∑ z : Fin k, v z * v z) (Ideal.ofBits FTy.f32 n) + eps)

namespace Args
variable (A : Args) (b : Fin 8) (i : Fin 2048)

def hidden (y : Fin 1024) : EReal :=
  A.x (ix3 b i y) * inv 0x44800000#32 (fun z : Fin 1024 => A.x (ix3 b i z)) * A.g1 (ix2 3 y) * (1 + A.md (ix2 b ⟨1024 + y.val, by omega⟩))
    + A.md (ix2 b ⟨y.val, by omega⟩)

def proj (y : Fin 1952) : EReal := ∑ z : Fin 1024, A.hidden b i z * A.win (ix3 3 z y)

def cq (y : Fin 256) : EReal := A.proj b i ⟨1536 + y.val, by omega⟩
def ckv (y : Fin 128) : EReal := A.proj b i ⟨1536 + (256 + y.val), by omega⟩
def cqn (y : Fin 256) : EReal := A.cq b i y * inv 0x43800000#32 (A.cq b i) * A.gqa (ix2 3 y)
def ckvn (y : Fin 128) : EReal := A.ckv b i y * inv 0x43000000#32 (A.ckv b i) * A.gkva (ix2 3 y)

/-- The head's queries, keys (rotary dims shared by the heads) and values before their norms. -/
def upq (h : Fin 8) (e : Fin 96) : EReal := ∑ d : Fin 256, A.cqn b i d * A.wq (ix3 3 d ⟨h.val * 96 + e.val, by omega⟩)
def upkv (h : Fin 8) (e : Fin 128) : EReal := ∑ d : Fin 128, A.ckvn b i d * A.wkv (ix3 3 d ⟨h.val * 128 + e.val, by omega⟩)
def upk (h : Fin 8) (e : Fin 96) : EReal :=
  if he : e.val < 64 then A.upkv b i h ⟨e.val, by omega⟩ else A.proj b i ⟨1536 + (384 + (e.val - 64)), by omega⟩

def nq (h : Fin 4) (d : Fin 64) : EReal := A.proj b i ⟨768 + (h.val * 64 + d.val), by omega⟩
def nk (h : Fin 4) (d : Fin 64) : EReal := A.proj b i ⟨768 + (256 + (h.val * 64 + d.val)), by omega⟩

end Args

/-- A head's 96 dims, normed. -/
def norm96 (v g : Fin 96 → EReal) (e : Fin 96) : EReal := v e * inv 0x42C00000#32 v * g e

/-- The rotary turn of dims 64 to 95: sixteen to an axis, the first eight of them the planes' first coordinates. -/
def turn (a : Fin 2 → Fin 8 → EReal) (v : Fin 96 → EReal) (e : Fin 96) : EReal :=
  if h0 : e.val < 64 then v e
  else if h1 : (e.val - 64) / 8 % 2 < 1 then
    v ⟨64 + ((e.val - 64) / 16 * 16 + (e.val - 64) % 8), by omega⟩ * Ideal.cos (a ⟨(e.val - 64) / 16, by omega⟩ ⟨(e.val - 64) % 8, by omega⟩)
      - v ⟨64 + ((e.val - 64) / 16 * 16 + 8 + (e.val - 64) % 8), by omega⟩ * Ideal.sin (a ⟨(e.val - 64) / 16, by omega⟩ ⟨(e.val - 64) % 8, by omega⟩)
  else
    v ⟨64 + ((e.val - 64) / 16 * 16 + 8 + (e.val - 64) % 8), by omega⟩ * Ideal.cos (a ⟨(e.val - 64) / 16, by omega⟩ ⟨(e.val - 64) % 8, by omega⟩)
      + v ⟨64 + ((e.val - 64) / 16 * 16 + (e.val - 64) % 8), by omega⟩ * Ideal.sin (a ⟨(e.val - 64) / 16, by omega⟩ ⟨(e.val - 64) % 8, by omega⟩)

namespace Args
variable (A : Args) (b : Fin 8) (i : Fin 2048)

def resHy (y : Fin 768) : EReal := A.proj b i ⟨y.val, by omega⟩
def resNq (h : Fin 4) (d : Fin 64) : EReal :=
  A.nq b i h d * inv 0x42800000#32 (A.nq b i h) * A.gnq (ix2 3 d) * Ideal.ofBits FTy.f32 0x3E38AA3B#32
def resNk (h : Fin 4) (d : Fin 64) : EReal := A.nk b i h d * inv 0x42800000#32 (A.nk b i h) * A.gnk (ix2 3 d)
def resNv (y : Fin 256) : EReal := A.proj b i ⟨768 + (512 + y.val), by omega⟩
def resMq (h : Fin 8) (e : Fin 128) : EReal :=
  if he : e.val < 96 then turn (fun a f => A.ang (ix3 i a f)) (norm96 (A.upq b i h) (fun z => A.gq (ix2 3 z))) ⟨e.val, he⟩ * Ideal.ofBits FTy.f32 0x3E16C740#32 else 0
def resMk (h : Fin 8) (e : Fin 128) : EReal :=
  if he : e.val < 96 then turn (fun a f => A.ang (ix3 i a f)) (norm96 (A.upk b i h) (fun z => A.gk (ix2 3 z))) ⟨e.val, he⟩ else 0
def resMv (y : Fin 512) : EReal := A.upkv b i ⟨y.val / 64, by omega⟩ ⟨64 + y.val % 64, by omega⟩

end Args

variable (V0 : Valuation τ sig (Elt Ideal)) (b : Fin 8) (i : Fin 2048)

/-- The reference's arguments. -/
def argsOf : Args :=
  ⟨V0 (Proc.devRef .tc main_arg0), V0 (Proc.devRef .tc main_arg1), V0 (Proc.devRef .tc main_arg2), V0 (Proc.devRef .tc main_arg3),
    V0 (Proc.devRef .tc main_arg4), V0 (Proc.devRef .tc main_arg5), V0 (Proc.devRef .tc main_arg6), V0 (Proc.devRef .tc main_arg7),
    V0 (Proc.devRef .tc main_arg8), V0 (Proc.devRef .tc main_arg9), V0 (Proc.devRef .tc main_arg10), V0 (Proc.devRef .tc main_arg11),
    res_main_v17 V0⟩

set_option maxHeartbeats 1000000

theorem v52_at (y : Fin 1952) : (res_main_v52 V0 : FVec Ideal S8x2048x1952 .f32) (ix3 b i y) = (argsOf V0).proj b i y := by
  pointwise [res_main_v52, res_main_v22]
  rfl

theorem v116_at (h : Fin 8) (e : Fin 96) : (res_main_v116 V0 : FVec Ideal S8x2048x8x96 .f32) (ix4 b i h e) = (argsOf V0).upq b i h e := by
  pointwise [res_main_v116, res_main_v95, res_main_v55]
  simp only [v52_at, Args.upq, Args.cqn, Args.cq, inv, eps]
  rfl

theorem v135_at (h : Fin 8) (e : Fin 128) : (res_main_v135 V0 : FVec Ideal S8x2048x8x128 .f32) (ix4 b i h e) = (argsOf V0).upkv b i h e := by
  pointwise [res_main_v135, res_main_v96, res_main_v55]
  simp only [v52_at, Args.upkv, Args.ckvn, Args.ckv, inv, eps]
  rfl

theorem v139_at (h : Fin 8) (e : Fin 96) : (res_main_v139 V0 : FVec Ideal S8x2048x8x96 .f32) (ix4 b i h e) = (argsOf V0).upk b i h e := by
  pointwise [res_main_v139, res_main_v55]
  simp only [v52_at, v135_at, Args.upk]
  try rfl

theorem v154_at (h : Fin 8) (e : Fin 96) : (res_main_v154 V0 : FVec Ideal S8x2048x8x96 .f32) (ix4 b i h e)
    = norm96 ((argsOf V0).upq b i h) (fun z => (argsOf V0).gq (ix2 3 z)) e := by
  pointwise [res_main_v154]
  simp only [v116_at, norm96, inv, eps]
  rfl

theorem v169_at (h : Fin 8) (e : Fin 96) : (res_main_v169 V0 : FVec Ideal S8x2048x8x96 .f32) (ix4 b i h e)
    = norm96 ((argsOf V0).upk b i h) (fun z => (argsOf V0).gk (ix2 3 z)) e := by
  pointwise [res_main_v169]
  simp only [v139_at, norm96, inv, eps]
  rfl

theorem hy_at (y : Fin 768) : (val5 V0 (Proc.devRef .tc main_v223) : FVec Ideal S8x2048x768 .bf16) (ix3 b i y) = (argsOf V0).resHy b i y := by
  rw [val5_main_v223]
  pointwise
  simp only [v52_at, Args.resHy]

theorem nq_at (h : Fin 4) (d : Fin 64) : (val5 V0 (Proc.devRef .tc main_v226) : FVec Ideal S8x4x2048x64 .bf16) (ix4 b h i d) = (argsOf V0).resNq b i h d := by
  rw [val5_main_v226]
  pointwise [res_main_v60, res_main_v54]
  simp only [v52_at, Args.resNq, Args.nq, inv, eps]
  rfl

theorem nk_at (h : Fin 4) (d : Fin 64) : (val5 V0 (Proc.devRef .tc main_v227) : FVec Ideal S8x4x2048x64 .bf16) (ix4 b h i d) = (argsOf V0).resNk b i h d := by
  rw [val5_main_v227]
  pointwise [res_main_v77, res_main_v54]
  simp only [v52_at, Args.resNk, Args.nk, inv, eps]
  rfl

theorem nv_at (y : Fin 256) : (val5 V0 (Proc.devRef .tc main_v230) : FVec Ideal S8x256x2048 .bf16) (ix3 b y i) = (argsOf V0).resNv b i y := by
  rw [val5_main_v230]
  pointwise [res_main_v54]
  simp only [v52_at, Args.resNv]

theorem mv_at (y : Fin 512) : (val5 V0 (Proc.devRef .tc main_v242) : FVec Ideal S8x512x2048 .bf16) (ix3 b y i) = (argsOf V0).resMv b i y := by
  rw [val5_main_v242]
  pointwise
  simp only [v135_at, Args.resMv]

theorem cos_at (a : Fin 2) (f : Fin 8) : (res_main_v19 V0 : FVec Ideal S2048x1x2x8 .f32) (ix4 i 0 a f) = Ideal.cos ((argsOf V0).ang (ix3 i a f)) := by
  pointwise [res_main_v19]
  rfl

theorem sin_at (a : Fin 2) (f : Fin 8) : (res_main_v21 V0 : FVec Ideal S2048x1x2x8 .f32) (ix4 i 0 a f) = Ideal.sin ((argsOf V0).ang (ix3 i a f)) := by
  pointwise [res_main_v21]
  rfl

theorem sitofp_zero : (FloatOps.sitofp (F := Ideal) FTy.f32 (0#32 : BitVec 32) : EReal) = 0 := by
  show (((0#32 : BitVec 32).toInt : ℝ) : EReal) = 0
  simp

theorem mk_at (h : Fin 8) (e : Fin 128) : (val5 V0 (Proc.devRef .tc main_v238) : FVec Ideal S8x8x2048x128 .bf16) (ix4 b h i e) = (argsOf V0).resMk b i h e := by
  rw [val5_main_v238]
  pointwise [res_main_v199, res_main_v201, res_main_v203]
  simp only [v169_at, cos_at, sin_at, sitofp_zero, Args.resMk, turn]
  try rfl

theorem mq_at (h : Fin 8) (e : Fin 128) : (val5 V0 (Proc.devRef .tc main_v235) : FVec Ideal S8x8x2048x128 .bf16) (ix4 b h i e) = (argsOf V0).resMq b i h e := by
  rw [val5_main_v235]
  pointwise [res_main_v173, res_main_v175, res_main_v177]
  simp only [v154_at, cos_at, sin_at, sitofp_zero, Args.resMq, turn]
  try rfl

end Cert.Proj
end
-- ==== Proof.Proj.Entry.lean ====
/- The pieces of the projection's body read at an index, its blocks any arrays. -/
module

public import proofs.«01_k».proof.Proof.Proj.Body
public import proofs.«01_k».proof.Proof.Proj.Reference
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

namespace Cert.Proj.K

open Cert.Kernel3Ideal Cert.Kernel3Ideal.Gen

/-- The named constant is the rational 1/96. -/
theorem inv_qk : Named.named (F := Ideal) Cert.Kernel3Ideal.κ "inv_qk" (φ := .f32) 0x3C2AAAAB#32 = ((1 / 96 : ℝ) : EReal) :=
  IdealRules.named_const.ideal_named_scalar _ _ _ _ rfl

variable (x0 : Vec Ideal S1x1024x1024 .f32) (x1 : Vec Ideal S1x1x1x1024 .f32) (x2 : Vec Ideal S1x1x1x1024 .f32) (x3 : Vec Ideal S1x1024 .f32) (x4 : Vec Ideal S1x1024x768 .bf16) (x5 : Vec Ideal S1x1024x768 .bf16) (x6 : Vec Ideal S1x1024x640 .bf16) (x7 : Vec Ideal S1x256 .f32) (x8 : Vec Ideal S1x256 .f32) (x9 : Vec Ideal S256x256 .bf16) (x10 : Vec Ideal S1x256 .f32) (x11 : Vec Ideal S1x128 .f32) (x12 : Vec Ideal S1x256x1024 .bf16) (x13 : Vec Ideal S1x128x1024 .bf16) (x14 : Vec Ideal S1x512x128 .bf16) (x15 : Vec Ideal S1x4x128 .f32) (x16 : Vec Ideal S1x256x1024 .bf16) (x17 : Vec Ideal S1024x128 .f32) (x18 : Vec Ideal S1024x128 .f32)

variable (r : Fin 1024)

theorem hid_at (j : Fin 1024) : hid x0 x1 x2 x3 (ix2 r j) = x0 (ix3 0 r j) * inv 0x44800000#32 (fun z : Fin 1024 => x0 (ix3 0 r z)) * x3 (ix2 0 j)
    * (1 + x2 (ix4 0 0 0 j)) + x1 (ix4 0 0 0 j) := by
  pointwise [hid, k0_pay2]
  rfl

theorem lat_at (y : Fin 640) : lat x0 x1 x2 x3 x6 (ix2 r y) = ∑ z : Fin 1024, hid x0 x1 x2 x3 (ix2 r z) * x6 (ix3 0 z y) := by
  pointwise [lat, k0_pay3]
  rfl

theorem near_at (y : Fin 768) : near x0 x1 x2 x3 x5 (ix2 r y) = ∑ z : Fin 1024, hid x0 x1 x2 x3 (ix2 r z) * x5 (ix3 0 z y) := by
  pointwise [near, k0_pay54]

theorem hy_at' (y : Fin 768) : k0_pay1 (F := Ideal) (k0_pay74 (hid x0 x1 x2 x3) x4) (ix3 0 r y) = ∑ z : Fin 1024, hid x0 x1 x2 x3 (ix2 r z) * x4 (ix3 0 z y) := by
  pointwise [k0_pay1, k0_pay74]

variable (p : FVec Ideal S1024x640 .f32)

theorem cqn_at (y : Fin 256) : cqn x10 p (ix2 r y) = p (ix2 r ⟨y.val, by omega⟩) * inv 0x43800000#32 (fun z : Fin 256 => p (ix2 r ⟨z.val, by omega⟩)) * x10 (ix2 0 y) := by
  pointwise [cqn, k0_pay8, k0_pay4]
  simp only [inv, Nat.zero_add]
  try rfl

theorem ckvn_at (y : Fin 128) : ckvn x11 p (ix2 r y) = p (ix2 r ⟨256 + y.val, by omega⟩) * inv 0x43000000#32 (fun z : Fin 128 => p (ix2 r ⟨256 + z.val, by omega⟩)) * x11 (ix2 0 y) := by
  pointwise [ckvn, k0_pay9]
  rfl

theorem lanes_at (h : Fin 8) (a : FVec Ideal S1024x1024 .f32) (e : Fin 128) : lanes h.val h.isLt a (ix2 r e) = a (ix2 r ⟨h.val * 128 + e.val, by omega⟩) := by
  pointwise [lanes]

theorem queryUnit_at (xq xs aq bq : FVec Ideal S1024x128 .f32) (e : Fin 128) : queryUnit xq xs aq bq (ix4 0 0 r e)
    = (xq (ix2 r e) * aq (ix2 r e) + xs (ix2 r e) * bq (ix2 r e)) * (Ideal.rsqrt ((∑ z : Fin 128, xq (ix2 r z) * xq (ix2 r z)) * ((1 / 96 : ℝ) : EReal) + eps) * Ideal.ofBits FTy.f32 0x3E16C740#32) := by
  rw [← inv_qk]
  pointwise [queryUnit, invRms]

theorem keyUnit_at (xk ak rot : FVec Ideal S1024x128 .f32) (e : Fin 128) : keyUnit xk ak rot (ix4 0 0 r e)
    = (xk (ix2 r e) * ak (ix2 r e) + rot (ix2 r e)) * Ideal.rsqrt ((∑ z : Fin 128, xk (ix2 r z) * xk (ix2 r z)) * ((1 / 96 : ℝ) : EReal) + eps) := by
  rw [← inv_qk]
  pointwise [keyUnit, invRms]

theorem qa_at (y : Fin 1024) : k0_pay10 p (k0_pay4 x10) x12 (ix2 r y) = ∑ d : Fin 256, cqn x10 p (ix2 r d) * x12 (ix3 0 d y) := by
  pointwise [k0_pay10, cqn]

theorem qs_at (y : Fin 1024) : k0_pay14 (cqn x10 p) x16 (ix2 r y) = ∑ d : Fin 256, cqn x10 p (ix2 r d) * x16 (ix3 0 d y) := by
  pointwise [k0_pay14]

theorem kn_at (y : Fin 1024) : k0_pay11 p x11 x13 (ix2 r y) = ∑ d : Fin 128, ckvn x11 p (ix2 r d) * x13 (ix3 0 d y) := by
  pointwise [k0_pay11, ckvn]

theorem aq_at (e : Fin 128) : k0_pay17 (F := Ideal) (k0_pay12 x15) x17 (ix2 r e) = x15 (ix3 0 0 e) * x17 (ix2 r e) := by
  pointwise [k0_pay17, k0_pay12, k0_pay5, k0_pay15]

theorem bq_at (e : Fin 128) : k0_pay18 (F := Ideal) (k0_pay5 x15) x18 (ix2 r e) = x15 (ix3 0 1 e) * x18 (ix2 r e) := by
  pointwise [k0_pay18, k0_pay5, k0_pay16]

theorem ak_at (e : Fin 128) : k0_pay19 (F := Ideal) (k0_pay13 x15) x17 (ix2 r e) = x15 (ix3 0 2 e) * x17 (ix2 r e) := by
  pointwise [k0_pay19, k0_pay13, k0_pay5, k0_pay15]

theorem rot_at (e : Fin 128) : k0_pay20 (F := Ideal) (k0_pay5 x15) (k0_pay7 p) x18 (ix2 r e) = p (ix2 r ⟨512 + e.val, by omega⟩) * (x15 (ix3 0 3 e) * x18 (ix2 r e)) := by
  pointwise [k0_pay20, k0_pay5, k0_pay7, k0_pay16]

theorem kr_at (e : Fin 128) : k0_pay6 (F := Ideal) p (ix2 r e) = p (ix2 r ⟨384 + e.val, by omega⟩) := by
  pointwise [k0_pay6]

theorem mv_at' (y : Fin 512) : k0_pay53 (F := Ideal) (k0_pay52 (ckvn x11 p) x14) (ix3 0 y r) = ∑ d : Fin 128, x14 (ix3 0 y d) * ckvn x11 p (ix2 r d) := by
  pointwise [k0_pay53, k0_pay52]

theorem nv_at' (y : Fin 256) (q : FVec Ideal S1024x768 .f32) : k0_pay73 (F := Ideal) q (ix3 0 y r) = q (ix2 r ⟨512 + y.val, by omega⟩) := by
  pointwise [k0_pay73]

theorem dims_at (h : Fin 4) (a : FVec Ideal S1024x256 .bf16) (e : Fin 64) : dims h.val h.isLt a (ix4 0 0 r e) = a (ix2 r ⟨h.val * 64 + e.val, by omega⟩) := by
  pointwise [dims]

theorem nearQ_at (y : Fin 256) : nearQ x0 x1 x2 x3 x5 x7 x9 (ix2 r y)
    = near x0 x1 x2 x3 x5 (ix2 r ⟨0 + y.val, by omega⟩) * Ideal.rsqrt
      ((∑ z : Fin 256, near x0 x1 x2 x3 x5 (ix2 r ⟨0 + z.val, by omega⟩) * near x0 x1 x2 x3 x5 (ix2 r ⟨0 + z.val, by omega⟩) * x9 (ix2 z y)
        + ∑ z : Fin 256, (near x0 x1 x2 x3 x5 (ix2 r ⟨0 + z.val, by omega⟩) * near x0 x1 x2 x3 x5 (ix2 r ⟨0 + z.val, by omega⟩) - near x0 x1 x2 x3 x5 (ix2 r ⟨0 + z.val, by omega⟩) * near x0 x1 x2 x3 x5 (ix2 r ⟨0 + z.val, by omega⟩)) * x9 (ix2 z y))
        * Ideal.ofBits FTy.f32 0x3C800000#32 + eps) * x7 (ix2 0 y) * Ideal.ofBits FTy.f32 0x3E38AA3B#32 := by
  pointwise [nearQ, near, k0_pay57, k0_pay56]

theorem nearK_at (y : Fin 256) : nearK x0 x1 x2 x3 x5 x8 x9 (ix2 r y)
    = near x0 x1 x2 x3 x5 (ix2 r ⟨256 + y.val, by omega⟩) * Ideal.rsqrt
      ((∑ z : Fin 256, near x0 x1 x2 x3 x5 (ix2 r ⟨256 + z.val, by omega⟩) * near x0 x1 x2 x3 x5 (ix2 r ⟨256 + z.val, by omega⟩) * x9 (ix2 z y)
        + ∑ z : Fin 256, (near x0 x1 x2 x3 x5 (ix2 r ⟨256 + z.val, by omega⟩) * near x0 x1 x2 x3 x5 (ix2 r ⟨256 + z.val, by omega⟩) - near x0 x1 x2 x3 x5 (ix2 r ⟨256 + z.val, by omega⟩) * near x0 x1 x2 x3 x5 (ix2 r ⟨256 + z.val, by omega⟩)) * x9 (ix2 z y))
        * Ideal.ofBits FTy.f32 0x3C800000#32 + eps) * x8 (ix2 0 y) := by
  pointwise [nearK, near, k0_pay63, k0_pay55, k0_pay56, k0_pay58, k0_pay59, k0_pay60, k0_pay61, k0_pay62]

end Cert.Proj.K
end
-- ==== Proof.Proj.Algebra.lean ====
/- The algebra between the projection call's forms and the reference's: padded sums, the mean as a factor, a turn scaled before or after. -/
module

public import proofs.«01_k».proof.Proof.Proj.Reference

@[expose] public section

set_option maxRecDepth 16384

noncomputable section

open Idealize.ShloMosaic
open scoped BigOperators

namespace Cert.Proj

/-- A number that is neither infinity. -/
def Real' (x : EReal) : Prop := ∃ r : ℝ, x = (r : EReal)

theorem Real'.mul {x y : EReal} (hx : Real' x) (hy : Real' y) : Real' (x * y) := by
  obtain ⟨a, rfl⟩ := hx; obtain ⟨b, rfl⟩ := hy; exact ⟨a * b, (EReal.coe_mul a b).symm⟩

theorem Real'.add {x y : EReal} (hx : Real' x) (hy : Real' y) : Real' (x + y) := by
  obtain ⟨a, rfl⟩ := hx; obtain ⟨b, rfl⟩ := hy; exact ⟨a + b, (EReal.coe_add a b).symm⟩

theorem Real'.sum {k : Nat} (f : Fin k → EReal) (h : ∀ z, Real' (f z)) : Real' (∑ z, f z) := by
  refine Finset.sum_induction f Real' (fun a b => Real'.add) ⟨0, rfl⟩ fun z _ => h z

theorem Real'.of_toReal {x : EReal} (h : x = ((x.toReal : ℝ) : EReal)) : Real' x := ⟨_, h⟩

theorem Real'.one : Real' 1 := ⟨1, rfl⟩

theorem eps_eq : eps = ((8796093 / 8796093022208 : ℝ) : EReal) := by
  unfold eps
  simp [Ideal.ofBits, Ideal.ieee, -EReal.coe_mul]; norm_num

theorem eps_pos : 0 < eps := by
  rw [eps_eq]; exact_mod_cast (by norm_num : (0 : ℝ) < 8796093 / 8796093022208)

theorem sq_nonneg' (x : EReal) : 0 ≤ x * x := by
  induction x with
  | bot => simp
  | top => simp
  | coe r => exact_mod_cast mul_self_nonneg r

theorem rsqrt_pos (x : EReal) (h : 0 < x) : 0 ≤ Ideal.rsqrt x ∧ Real' (Ideal.rsqrt x) := by
  induction x with
  | bot => simp at h
  | top => exact ⟨le_refl _, ⟨0, rfl⟩⟩
  | coe r =>
    have hr : 0 < r := by exact_mod_cast h
    rw [Ideal.rsqrt_coe, if_neg (by linarith), if_neg (by linarith)]
    exact ⟨by exact_mod_cast inv_nonneg.2 (Real.sqrt_nonneg r), ⟨_, rfl⟩⟩

section
variable {k : Nat} (n : BitVec 32) (q : ℝ) (hq : 0 < q) (hn : Ideal.ofBits FTy.f32 n = ((q : ℝ) : EReal)) (v : Fin k → EReal)
include hq hn

/-- A mean is a sum times a factor. -/
theorem inv_eq : inv n v = Ideal.rsqrt ((∑ z : Fin k, v z * v z) * ((1 / q : ℝ) : EReal) + eps) := by
  rw [inv, hn, Ideal.div_coe hq.ne']

theorem mean_pos : 0 < (∑ z : Fin k, v z * v z) * ((1 / q : ℝ) : EReal) + eps := by
  have h1 : 0 ≤ (∑ z : Fin k, v z * v z) * ((1 / q : ℝ) : EReal) :=
    mul_nonneg (Finset.sum_nonneg fun z _ => sq_nonneg' _) (by exact_mod_cast (by positivity : (0 : ℝ) ≤ 1 / q))
  calc (0 : EReal) < eps := eps_pos
    _ = 0 + eps := (zero_add _).symm
    _ ≤ _ := add_le_add_left h1 eps

theorem inv_ok : 0 ≤ inv n v ∧ Real' (inv n v) := by
  rw [inv_eq n q hq hn]
  exact rsqrt_pos _ (mean_pos n q hq hn v)

/-- A normed number is real, whatever the row. -/
theorem normed_real (j : Fin k) : Real' (v j * inv n v) := by
  by_cases hv : Real' (v j)
  · exact hv.mul (inv_ok n q hq hn v).2
  · have hsq : v j * v j = ⊤ := by
      generalize v j = x at hv
      induction x with
      | bot => rfl
      | top => rfl
      | coe r => exact absurd ⟨r, rfl⟩ hv
    have hsum : (∑ z : Fin k, v z * v z) = ⊤ := by
      refine top_le_iff.1 ?_
      rw [← hsq]
      exact Finset.single_le_sum (f := fun z => v z * v z) (fun z _ => sq_nonneg' _) (Finset.mem_univ j)
    have hinv : inv n v = 0 := by
      rw [inv_eq n q hq hn, hsum, EReal.top_mul_coe_of_pos (by positivity), eps_eq, EReal.top_add_coe]
      rfl
    rw [hinv, mul_zero]
    exact ⟨0, rfl⟩

end

theorem lit96 : Ideal.ofBits FTy.f32 0x42C00000#32 = ((96 : ℝ) : EReal) := by
  simp [Ideal.ofBits, Ideal.ieee, -EReal.coe_mul]; norm_num
theorem lit64 : Ideal.ofBits FTy.f32 0x42800000#32 = ((64 : ℝ) : EReal) := by
  simp [Ideal.ofBits, Ideal.ieee, -EReal.coe_mul]; norm_num
theorem lit64' : Ideal.ofBits FTy.f32 0x3C800000#32 = ((1 / 64 : ℝ) : EReal) := by
  simp [Ideal.ofBits, Ideal.ieee, -EReal.coe_mul]; norm_num
theorem lit1024 : Ideal.ofBits FTy.f32 0x44800000#32 = ((1024 : ℝ) : EReal) := by
  simp [Ideal.ofBits, Ideal.ieee, -EReal.coe_mul]; norm_num

/-- A sum over 128 lanes of which the last 32 are empty. -/
theorem sum_pad (u : Fin 128 → EReal) (v : Fin 96 → EReal) (h : ∀ z, u z = if hz : z.val < 96 then v ⟨z.val, hz⟩ else 0) :
    (∑ z : Fin 128, u z * u z) = ∑ z : Fin 96, v z * v z := by
  rw [show (∑ z : Fin 128, u z * u z) = ∑ z : Fin (96 + 32), u z * u z from rfl, Fin.sum_univ_add]
  have h1 : ∀ z : Fin 96, u (Fin.castAdd 32 z) = v z := fun z => by rw [h, dif_pos (by simp)]; rfl
  have h2 : ∀ z : Fin 32, u (Fin.natAdd 96 z) = 0 := fun z => by rw [h, dif_neg (by simp)]
  simp only [h1, h2, mul_zero, Finset.sum_const_zero, add_zero]

theorem inv_pad (u : Fin 128 → EReal) (v : Fin 96 → EReal) (h : ∀ z, u z = if hz : z.val < 96 then v ⟨z.val, hz⟩ else 0) :
    Ideal.rsqrt ((∑ z : Fin 128, u z * u z) * ((1 / 96 : ℝ) : EReal) + eps) = inv 0x42C00000#32 v := by
  rw [inv_eq _ 96 (by norm_num) lit96, sum_pad u v h]

/-- A turn of two numbers scaled after is the turn of the scaled ones. -/
theorem turn_scaled (x y g h cs sn : EReal) (v : Fin 96 → EReal) :
    (x * (g * cs) + y * (h * sn)) * inv 0x42C00000#32 v = x * inv 0x42C00000#32 v * g * cs + y * inv 0x42C00000#32 v * h * sn := by
  obtain ⟨h0, r, hr⟩ := inv_ok 0x42C00000#32 96 (by norm_num) lit96 v
  rw [EReal.right_distrib_of_nonneg_of_ne_top h0 (by rw [hr]; exact EReal.coe_ne_top r)]
  generalize inv 0x42C00000#32 v = s
  congr 1
  · rw [mul_assoc x, mul_assoc x, mul_assoc x, mul_comm _ s, mul_assoc s]
  · rw [mul_assoc y, mul_assoc y, mul_assoc y, mul_comm _ s, mul_assoc s]

theorem turn_scaled_neg (x y g h cs sn : EReal) (v : Fin 96 → EReal) :
    (x * (g * cs) + y * (h * -sn)) * inv 0x42C00000#32 v = x * inv 0x42C00000#32 v * g * cs - y * inv 0x42C00000#32 v * h * sn := by
  rw [turn_scaled, mul_neg, sub_eq_add_neg]

/-- One head's sum of squares out of all heads': the columns that the head's indicator keeps. -/
theorem sum_head (u : Fin 256 → EReal) (h : Fin 4) (e : Fin 64) (bd : Fin 256 → EReal)
    (hbd : ∀ z : Fin 256, bd z = if z.val / 64 = (h.val * 64 + e.val) / 64 then 1 else 0) (hu : ∀ z, Real' (u z)) :
    (∑ z : Fin 256, u z * u z * bd z) + (∑ z : Fin 256, (u z * u z - u z * u z) * bd z)
      = ∑ d : Fin 64, u ⟨h.val * 64 + d.val, by omega⟩ * u ⟨h.val * 64 + d.val, by omega⟩ := by
  have h0 : ∀ z, (u z * u z - u z * u z) * bd z = 0 := fun z => by
    obtain ⟨r, hr⟩ := (hu z).mul (hu z)
    rw [hr, EReal.sub_self (EReal.coe_ne_top r) (EReal.coe_ne_bot r), zero_mul]
  simp only [h0, Finset.sum_const_zero, add_zero]
  have key : (∑ z : Fin 256, u z * u z * bd z) = ∑ p : Fin 4 × Fin 64, u ⟨p.1.val * 64 + p.2.val, by omega⟩ * u ⟨p.1.val * 64 + p.2.val, by omega⟩ * bd ⟨p.1.val * 64 + p.2.val, by omega⟩ := by
    refine (Fintype.sum_equiv (finProdFinEquiv (m := 4) (n := 64)) _ _ fun p => ?_).symm
    have : (⟨p.1.val * 64 + p.2.val, by omega⟩ : Fin 256) = finProdFinEquiv (m := 4) (n := 64) p := Fin.ext (by simp [finProdFinEquiv]; omega)
    simp only [this]
  rw [key, Fintype.sum_prod_type, Finset.sum_eq_single h]
  · refine Finset.sum_congr rfl fun d _ => ?_
    rw [hbd, if_pos (by simp only []; omega), mul_one]
  · intro b _ hb
    refine Finset.sum_eq_zero fun d _ => ?_
    have hb' : b.val ≠ h.val := fun hh => hb (Fin.ext hh)
    rw [hbd, if_neg (by simp only []; omega), mul_zero]
  · intro hh; exact absurd (Finset.mem_univ h) hh

theorem inv_head (u : Fin 256 → EReal) (h : Fin 4) (e : Fin 64) (bd : Fin 256 → EReal)
    (hbd : ∀ z : Fin 256, bd z = if z.val / 64 = (h.val * 64 + e.val) / 64 then 1 else 0) (hu : ∀ z, Real' (u z)) :
    Ideal.rsqrt (((∑ z : Fin 256, u z * u z * bd z) + (∑ z : Fin 256, (u z * u z - u z * u z) * bd z)) * Ideal.ofBits FTy.f32 0x3C800000#32 + eps)
      = inv 0x42800000#32 (fun d : Fin 64 => u ⟨h.val * 64 + d.val, by omega⟩) := by
  rw [sum_head u h e bd hbd hu, lit64', inv_eq _ 64 (by norm_num) lit64]

namespace Args
variable (A : Args) (b : Fin 8) (i : Fin 2048)

/-- The precondition over the arguments: what the neighbourhood attention's queries and keys come from is numbers. -/
structure Finite : Prop where
  md : ∀ b (y : Fin 2048), Real' (A.md (ix2 b ⟨y.val, by omega⟩))
  g1 : ∀ y, Real' (A.g1 (ix2 3 y))
  win : ∀ z (y : Fin 512), Real' (A.win (ix3 3 z ⟨768 + y.val, by omega⟩))

variable {A}

theorem hidden_real (h : A.Finite) (y : Fin 1024) : Real' (A.hidden b i y) :=
  (((normed_real 0x44800000#32 1024 (by norm_num) lit1024 (fun z => A.x (ix3 b i z)) y).mul (h.g1 y)).mul
    (Real'.one.add (h.md b ⟨1024 + y.val, by omega⟩))).add (h.md b ⟨y.val, by omega⟩)

theorem proj_real (h : A.Finite) (y : Fin 512) : Real' (A.proj b i ⟨768 + y.val, by omega⟩) :=
  Real'.sum _ fun z => (hidden_real b i h z).mul (h.win z y)

end Args
end Cert.Proj
end
-- ==== Proof.Proj.Kernel.lean ====
/- The projection call: what each grid point stores is the reference's block. -/
module

public import proofs.«01_k».proof.Proof.Proj.Tables
public import proofs.«01_k».proof.Proof.Proj.Entry
public import proofs.«01_k».proof.Proof.Proj.Algebra

@[expose] public section

set_option maxRecDepth 16384

noncomputable section

open Idealize.ShloMosaic Idealize.ShloMosaic.TcCoe Idealize.SL.Sem
open scoped BigOperators

namespace Cert.Proj.K

open Cert.Kernel3Ideal Cert.Kernel3Ideal.Gen

/-! ### The turn -/

section
variable (a : Fin 2 → Fin 8 → EReal) (v : Fin 96 → EReal) (e p q : Fin 96) (x : Fin 2) (f : Fin 8) (h0 : ¬ e.val < 64)
  (hp : p.val = 64 + ((e.val - 64) / 16 * 16 + (e.val - 64) % 8)) (hq : q.val = 64 + ((e.val - 64) / 16 * 16 + 8 + (e.val - 64) % 8))
  (hx : x.val = (e.val - 64) / 16) (hf : f.val = (e.val - 64) % 8)
include h0 hp hq hx hf

theorem turn_first (h1 : (e.val - 64) / 8 % 2 < 1) : turn a v e = v p * Ideal.cos (a x f) - v q * Ideal.sin (a x f) := by
  rw [turn, dif_neg h0, dif_pos h1]
  have e1 : (⟨64 + ((e.val - 64) / 16 * 16 + (e.val - 64) % 8), by omega⟩ : Fin 96) = p := Fin.ext hp.symm
  have e2 : (⟨64 + ((e.val - 64) / 16 * 16 + 8 + (e.val - 64) % 8), by omega⟩ : Fin 96) = q := Fin.ext hq.symm
  have e3 : (⟨(e.val - 64) / 16, by omega⟩ : Fin 2) = x := Fin.ext hx.symm
  have e4 : (⟨(e.val - 64) % 8, by omega⟩ : Fin 8) = f := Fin.ext hf.symm
  rw [e1, e2, e3, e4]

theorem turn_second (h1 : ¬ (e.val - 64) / 8 % 2 < 1) : turn a v e = v q * Ideal.cos (a x f) + v p * Ideal.sin (a x f) := by
  rw [turn, dif_neg h0, dif_neg h1]
  have e1 : (⟨64 + ((e.val - 64) / 16 * 16 + (e.val - 64) % 8), by omega⟩ : Fin 96) = p := Fin.ext hp.symm
  have e2 : (⟨64 + ((e.val - 64) / 16 * 16 + 8 + (e.val - 64) % 8), by omega⟩ : Fin 96) = q := Fin.ext hq.symm
  have e3 : (⟨(e.val - 64) / 16, by omega⟩ : Fin 2) = x := Fin.ext hx.symm
  have e4 : (⟨(e.val - 64) % 8, by omega⟩ : Fin 8) = f := Fin.ext hf.symm
  rw [e1, e2, e3, e4]
end

variable (m : (ℓ : Loc nD τ sig) → Buf (Elt Ideal) ℓ) (c : Dev nD) (t : Fin cfg0.N)
  (V0 : Valuation Cert.Reference3Ideal.τ Cert.Reference3Ideal.sig (Elt Ideal))

/-- A rotary dim's partner. -/
def part (e : Fin 96) (he : 64 ≤ e.val) : Fin 96 := ⟨64 + (swp ⟨e.val - 64, by omega⟩).val, by omega⟩

theorem part_val (e : Fin 96) (he : 64 ≤ e.val) : (part e he).val = 64 + ((e.val - 64) / 16 * 16 + ((e.val - 64) % 16 + 8) % 16) := rfl

/-- A normed turn, the norm taken after the turn. -/
theorem turned (v g : Fin 96 → EReal) (i : Fin 2048) (e : Fin 96) (he : 64 ≤ e.val) :
    (v e * (g e * (V m c main_v42 : FVec Ideal S2048x128 .f32) (ix2 i ⟨e.val, by omega⟩))
      + v (part e he) * (g (part e he) * (V m c main_v45 : FVec Ideal S2048x128 .f32) (ix2 i ⟨e.val, by omega⟩))) * inv 0x42C00000#32 v
    = turn (fun a f => ang V0 (ix3 i a f)) (norm96 v g) e := by
  have hpv := part_val e he
  generalize part e he = s at hpv
  let f : Fin 8 := ⟨(e.val - 64) % 8, by omega⟩
  have hf : f.val = (e.val - 64) % 8 := rfl
  have hc := cos_quarters m c V0 i f
  have hs := sin_quarters m c V0 i f
  rcases (by omega : (e.val - 64) / 8 = 0 ∨ (e.val - 64) / 8 = 1 ∨ (e.val - 64) / 8 = 2 ∨ (e.val - 64) / 8 = 3) with hk | hk | hk | hk
  · rw [← (Fin.ext (by simp only []; omega) : (⟨64 + f.val, by omega⟩ : Fin 128) = ⟨e.val, by omega⟩), hc.1, hs.1, turn_scaled_neg,
      turn_first _ _ e e s 0 f (by omega) (by omega) (by omega) (by simp only [Fin.val_zero]; omega) hf (by omega)]
    rfl
  · rw [← (Fin.ext (by simp only []; omega) : (⟨72 + f.val, by omega⟩ : Fin 128) = ⟨e.val, by omega⟩), hc.2.1, hs.2.1, turn_scaled,
      turn_second _ _ e s e 0 f (by omega) (by omega) (by omega) (by simp only [Fin.val_zero]; omega) hf (by omega)]
    rfl
  · rw [← (Fin.ext (by simp only []; omega) : (⟨80 + f.val, by omega⟩ : Fin 128) = ⟨e.val, by omega⟩), hc.2.2.1, hs.2.2.1, turn_scaled_neg,
      turn_first _ _ e e s 1 f (by omega) (by omega) (by omega) (by simp only [Fin.val_one]; omega) hf (by omega)]
    rfl
  · rw [← (Fin.ext (by simp only []; omega) : (⟨88 + f.val, by omega⟩ : Fin 128) = ⟨e.val, by omega⟩), hc.2.2.2, hs.2.2.2, turn_scaled,
      turn_second _ _ e s e 1 f (by omega) (by omega) (by omega) (by simp only [Fin.val_one]; omega) hf (by omega)]
    rfl

/-! ### The projections -/

/-- The call's arguments. -/
def argsK : Args :=
  ⟨X m c, Mod m c, G1 m c, Win m c, Gnq m c, Gnk m c, Gqa m c, Gkva m c, Wq m c, Wkv m c, Gq m c, Gk m c, ang V0⟩

/-! ### The blocks over the arguments -/

theorem b6m (d : Fin 1024) (y : Fin 384) : iblk m c 6 t (ix3 (0 : Fin 1) d ⟨y.val, by omega⟩) = Win m c (ix3 3 d ⟨1536 + y.val, by omega⟩) :=
  (blk6 m c t d ⟨y.val, by omega⟩).trans (wm_at m c d y)
theorem b6r (d : Fin 1024) (e : Fin 128) : iblk m c 6 t (ix3 (0 : Fin 1) d ⟨384 + e.val, by omega⟩)
    = if he : 64 ≤ e.val ∧ e.val < 96 then Win m c (ix3 3 d ⟨1856 + e.val, by omega⟩) else (0 : EReal) :=
  (blk6 m c t d ⟨384 + e.val, by omega⟩).trans (wkr_at m c d e)
theorem b6s (d : Fin 1024) (e : Fin 128) : iblk m c 6 t (ix3 (0 : Fin 1) d ⟨512 + e.val, by omega⟩)
    = if he : 64 ≤ e.val ∧ e.val < 96 then Win m c (ix3 3 d ⟨1920 + (swp ⟨e.val - 64, by omega⟩).val, by omega⟩) else (0 : EReal) :=
  (blk6 m c t d ⟨512 + e.val, by omega⟩).trans (wkrs_at m c d e)
theorem b7 (y : Fin 256) : iblk m c 7 t (ix2 (0 : Fin 1) y) = Gnq m c (ix2 3 ⟨y.val % 64, by omega⟩) := (blk7 m c t y).trans (gqn_at m c y)
theorem b8 (y : Fin 256) : iblk m c 8 t (ix2 (0 : Fin 1) y) = Gnk m c (ix2 3 ⟨y.val % 64, by omega⟩) := (blk8 m c t y).trans (gkn_at m c y)
theorem b9 (z y : Fin 256) : iblk m c 9 t (ix2 z y) = if z.val / 64 = y.val / 64 then (1 : EReal) else 0 := (blk9 m c t z y).trans (bd_at m c z y)
theorem b10 (y : Fin 256) : iblk m c 10 t (ix2 (0 : Fin 1) y) = Gqa m c (ix2 3 y) := (blk10 m c t y).trans (gqa_at m c y)
theorem b11 (y : Fin 128) : iblk m c 11 t (ix2 (0 : Fin 1) y) = Gkva m c (ix2 3 y) := (blk11 m c t y).trans (gkva_at m c y)
theorem b12 (d : Fin 256) (h : Fin 8) (e : Fin 128) : iblk m c 12 t (ix3 (0 : Fin 1) d ⟨h.val * 128 + e.val, by omega⟩)
    = if he : e.val < 96 then Wq m c (ix3 3 d ⟨h.val * 96 + e.val, by omega⟩) else (0 : EReal) :=
  (blk12 m c t d ⟨h.val * 128 + e.val, by omega⟩).trans (wq_at m c d h e)
theorem b13 (d : Fin 128) (h : Fin 8) (e : Fin 128) : iblk m c 13 t (ix3 (0 : Fin 1) d ⟨h.val * 128 + e.val, by omega⟩)
    = if he : e.val < 64 then Wkv m c (ix3 3 d ⟨h.val * 128 + e.val, by omega⟩) else (0 : EReal) :=
  (blk13 m c t d ⟨h.val * 128 + e.val, by omega⟩).trans (wkn_at m c d h e)
theorem b14 (y : Fin 512) (d : Fin 128) : iblk m c 14 t (ix3 (0 : Fin 1) y d) = Wkv m c (ix3 3 d ⟨y.val / 64 * 128 + 64 + y.val % 64, by omega⟩) :=
  (blk14 m c t y d).trans (wv_at m c y d)
theorem b16 (d : Fin 256) (h : Fin 8) (e : Fin 128) : iblk m c 16 t (ix3 (0 : Fin 1) d ⟨h.val * 128 + e.val, by omega⟩)
    = if he : 64 ≤ e.val ∧ e.val < 96 then Wq m c (ix3 3 d ⟨h.val * 96 + 64 + (swp ⟨e.val - 64, by omega⟩).val, by omega⟩) else (0 : EReal) :=
  (blk16 m c t d ⟨h.val * 128 + e.val, by omega⟩).trans (wqs_at m c d h e)

variable (r : Fin 1024)

theorem hidden_eq (j : Fin 1024) : hid (iblk m c 0 t) (iblk m c 1 t) (iblk m c 2 t) (iblk m c 3 t) (ix2 r j) = (argsK m c V0).hidden (row t) (tok t r) j := by
  rw [hid_at]
  simp only [blk0, blk1, blk2, blk3]
  rfl

theorem hy_eq (y : Fin 768) : k0_pay1 (F := Ideal) (k0_pay74 (hid (iblk m c 0 t) (iblk m c 1 t) (iblk m c 2 t) (iblk m c 3 t)) (X0_4 m c t)) (ix3 0 r y)
    = (argsK m c V0).resHy (row t) (tok t r) y := by
  rw [hy_at']
  simp only [hidden_eq m c t V0, blk4]
  rfl

theorem near_eq (y : Fin 768) : (near (iblk m c 0 t) (iblk m c 1 t) (iblk m c 2 t) (iblk m c 3 t) (X0_5 m c t)) (ix2 r y) = (argsK m c V0).proj (row t) (tok t r) ⟨768 + y.val, by omega⟩ := by
  rw [near_at]
  simp only [hidden_eq m c t V0, blk5]
  rfl

theorem nv_eq (y : Fin 256) : k0_pay73 (F := Ideal) (near (iblk m c 0 t) (iblk m c 1 t) (iblk m c 2 t) (iblk m c 3 t) (X0_5 m c t)) (ix3 0 y r) = (argsK m c V0).resNv (row t) (tok t r) y := by
  rw [nv_at', near_eq m c t V0]
  rfl

theorem lat_q (y : Fin 384) : (lat (iblk m c 0 t) (iblk m c 1 t) (iblk m c 2 t) (iblk m c 3 t) (iblk m c 6 t)) (ix2 r ⟨y.val, by omega⟩) = (argsK m c V0).proj (row t) (tok t r) ⟨1536 + y.val, by omega⟩ := by
  rw [lat_at]
  simp only [hidden_eq m c t V0, b6m]
  rfl

theorem lat_kr (e : Fin 128) : (lat (iblk m c 0 t) (iblk m c 1 t) (iblk m c 2 t) (iblk m c 3 t) (iblk m c 6 t)) (ix2 r ⟨384 + e.val, by omega⟩)
    = if he : 64 ≤ e.val ∧ e.val < 96 then (argsK m c V0).proj (row t) (tok t r) ⟨1856 + e.val, by omega⟩ else 0 := by
  rw [lat_at]
  simp only [hidden_eq m c t V0, b6r]
  by_cases he : 64 ≤ e.val ∧ e.val < 96
  · simp only [dif_pos he]; rfl
  · simp only [dif_neg he, mul_zero, Finset.sum_const_zero]

theorem lat_krs (e : Fin 128) : (lat (iblk m c 0 t) (iblk m c 1 t) (iblk m c 2 t) (iblk m c 3 t) (iblk m c 6 t)) (ix2 r ⟨512 + e.val, by omega⟩)
    = if he : 64 ≤ e.val ∧ e.val < 96 then (argsK m c V0).proj (row t) (tok t r) ⟨1920 + (swp ⟨e.val - 64, by omega⟩).val, by omega⟩ else 0 := by
  rw [lat_at]
  simp only [hidden_eq m c t V0, b6s]
  by_cases he : 64 ≤ e.val ∧ e.val < 96
  · simp only [dif_pos he]; rfl
  · simp only [dif_neg he, mul_zero, Finset.sum_const_zero]

theorem cqn_eq (d : Fin 256) : cqn (iblk m c 10 t) (lat (iblk m c 0 t) (iblk m c 1 t) (iblk m c 2 t) (iblk m c 3 t) (iblk m c 6 t)) (ix2 r d) = (argsK m c V0).cqn (row t) (tok t r) d := by
  have h : ∀ z : Fin 256, (lat (iblk m c 0 t) (iblk m c 1 t) (iblk m c 2 t) (iblk m c 3 t) (iblk m c 6 t)) (ix2 r ⟨z.val, by omega⟩) = (argsK m c V0).cq (row t) (tok t r) z := fun z => lat_q m c t V0 r ⟨z.val, by omega⟩
  rw [cqn_at]
  simp only [h, b10]
  rfl

theorem ckvn_eq (d : Fin 128) : ckvn (iblk m c 11 t) (lat (iblk m c 0 t) (iblk m c 1 t) (iblk m c 2 t) (iblk m c 3 t) (iblk m c 6 t)) (ix2 r d) = (argsK m c V0).ckvn (row t) (tok t r) d := by
  have h : ∀ z : Fin 128, (lat (iblk m c 0 t) (iblk m c 1 t) (iblk m c 2 t) (iblk m c 3 t) (iblk m c 6 t)) (ix2 r ⟨256 + z.val, by omega⟩) = (argsK m c V0).ckv (row t) (tok t r) z := fun z => lat_q m c t V0 r ⟨256 + z.val, by omega⟩
  rw [ckvn_at]
  simp only [h, b11]
  rfl

theorem mv_eq (y : Fin 512) : k0_pay53 (F := Ideal) (k0_pay52 (ckvn (iblk m c 11 t) (lat (iblk m c 0 t) (iblk m c 1 t) (iblk m c 2 t) (iblk m c 3 t) (iblk m c 6 t))) (iblk m c 14 t)) (ix3 0 y r) = (argsK m c V0).resMv (row t) (tok t r) y := by
  rw [mv_at', Args.resMv, Args.upkv]
  simp only [ckvn_eq m c t V0, b14]
  refine Finset.sum_congr rfl fun d _ => ?_
  rw [mul_comm]
  exact congrArg _ (congrArg (Wkv m c) (congrArg (ix3 3 d) (Fin.ext (by simp only []; omega))))

variable (h : Fin 8)

theorem qa_eq (e : Fin 128) : lanes h.val h.isLt (k0_pay10 (lat (iblk m c 0 t) (iblk m c 1 t) (iblk m c 2 t) (iblk m c 3 t) (iblk m c 6 t)) (k0_pay4 (iblk m c 10 t)) (iblk m c 12 t)) (ix2 r e)
    = if he : e.val < 96 then (argsK m c V0).upq (row t) (tok t r) h ⟨e.val, he⟩ else 0 := by
  rw [lanes_at, qa_at]
  simp only [cqn_eq m c t V0, b12]
  by_cases he : e.val < 96
  · simp only [dif_pos he]; rfl
  · simp only [dif_neg he, mul_zero, Finset.sum_const_zero]

theorem qs_eq (e : Fin 128) : lanes h.val h.isLt (k0_pay14 (cqn (iblk m c 10 t) (lat (iblk m c 0 t) (iblk m c 1 t) (iblk m c 2 t) (iblk m c 3 t) (iblk m c 6 t))) (iblk m c 16 t)) (ix2 r e)
    = if he : 64 ≤ e.val ∧ e.val < 96 then (argsK m c V0).upq (row t) (tok t r) h (part ⟨e.val, he.2⟩ he.1) else 0 := by
  rw [lanes_at, qs_at]
  simp only [cqn_eq m c t V0, b16]
  by_cases he : 64 ≤ e.val ∧ e.val < 96
  · simp only [dif_pos he]
    refine Finset.sum_congr rfl fun d _ => ?_
    exact congrArg _ (congrArg (Wq m c) (congrArg (ix3 3 d) (Fin.ext (by simp only [part]; omega))))
  · simp only [dif_neg he, mul_zero, Finset.sum_const_zero]

theorem xk_eq (e : Fin 128) : addf (lanes h.val h.isLt (k0_pay11 (lat (iblk m c 0 t) (iblk m c 1 t) (iblk m c 2 t) (iblk m c 3 t) (iblk m c 6 t)) (iblk m c 11 t) (iblk m c 13 t))) (k0_pay6 (lat (iblk m c 0 t) (iblk m c 1 t) (iblk m c 2 t) (iblk m c 3 t) (iblk m c 6 t))) (ix2 r e)
    = if he : e.val < 96 then (argsK m c V0).upk (row t) (tok t r) h ⟨e.val, he⟩ else (0 : EReal) := by
  rw [show addf (lanes h.val h.isLt (k0_pay11 (lat (iblk m c 0 t) (iblk m c 1 t) (iblk m c 2 t) (iblk m c 3 t) (iblk m c 6 t)) (iblk m c 11 t) (iblk m c 13 t))) (k0_pay6 (lat (iblk m c 0 t) (iblk m c 1 t) (iblk m c 2 t) (iblk m c 3 t) (iblk m c 6 t))) (ix2 r e)
    = ((lanes h.val h.isLt (k0_pay11 (lat (iblk m c 0 t) (iblk m c 1 t) (iblk m c 2 t) (iblk m c 3 t) (iblk m c 6 t)) (iblk m c 11 t) (iblk m c 13 t)) (ix2 r e) : EReal) + k0_pay6 (F := Ideal) (lat (iblk m c 0 t) (iblk m c 1 t) (iblk m c 2 t) (iblk m c 3 t) (iblk m c 6 t)) (ix2 r e) : EReal) from rfl]
  rw [lanes_at, kn_at, kr_at, lat_kr m c t V0]
  simp only [ckvn_eq m c t V0, b13]
  rcases (by omega : e.val < 64 ∨ (64 ≤ e.val ∧ e.val < 96) ∨ 96 ≤ e.val) with he | he | he
  · simp (disch := omega) only [dif_pos, dif_neg, add_zero, Args.upk]
    rfl
  · simp (disch := omega) only [dif_pos, dif_neg, add_zero, Args.upk, mul_zero, Finset.sum_const_zero, zero_add]
    exact congrArg _ (Fin.ext (by simp only []; omega))
  · simp (disch := omega) only [dif_pos, dif_neg, add_zero, mul_zero, Finset.sum_const_zero]

theorem ks_eq (e : Fin 128) : lat (iblk m c 0 t) (iblk m c 1 t) (iblk m c 2 t) (iblk m c 3 t) (iblk m c 6 t) (ix2 r ⟨512 + e.val, by omega⟩)
    = if he : 64 ≤ e.val ∧ e.val < 96 then (argsK m c V0).upk (row t) (tok t r) h (part ⟨e.val, he.2⟩ he.1) else 0 := by
  rw [lat_krs m c t V0]
  by_cases he : 64 ≤ e.val ∧ e.val < 96
  · simp only [dif_pos he]
    rw [Args.upk, dif_neg (by rw [part_val]; omega)]
    exact congrArg _ (Fin.ext (by simp only [part]; omega))
  · simp only [dif_neg he]

/-! ### A head's queries and keys -/

theorem query_eq (e : Fin 128) : headQ (iblk m c 0 t) (iblk m c 1 t) (iblk m c 2 t) (iblk m c 3 t) (iblk m c 6 t) (iblk m c 10 t) (iblk m c 12 t) (iblk m c 15 t) (iblk m c 16 t) (iblk m c 17 t) (iblk m c 18 t) h.val h.isLt (ix4 0 0 r e)
    = (argsK m c V0).resMq (row t) (tok t r) h e := by
  rw [headQ, queryUnit_at, aq_at, bq_at, inv_pad _ _ (qa_eq m c t V0 r h), qa_eq m c t V0, qs_eq m c t V0, blk15, blk15, blk17, blk18, gq0_at, gq1_at, Args.resMq]
  rcases (by omega : e.val < 64 ∨ (64 ≤ e.val ∧ e.val < 96) ∨ 96 ≤ e.val) with he | he | he
  · rw [(table_low m c _ e he).1, (table_low m c _ e he).2]
    simp (disch := omega) only [dif_pos, dif_neg, mul_zero, add_zero, mul_one, turn, norm96]
    rw [← mul_assoc]
    refine congrArg (fun z : EReal => z * _) ?_
    rw [mul_assoc, mul_comm (Gq m c _), ← mul_assoc]
    rfl
  · rw [← mul_assoc, dif_pos he.2, dif_pos he, dif_pos he.2, dif_pos he, dif_pos he.2]
    refine congrArg (fun z : EReal => z * _) ?_
    exact turned m c V0 _ (fun z => Gq m c (ix2 3 z)) (tok t r) ⟨e.val, he.2⟩ he.1
  · simp (disch := omega) only [dif_pos, dif_neg, mul_zero, zero_mul, add_zero]

theorem key_eq (e : Fin 128) : headK (iblk m c 0 t) (iblk m c 1 t) (iblk m c 2 t) (iblk m c 3 t) (iblk m c 6 t) (iblk m c 11 t) (iblk m c 13 t) (iblk m c 15 t) (iblk m c 17 t) (iblk m c 18 t) h.val h.isLt (ix4 0 0 r e)
    = (argsK m c V0).resMk (row t) (tok t r) h e := by
  rw [headK, keyUnit_at, ak_at, rot_at, inv_pad _ _ (xk_eq m c t V0 r h), xk_eq m c t V0, ks_eq m c t V0 r h, blk15, blk15, blk17, blk18, gk2_at, gk3_at, Args.resMk]
  rcases (by omega : e.val < 64 ∨ (64 ≤ e.val ∧ e.val < 96) ∨ 96 ≤ e.val) with he | he | he
  · rw [(table_low m c _ e he).1, (table_low m c _ e he).2]
    simp (disch := omega) only [dif_pos, dif_neg, mul_zero, add_zero, mul_one, turn, norm96]
    rw [mul_assoc, mul_comm (Gk m c _), ← mul_assoc]
    rfl
  · rw [dif_pos he.2, dif_pos he, dif_pos he.2, dif_pos he, dif_pos he.2]
    exact turned m c V0 _ (fun z => Gk m c (ix2 3 z)) (tok t r) ⟨e.val, he.2⟩ he.1
  · simp (disch := omega) only [dif_pos, dif_neg, mul_zero, zero_mul, add_zero]

/-! ### The neighbourhood attention's queries and keys -/

variable (g : Fin 4) (hfin : (argsK m c V0).Finite)
include hfin

set_option maxHeartbeats 1000000

theorem nq_eq (e : Fin 64) : nearQ (iblk m c 0 t) (iblk m c 1 t) (iblk m c 2 t) (iblk m c 3 t) (X0_5 m c t) (iblk m c 7 t) (iblk m c 9 t) (ix2 r ⟨g.val * 64 + e.val, by omega⟩)
    = (argsK m c V0).resNq (row t) (tok t r) g e := by
  have hn : ∀ z : Fin 256, (near (iblk m c 0 t) (iblk m c 1 t) (iblk m c 2 t) (iblk m c 3 t) (X0_5 m c t)) (ix2 r ⟨0 + z.val, by omega⟩) = (argsK m c V0).proj (row t) (tok t r) ⟨768 + z.val, by omega⟩ := fun z => by
    rw [near_eq m c t V0]; exact congrArg _ (Fin.ext (by simp only []; omega))
  have hne : (near (iblk m c 0 t) (iblk m c 1 t) (iblk m c 2 t) (iblk m c 3 t) (X0_5 m c t)) (ix2 r ⟨0 + (g.val * 64 + e.val), by omega⟩) = (argsK m c V0).nq (row t) (tok t r) g e := hn ⟨g.val * 64 + e.val, by omega⟩
  rw [nearQ_at]
  simp only [hne, hn, b9, b7]
  rw [inv_head (fun z : Fin 256 => (argsK m c V0).proj (row t) (tok t r) ⟨768 + z.val, by omega⟩) g e (fun z : Fin 256 => if z.val / 64 = (g.val * 64 + e.val) / 64 then 1 else 0) (fun z => rfl)
    (fun z => Args.proj_real _ _ hfin ⟨z.val, by omega⟩)]
  have hm : (⟨(g.val * 64 + e.val) % 64, by omega⟩ : Fin 64) = e := Fin.ext (by simp only []; omega)
  rw [hm, Args.resNq]
  rfl

theorem nk_eq (e : Fin 64) : nearK (iblk m c 0 t) (iblk m c 1 t) (iblk m c 2 t) (iblk m c 3 t) (X0_5 m c t) (iblk m c 8 t) (iblk m c 9 t) (ix2 r ⟨g.val * 64 + e.val, by omega⟩)
    = (argsK m c V0).resNk (row t) (tok t r) g e := by
  have hn : ∀ z : Fin 256, (near (iblk m c 0 t) (iblk m c 1 t) (iblk m c 2 t) (iblk m c 3 t) (X0_5 m c t)) (ix2 r ⟨256 + z.val, by omega⟩) = (argsK m c V0).proj (row t) (tok t r) ⟨768 + (256 + z.val), by omega⟩ := fun z => by
    rw [near_eq m c t V0]
  have hne : (near (iblk m c 0 t) (iblk m c 1 t) (iblk m c 2 t) (iblk m c 3 t) (X0_5 m c t)) (ix2 r ⟨256 + (g.val * 64 + e.val), by omega⟩) = (argsK m c V0).nk (row t) (tok t r) g e := hn ⟨g.val * 64 + e.val, by omega⟩
  rw [nearK_at]
  simp only [hne, hn, b9, b8]
  rw [inv_head (fun z : Fin 256 => (argsK m c V0).proj (row t) (tok t r) ⟨768 + (256 + z.val), by omega⟩) g e (fun z : Fin 256 => if z.val / 64 = (g.val * 64 + e.val) / 64 then 1 else 0) (fun z => rfl)
    (fun z => Args.proj_real _ _ hfin ⟨256 + z.val, by omega⟩)]
  have hm : (⟨(g.val * 64 + e.val) % 64, by omega⟩ : Fin 64) = e := Fin.ext (by simp only []; omega)
  rw [hm, Args.resNk]
  rfl

end Cert.Proj.K
end
-- ==== Proof.Proj.Final.lean ====
/- The projection call: its seven result arrays, whole. -/
module

public import proofs.«01_k».proof.Proof.Proj.Kernel

@[expose] public section

set_option maxRecDepth 16384

noncomputable section

open Idealize.ShloMosaic Idealize.ShloMosaic.TcCoe Idealize.SL.Sem
open scoped BigOperators

namespace Cert.Proj.K

open Cert.Kernel3Ideal Cert.Kernel3Ideal.Gen

variable (m : (ℓ : Loc nD τ sig) → Buf (Elt Ideal) ℓ) (c : Dev nD)
  (V0 : Valuation Cert.Reference3Ideal.τ Cert.Reference3Ideal.sig (Elt Ideal))

section
variable (t : Fin cfg0.N)

theorem emb19 (r : Fin 1024) (j : Fin 768) : ((View.whole main_v160_0).slice (win0_19.rect t)).emb (ix3 (0 : Fin 1) r j) = ix3 (row t) (tok t r) j := by
  unfold row tok
  blk_ext [idx_out t]
theorem emb20 (h : Fin 4) (r : Fin 1024) (j : Fin 64) : ((View.whole main_v160_1).slice (win0_20.rect t)).emb (ix4 (0 : Fin 1) h r j) = ix4 (row t) h (tok t r) j := by
  unfold row tok
  blk_ext [idx_out t]
theorem emb21 (h : Fin 4) (r : Fin 1024) (j : Fin 64) : ((View.whole main_v160_2).slice (win0_21.rect t)).emb (ix4 (0 : Fin 1) h r j) = ix4 (row t) h (tok t r) j := by
  unfold row tok
  blk_ext [idx_out t]
theorem emb22 (j : Fin 256) (r : Fin 1024) : ((View.whole main_v160_3).slice (win0_22.rect t)).emb (ix3 (0 : Fin 1) j r) = ix3 (row t) j (tok t r) := by
  unfold row tok
  blk_ext [idx_out t]
theorem emb23 (h : Fin 8) (r : Fin 1024) (j : Fin 128) : ((View.whole main_v160_4).slice (win0_23.rect t)).emb (ix4 (0 : Fin 1) h r j) = ix4 (row t) h (tok t r) j := by
  unfold row tok
  blk_ext [idx_out t]
theorem emb24 (h : Fin 8) (r : Fin 1024) (j : Fin 128) : ((View.whole main_v160_5).slice (win0_24.rect t)).emb (ix4 (0 : Fin 1) h r j) = ix4 (row t) h (tok t r) j := by
  unfold row tok
  blk_ext [idx_out t]
theorem emb25 (j : Fin 512) (r : Fin 1024) : ((View.whole main_v160_6).slice (win0_25.rect t)).emb (ix3 (0 : Fin 1) j r) = ix3 (row t) j (tok t r) := by
  unfold row tok
  blk_ext [idx_out t]

end

theorem final_hy (F : FVec Ideal S8x2048x768 .bf16) (hF : ∀ b i y, F (ix3 b i y) = (argsK m c V0).resHy b i y) : (dats m 0 c).arrAt 19 (cfgs 0).N = F := by
  refine (dats m 0 c).arrAt_eq_of_covers 19 _ (by decide +kernel) fun t _ y => ?_
  blk_simp
  rw [after_hy]
  idx_vars y
  obtain rfl : y0 = 0 := Subsingleton.elim _ _
  rw [emb19, hF]
  exact hy_eq m c t V0 y1 y2

theorem final_nv (F : FVec Ideal S8x256x2048 .bf16) (hF : ∀ b i y, F (ix3 b y i) = (argsK m c V0).resNv b i y) : (dats m 0 c).arrAt 22 (cfgs 0).N = F := by
  refine (dats m 0 c).arrAt_eq_of_covers 22 _ (by decide +kernel) fun t _ y => ?_
  blk_simp
  rw [after_nv]
  idx_vars y
  obtain rfl : y0 = 0 := Subsingleton.elim _ _
  rw [emb22, hF]
  exact nv_eq m c t V0 y2 y1

theorem final_mv (F : FVec Ideal S8x512x2048 .bf16) (hF : ∀ b i y, F (ix3 b y i) = (argsK m c V0).resMv b i y) : (dats m 0 c).arrAt 25 (cfgs 0).N = F := by
  refine (dats m 0 c).arrAt_eq_of_covers 25 _ (by decide +kernel) fun t _ y => ?_
  blk_simp
  rw [after_mv]
  idx_vars y
  obtain rfl : y0 = 0 := Subsingleton.elim _ _
  rw [emb25, hF]
  exact mv_eq m c t V0 y2 y1

section
variable (t : Fin cfg0.N) (n : Nat) (x2 : Fin 1024) (y2 : Fin 1024) (e2 : y2.val = x2.val)
include e2

theorem query_unit (hn : n < 8) (x3 : Fin 128) (y1 : Fin 8) (y3 : Fin 128) (e1 : y1.val = n) (e3 : y3.val = x3.val) :
    headQ (iblk m c 0 t) (iblk m c 1 t) (iblk m c 2 t) (iblk m c 3 t) (iblk m c 6 t) (iblk m c 10 t) (iblk m c 12 t) (iblk m c 15 t) (iblk m c 16 t) (iblk m c 17 t) (iblk m c 18 t) n hn (ix4 0 0 x2 x3)
      = (argsK m c V0).resMq (row t) (tok t y2) y1 y3 := by
  obtain rfl : y2 = x2 := Fin.ext e2
  obtain rfl : y3 = x3 := Fin.ext e3
  subst e1
  exact query_eq m c t V0 y2 y1 y3

theorem key_unit (hn : n < 8) (x3 : Fin 128) (y1 : Fin 8) (y3 : Fin 128) (e1 : y1.val = n) (e3 : y3.val = x3.val) :
    headK (iblk m c 0 t) (iblk m c 1 t) (iblk m c 2 t) (iblk m c 3 t) (iblk m c 6 t) (iblk m c 11 t) (iblk m c 13 t) (iblk m c 15 t) (iblk m c 17 t) (iblk m c 18 t) n hn (ix4 0 0 x2 x3)
      = (argsK m c V0).resMk (row t) (tok t y2) y1 y3 := by
  obtain rfl : y2 = x2 := Fin.ext e2
  obtain rfl : y3 = x3 := Fin.ext e3
  subst e1
  exact key_eq m c t V0 y2 y1 y3

variable (hfin : (argsK m c V0).Finite)
include hfin

theorem near_query_unit (hn : n < 4) (x3 : Fin 64) (y1 : Fin 4) (y3 : Fin 64) (e1 : y1.val = n) (e3 : y3.val = x3.val) :
    dims n hn (nearQ (iblk m c 0 t) (iblk m c 1 t) (iblk m c 2 t) (iblk m c 3 t) (X0_5 m c t) (iblk m c 7 t) (iblk m c 9 t)) (ix4 0 0 x2 x3)
      = (argsK m c V0).resNq (row t) (tok t y2) y1 y3 := by
  obtain rfl : y2 = x2 := Fin.ext e2
  obtain rfl : y3 = x3 := Fin.ext e3
  subst e1
  rw [dims_at]
  exact nq_eq m c t V0 y2 y1 hfin y3

theorem near_key_unit (hn : n < 4) (x3 : Fin 64) (y1 : Fin 4) (y3 : Fin 64) (e1 : y1.val = n) (e3 : y3.val = x3.val) :
    dims n hn (nearK (iblk m c 0 t) (iblk m c 1 t) (iblk m c 2 t) (iblk m c 3 t) (X0_5 m c t) (iblk m c 8 t) (iblk m c 9 t)) (ix4 0 0 x2 x3)
      = (argsK m c V0).resNk (row t) (tok t y2) y1 y3 := by
  obtain rfl : y2 = x2 := Fin.ext e2
  obtain rfl : y3 = x3 := Fin.ext e3
  subst e1
  rw [dims_at]
  exact nk_eq m c t V0 y2 y1 hfin y3

end

theorem final_mq (F : FVec Ideal S8x8x2048x128 .bf16) (hF : ∀ b i h e, F (ix4 b h i e) = (argsK m c V0).resMq b i h e) : (dats m 0 c).arrAt 23 (cfgs 0).N = F := by
  refine (dats m 0 c).arrAt_eq_of_covers 23 _ (by decide +kernel) fun t _ y => ?_
  blk_simp
  rw [after_q]
  idx_vars y
  obtain rfl : y0 = 0 := Subsingleton.elim _ _
  rw [emb23, hF]
  canon_tiles x e
  all_goals
    idx_vars x
    obtain rfl : x0 = 0 := Subsingleton.elim _ _
    obtain rfl : x1 = 0 := Subsingleton.elim _ _
    refine query_unit m c V0 t _ x2 y2 e2 _ x3 y1 y3 ?_ e3
    exact e1

theorem final_mk (F : FVec Ideal S8x8x2048x128 .bf16) (hF : ∀ b i h e, F (ix4 b h i e) = (argsK m c V0).resMk b i h e) : (dats m 0 c).arrAt 24 (cfgs 0).N = F := by
  refine (dats m 0 c).arrAt_eq_of_covers 24 _ (by decide +kernel) fun t _ y => ?_
  blk_simp
  rw [after_k]
  idx_vars y
  obtain rfl : y0 = 0 := Subsingleton.elim _ _
  rw [emb24, hF]
  canon_tiles x e
  all_goals
    idx_vars x
    obtain rfl : x0 = 0 := Subsingleton.elim _ _
    obtain rfl : x1 = 0 := Subsingleton.elim _ _
    refine key_unit m c V0 t _ x2 y2 e2 _ x3 y1 y3 ?_ e3
    exact e1

theorem final_nq (hfin : (argsK m c V0).Finite) (F : FVec Ideal S8x4x2048x64 .bf16) (hF : ∀ b i h e, F (ix4 b h i e) = (argsK m c V0).resNq b i h e) : (dats m 0 c).arrAt 20 (cfgs 0).N = F := by
  refine (dats m 0 c).arrAt_eq_of_covers 20 _ (by decide +kernel) fun t _ y => ?_
  blk_simp
  rw [after_nq]
  idx_vars y
  obtain rfl : y0 = 0 := Subsingleton.elim _ _
  rw [emb20, hF]
  canon_tiles x e
  all_goals
    idx_vars x
    obtain rfl : x0 = 0 := Subsingleton.elim _ _
    obtain rfl : x1 = 0 := Subsingleton.elim _ _
    refine near_query_unit m c V0 t _ x2 y2 e2 hfin _ x3 y1 y3 ?_ e3
    exact e1

theorem final_nk (hfin : (argsK m c V0).Finite) (F : FVec Ideal S8x4x2048x64 .bf16) (hF : ∀ b i h e, F (ix4 b h i e) = (argsK m c V0).resNk b i h e) : (dats m 0 c).arrAt 21 (cfgs 0).N = F := by
  refine (dats m 0 c).arrAt_eq_of_covers 21 _ (by decide +kernel) fun t _ y => ?_
  blk_simp
  rw [after_nk]
  idx_vars y
  obtain rfl : y0 = 0 := Subsingleton.elim _ _
  rw [emb21, hF]
  canon_tiles x e
  all_goals
    idx_vars x
    obtain rfl : x0 = 0 := Subsingleton.elim _ _
    obtain rfl : x1 = 0 := Subsingleton.elim _ _
    refine near_key_unit m c V0 t _ x2 y2 e2 hfin _ x3 y1 y3 ?_ e3
    exact e1

end Cert.Proj.K
end
-- ==== Proof.Proj.Finite.lean ====
/- What the precondition of the projection claim says: the shift and scale, the norm gains and the weights that the neighbourhood
   attention's queries and keys come from are real numbers. -/
module

public import proofs.«01_k».proof.Pre_finite_na_projection
public import proofs.«01_k».proof.Proof.Attn.Finite
public import proofs.«01_k».proof.Proof.Proj.Algebra
public import Idealize.ShloMosaic.Lib.ReduceAll

@[expose] public section

set_option maxRecDepth 16384

noncomputable section

open Idealize.ShloMosaic

namespace Cert.Proj.Finite

open Cert.Pre_finite_na_projection

/-- The predicate's side conditions. -/
theorem facts : Cert.Pre_finite_na_projection.Facts where
  slices_S8x6144_S8x2048_0_0 := by decide
  bcast_S_S8x2048 := by decide
  reducesTo_S8x2048_S_d0_1 := by decide
  h_S_ := by decide
  slices_S4x1024_S1x1024_3_0 := by decide
  shapeCasts_S1x1024_S1024 := by decide
  bcast_S_S1024 := by decide
  reducesTo_S1024_S_d0 := by decide
  slices_S4x1024x1952_S1x1024x512_3_0_768 := by decide
  shapeCasts_S1x1024x512_S1024x512 := by decide
  bcast_S_S1024x512 := by decide
  reducesTo_S1024x512_S_d0_1 := by decide

instance : Subsingleton S_.Idx := ⟨fun a b => funext fun i => i.elim0⟩

section
variable [Cert.Pre_finite_na_projection.Facts]
open Facts

theorem md_at (x : FVec Ideal S8x6144 .f32) (b : Fin 8) (y : Fin 2048) :
    extractStridedSlice S8x2048 ![0, 0] x slices_S8x6144_S8x2048_0_0 (ix2 b y) = x (ix2 b ⟨y.val, by omega⟩) := by
  pointwise
theorem g1_at (x : FVec Ideal S4x1024 .f32) (y : Fin 1024) :
    shapeCast S1024 (extractStridedSlice S1x1024 ![3, 0] x slices_S4x1024_S1x1024_3_0) shapeCasts_S1x1024_S1024 (ix1 y) = x (ix2 3 y) := by
  pointwise
theorem win_at (x : FVec Ideal S4x1024x1952 .f32) (z : Fin 1024) (y : Fin 512) :
    shapeCast S1024x512 (extractStridedSlice S1x1024x512 ![3, 0, 768] x slices_S4x1024x1952_S1x1024x512_3_0_768) shapeCasts_S1x1024x512_S1024x512 (ix2 z y)
      = x (ix3 3 z ⟨768 + y.val, by omega⟩) := by
  pointwise

theorem decode (A : Args)
    (h : fn (F := Ideal) A.x A.md A.g1 A.win A.gnq A.gnk A.gqa A.gkva A.wq A.wkv A.gq A.gk = fun _ => 1#1) : A.Finite := by
  have h0 := congrFun h (fun i => i.elim0)
  obtain ⟨h1, h2⟩ := IntOp.andi_eq_one.1 h0
  obtain ⟨h3, h4⟩ := IntOp.andi_eq_one.1 h1
  refine ⟨fun b y => ?_, fun y => ?_, fun z y => ?_⟩
  · refine (md_at A.md b y) ▸ ?_
    exact Real'.of_toReal (Attn.Finite.real_of_lt _ (Host.reduce_andi_all _ _ _ _ _ h3 (ix2 b y)))
  · refine (g1_at A.g1 y) ▸ ?_
    exact Real'.of_toReal (Attn.Finite.real_of_lt _ (Host.reduce_andi_all _ _ _ _ _ h4 (ix1 y)))
  · refine (win_at A.win z y) ▸ ?_
    exact Real'.of_toReal (Attn.Finite.real_of_lt _ (Host.reduce_andi_all _ _ _ _ _ h2 (ix2 z y)))

end
end Cert.Proj.Finite
end
-- ==== Proof.Proj.Algebraic.lean ====
/- The value claim of the projection call (`Kernel3`): its runs end in the reference's seven results. -/
module

public import proofs.«01_k».proof.Defs
public import proofs.«01_k».proof.Proof.Proj.Final
public import proofs.«01_k».proof.Proof.Proj.Finite
public import Idealize.ShloMosaic.Lib.Claim

@[expose] public section

set_option maxRecDepth 16384

noncomputable section

open Idealize.ShloMosaic Idealize.ShloMosaic.TcCoe Idealize.SL.Sem

namespace Cert.Proj

open Cert.Kernel3Ideal Cert.Kernel3Ideal.Gen

set_option maxHeartbeats 400000

/-- From memories that agree the two programs have the same arguments. -/
theorem args_eq (m : (ℓ : Loc nD τ sig) → Buf (Elt Ideal) ℓ) (c : Dev nD) (V0 : Valuation Cert.Reference3Ideal.τ Cert.Reference3Ideal.sig (Elt Ideal))
    (h0 : V0 (Proc.devRef .tc Cert.Reference3Ideal.main_arg0) = K.X m c) (h1 : V0 (Proc.devRef .tc Cert.Reference3Ideal.main_arg1) = K.Mod m c)
    (h2 : V0 (Proc.devRef .tc Cert.Reference3Ideal.main_arg2) = K.G1 m c) (h3 : V0 (Proc.devRef .tc Cert.Reference3Ideal.main_arg3) = K.Win m c)
    (h4 : V0 (Proc.devRef .tc Cert.Reference3Ideal.main_arg4) = K.Gnq m c) (h5 : V0 (Proc.devRef .tc Cert.Reference3Ideal.main_arg5) = K.Gnk m c)
    (h6 : V0 (Proc.devRef .tc Cert.Reference3Ideal.main_arg6) = K.Gqa m c) (h7 : V0 (Proc.devRef .tc Cert.Reference3Ideal.main_arg7) = K.Gkva m c)
    (h8 : V0 (Proc.devRef .tc Cert.Reference3Ideal.main_arg8) = K.Wq m c) (h9 : V0 (Proc.devRef .tc Cert.Reference3Ideal.main_arg9) = K.Wkv m c)
    (h10 : V0 (Proc.devRef .tc Cert.Reference3Ideal.main_arg10) = K.Gq m c) (h11 : V0 (Proc.devRef .tc Cert.Reference3Ideal.main_arg11) = K.Gk m c) :
    argsOf V0 = K.argsK m c V0 := by
  unfold argsOf K.argsK
  rw [h0, h1, h2, h3, h4, h5, h6, h7, h8, h9, h10, h11]

section
variable (m : (ℓ : Loc nD τ sig) → Buf (Elt Ideal) ℓ) (c : Dev nD) (V0 : Valuation Cert.Reference3Ideal.τ Cert.Reference3Ideal.sig (Elt Ideal))
  (hA : argsOf V0 = K.argsK m c V0)
include hA

theorem meet_hy : Cert.Reference3Ideal.Value.val5 V0 (Proc.devRef .tc Cert.Reference3Ideal.main_v223) = (dats m 0 c).arrAt 19 (cfgs 0).N :=
  (K.final_hy m c V0 _ fun b i y => (hy_at V0 b i y).trans (by rw [hA])).symm

theorem meet_nq (hfin : (K.argsK m c V0).Finite) : Cert.Reference3Ideal.Value.val5 V0 (Proc.devRef .tc Cert.Reference3Ideal.main_v226) = (dats m 0 c).arrAt 20 (cfgs 0).N :=
  (K.final_nq m c V0 hfin _ fun b i h e => (nq_at V0 b i h e).trans (by rw [hA])).symm

theorem meet_nk (hfin : (K.argsK m c V0).Finite) : Cert.Reference3Ideal.Value.val5 V0 (Proc.devRef .tc Cert.Reference3Ideal.main_v227) = (dats m 0 c).arrAt 21 (cfgs 0).N :=
  (K.final_nk m c V0 hfin _ fun b i h e => (nk_at V0 b i h e).trans (by rw [hA])).symm

theorem meet_nv : Cert.Reference3Ideal.Value.val5 V0 (Proc.devRef .tc Cert.Reference3Ideal.main_v230) = (dats m 0 c).arrAt 22 (cfgs 0).N :=
  (K.final_nv m c V0 _ fun b i y => (nv_at V0 b i y).trans (by rw [hA])).symm

theorem meet_mq : Cert.Reference3Ideal.Value.val5 V0 (Proc.devRef .tc Cert.Reference3Ideal.main_v235) = (dats m 0 c).arrAt 23 (cfgs 0).N :=
  (K.final_mq m c V0 _ fun b i h e => (mq_at V0 b i h e).trans (by rw [hA])).symm

theorem meet_mk : Cert.Reference3Ideal.Value.val5 V0 (Proc.devRef .tc Cert.Reference3Ideal.main_v238) = (dats m 0 c).arrAt 24 (cfgs 0).N :=
  (K.final_mk m c V0 _ fun b i h e => (mk_at V0 b i h e).trans (by rw [hA])).symm

theorem meet_mv : Cert.Reference3Ideal.Value.val5 V0 (Proc.devRef .tc Cert.Reference3Ideal.main_v242) = (dats m 0 c).arrAt 25 (cfgs 0).N :=
  (K.final_mv m c V0 _ fun b i y => (mv_at V0 b i y).trans (by rw [hA])).symm

end

theorem algebraic [hP : Cert.Pre_finite_na_projection.Facts] : Cert.algebraic_Kernel3Ideal_Reference3Ideal_pre_finite_na_projection := by
  intro m g m' g' hpre hagree
  refine ⟨fun c => (dats m 0 c).arrAt 19 (cfgs 0).N, fun c => (dats m 0 c).arrAt 20 (cfgs 0).N, fun c => (dats m 0 c).arrAt 21 (cfgs 0).N, fun c => (dats m 0 c).arrAt 22 (cfgs 0).N, fun c => (dats m 0 c).arrAt 23 (cfgs 0).N, fun c => (dats m 0 c).arrAt 24 (cfgs 0).N, fun c => (dats m 0 c).arrAt 25 (cfgs 0).N, ?_, ?_⟩
  · refine Idealize.ShloMosaic.θ_run_mono (Idealize.ShloMosaic.θ_run_and (Cert.Kernel3Ideal.Gen.run_main m g) (Cert.Kernel3Ideal.Gen.unchanged m g)) ?_
    rintro r ⟨h, hu⟩ c
    exact ⟨(h c).1 19, (h c).1 20, (h c).1 21, (h c).1 22, (h c).1 23, (h c).1 24, (h c).1 25, hu c⟩
  · refine Idealize.ShloMosaic.θ_run_mono (Cert.Reference3Ideal.Value.run m' g') ?_
    intro r h c
    obtain ⟨a0, a1, a2, a3, a4, a5, a6, a7, a8, a9, a10, a11⟩ := hagree c
    have hA := args_eq m c (StableHlo.launchContents m' c) a0 a1 a2 a3 a4 a5 a6 a7 a8 a9 a10 a11
    have hfin : (K.argsK m c (StableHlo.launchContents m' c)).Finite := Finite.decode _ (hpre c)
    obtain ⟨r0, r1, r2, r3, r4, r5, r6, ha⟩ := h c
    refine ⟨r0.trans ?_, r1.trans ?_, r2.trans ?_, r3.trans ?_, r4.trans ?_, r5.trans ?_, r6.trans ?_, ha⟩
    · exact (Cert.Reference3Ideal.Value.val5_main_v223 _).symm.trans (meet_hy m c _ hA)
    · exact (Cert.Reference3Ideal.Value.val5_main_v226 _).symm.trans (meet_nq m c _ hA hfin)
    · exact (Cert.Reference3Ideal.Value.val5_main_v227 _).symm.trans (meet_nk m c _ hA hfin)
    · exact (Cert.Reference3Ideal.Value.val5_main_v230 _).symm.trans (meet_nv m c _ hA)
    · exact (Cert.Reference3Ideal.Value.val5_main_v235 _).symm.trans (meet_mq m c _ hA)
    · exact (Cert.Reference3Ideal.Value.val5_main_v238 _).symm.trans (meet_mk m c _ hA)
    · exact (Cert.Reference3Ideal.Value.val5_main_v242 _).symm.trans (meet_mv m c _ hA)

end Cert.Proj

end
-- ==== Proof.Mlp.Row.lean ====
/- One token's output projection, gated residual, modulated norm and squared-ReLU MLP, as functions of the token's rows and of
   the weights: what the latent and the context tokens' calls have in common, whatever their number of tokens. -/
module

public import Idealize.ShloMosaic.Lib.Pipeline.ValueKit
public import Idealize.ShloMosaic.Lib.Pointwise

@[expose] public section

noncomputable section

open Idealize.ShloMosaic
open scoped BigOperators

namespace Cert.Mlp.Row

/-- Three mixers' rows one after the other. -/
def joined (o0 o1 : Fin 256 → EReal) (o2 : Fin 512 → EReal) (i : Fin 1024) : EReal :=
  if h : i.val < 256 then o0 ⟨i.val, h⟩ else if h' : i.val - 256 < 256 then o1 ⟨i.val - 256, h'⟩
    else o2 ⟨i.val - 256 - 256, by omega⟩

/-- The token after the output projection of its mixers and the gated residual. -/
def mixed (x gate o : Fin 1024 → EReal) (w : Fin 1024 → Fin 1024 → EReal) (j : Fin 1024) : EReal :=
  x j + gate j * ∑ i, o i * w i j

/-- The product with the joined rows is the sum of the products with the three. -/
theorem mixed_joined (x gate : Fin 1024 → EReal) (o0 o1 : Fin 256 → EReal) (o2 : Fin 512 → EReal)
    (w : Fin 1024 → Fin 1024 → EReal) (j : Fin 1024) :
    x j + gate j * (∑ i, o0 i * w ⟨0 + i.val, by omega⟩ j + ∑ i, o1 i * w ⟨256 + i.val, by omega⟩ j
      + ∑ i, o2 i * w ⟨512 + i.val, by omega⟩ j) = mixed x gate (joined o0 o1 o2) w j := by
  refine congrArg (x j + gate j * ·) (Eq.symm ?_)
  refine (Fin.sum_univ_two_halves 512 512 rfl _).trans ?_
  refine (congrArg (· + _) (Fin.sum_univ_two_halves 256 256 rfl _)).trans ?_
  refine congrArg₂ _ (congrArg₂ _ ?_ ?_) ?_ <;> refine Finset.sum_congr rfl fun i _ => ?_
  · rw [joined, dif_pos (show (i.val : ℕ) < 256 from i.isLt)]
    exact congrArg₂ _ rfl (congrArg (w · j) (Fin.ext (Nat.zero_add _).symm))
  · rw [joined, dif_neg (show ¬ (256 + i.val : ℕ) < 256 by omega), dif_pos (show (256 + i.val - 256 : ℕ) < 256 by omega)]
    exact congrArg₂ _ (congrArg o1 (Fin.ext (Nat.add_sub_cancel_left ..))) rfl
  · rw [joined, dif_neg (show ¬ (512 + i.val : ℕ) < 256 by omega), dif_neg (show ¬ (512 + i.val - 256 : ℕ) < 256 by omega)]
    exact congrArg₂ _ (congrArg o2 (Fin.ext (by show 512 + i.val - 256 - 256 = i.val; omega))) rfl

/-- The modulated norm. -/
def normed (X g shift scale : Fin 1024 → EReal) (j : Fin 1024) : EReal :=
  X j * Ideal.rsqrt (Ideal.div (∑ i, X i * X i) (Ideal.ofBits FTy.f32 1149239296#32) + Ideal.ofBits FTy.f32 897988541#32) * g j
    * (1 + scale j) + shift j

/-- A hidden unit before squaring. -/
def hidden {n : ℕ} (H : Fin 1024 → EReal) (w : Fin 1024 → Fin n → EReal) (b : Fin n → EReal) (q : Fin n) : EReal :=
  max (∑ p, H p * w p q + b q) 0

/-- What some hidden units give to an output. -/
def part {n : ℕ} (H : Fin 1024 → EReal) (w : Fin 1024 → Fin n → EReal) (b : Fin n → EReal) (v : Fin n → Fin 1024 → EReal)
    (j : Fin 1024) : EReal :=
  ∑ q, hidden H w b q * hidden H w b q * v q j

/-- The token after the whole call, from the token after the gated residual and its norm. -/
def out (X H gate : Fin 1024 → EReal) (w : Fin 1024 → Fin 4096 → EReal) (b : Fin 4096 → EReal) (v : Fin 4096 → Fin 1024 → EReal)
    (b2 : Fin 1024 → EReal) (j : Fin 1024) : EReal :=
  X j + gate j * (part H w b v j + b2 j)

/-- The `o`-th hidden unit and those after it. -/
def from' (o : ℕ) (h : o + 1024 ≤ 4096) (i : Fin 1024) : Fin 4096 := ⟨o + i.val, by omega⟩

/-- What the 1024 hidden units from `o` on give to an output. -/
def chunk (H : Fin 1024 → EReal) (w : Fin 1024 → Fin 4096 → EReal) (b : Fin 4096 → EReal) (v : Fin 4096 → Fin 1024 → EReal)
    (o : ℕ) (h : o + 1024 ≤ 4096) : Fin 1024 → EReal :=
  part H (fun p i => w p (from' o h i)) (fun i => b (from' o h i)) (fun i => v (from' o h i))

/-- Hidden units whose norm, weights and biases are those of a chunk give what the chunk gives. -/
theorem part_eq_chunk {H H' : Fin 1024 → EReal} {w' : Fin 1024 → Fin 1024 → EReal} {b' : Fin 1024 → EReal}
    {v' : Fin 1024 → Fin 1024 → EReal} {w : Fin 1024 → Fin 4096 → EReal} {b : Fin 4096 → EReal}
    {v : Fin 4096 → Fin 1024 → EReal} {o : ℕ} {h : o + 1024 ≤ 4096} {j : Fin 1024} (hH : ∀ i, H i = H' i)
    (hw : ∀ p q, w' p q = w p (from' o h q)) (hb : ∀ q, b' q = b (from' o h q)) (hv : ∀ q j, v' q j = v (from' o h q) j) :
    part H w' b' v' j = chunk H' w b v o h j := by
  obtain rfl : H = H' := funext hH
  obtain rfl : w' = _ := funext fun p => funext (hw p)
  obtain rfl : b' = _ := funext hb
  obtain rfl : v' = _ := funext fun q => funext (hv q)
  rfl

/-- The hidden units taken in four chunks, added up from zero. -/
theorem out_chunks (X H gate : Fin 1024 → EReal) (w : Fin 1024 → Fin 4096 → EReal) (b : Fin 4096 → EReal)
    (v : Fin 4096 → Fin 1024 → EReal) (b2 : Fin 1024 → EReal) (j : Fin 1024) :
    X j + gate j * (0 + chunk H w b v 0 (by omega) j + chunk H w b v 1024 (by omega) j + chunk H w b v 2048 (by omega) j
      + chunk H w b v 3072 (by omega) j + b2 j) = out X H gate w b v b2 j := by
  rw [out, part, Fin.sum_univ_tiles 4 1024 rfl, Fin.sum_univ_four, zero_add]
  rfl

/-- A load of 1024 hidden units' weights, biases or output weights out of a whole layer's reads them from its offset on. -/
theorem load_w {Val : EltTy → Type} {e : EltTy} (o : ℕ) (h : o + 1024 ≤ 4096) (f : Shape.Idx ⟨3, ![1, 1024, 4096]⟩ → Val e) (inb) (p q : Fin 1024) :
    View.ld f (Rect.unit ![0, 0, o] ![1, 1024, 1024] inb) (ix3 (0 : Fin 1) p q)
      = f (ix3 (0 : Fin 1) p (from' o h q)) := by
  refine congrArg f (funext fun a => Fin.ext ?_)
  fin_cases a <;> simp [Rect.unit, from']

theorem load_b {Val : EltTy → Type} {e : EltTy} (o : ℕ) (h : o + 1024 ≤ 4096) (f : Shape.Idx ⟨2, ![1, 4096]⟩ → Val e) (inb) (q : Fin 1024) :
    View.ld f (Rect.unit ![0, o] ![1, 1024] inb) (ix2 (0 : Fin 1) q)
      = f (ix2 (0 : Fin 1) (from' o h q)) := by
  refine congrArg f (funext fun a => Fin.ext ?_)
  fin_cases a <;> simp [Rect.unit, from']

theorem load_v {Val : EltTy → Type} {e : EltTy} (o : ℕ) (h : o + 1024 ≤ 4096) (f : Shape.Idx ⟨3, ![1, 4096, 1024]⟩ → Val e) (inb) (p q : Fin 1024) :
    View.ld f (Rect.unit ![0, o, 0] ![1, 1024, 1024] inb) (ix3 (0 : Fin 1) p q)
      = f (ix3 (0 : Fin 1) (from' o h p) q) := by
  refine congrArg f (funext fun a => Fin.ext ?_)
  fin_cases a <;> simp [Rect.unit, from']

end Cert.Mlp.Row

end
-- ==== Proof.Ctx.Reference.lean ====
/- The reference of the context tokens' output projection and MLP (`Reference4`), read at an index. -/
module

public import proofs.«01_k».proof.Proof.Gen.Reference4Ideal.Run
public import proofs.«01_k».proof.Proof.Mlp.Row

@[expose] public section

set_option maxRecDepth 16384

noncomputable section

open Idealize.ShloMosaic Idealize.ShloMosaic.TcCoe Idealize.SL.Sem
open scoped BigOperators

namespace Cert.Ctx

open Cert.Reference4Ideal Cert.Reference4Ideal.Gen Cert.Mlp

variable (m : (ℓ : Loc nD τ sig) → Buf (Elt Ideal) ℓ) (c : Dev nD)

/-- A context token after the output projection and its gated residual. -/
def X (a0 a1 : FVec Ideal S8x256x256 .f32) (a2 : FVec Ideal S8x256x512 .f32) (a3 : FVec Ideal S8x256x1024 .f32)
    (a4 : FVec Ideal S6144 .f32) (a5 : FVec Ideal S4x1024x1024 .f32) (b : Fin 8) (t : Fin 256) : Fin 1024 → EReal :=
  Row.mixed (fun j => a3 (ix3 b t j)) (fun j => a4 (ix1 ⟨2048 + j.val, by omega⟩))
    (Row.joined (fun i => a0 (ix3 b t i)) (fun i => a1 (ix3 b t i)) (fun i => a2 (ix3 b t i)))
    (fun i j => a5 (ix3 (2 : Fin 4) i j))

/-- Its modulated norm. -/
def H (x : Fin 1024 → EReal) (a4 : FVec Ideal S6144 .f32) (a6 : FVec Ideal S4x1024 .f32) : Fin 1024 → EReal :=
  Row.normed x (fun j => a6 (ix2 (2 : Fin 4) j)) (fun j => a4 (ix1 ⟨3072 + j.val, by omega⟩))
    (fun j => a4 (ix1 ⟨4096 + j.val, by omega⟩))

/-- The result's row of a context token. -/
def Y (a0 a1 : FVec Ideal S8x256x256 .f32) (a2 : FVec Ideal S8x256x512 .f32) (a3 : FVec Ideal S8x256x1024 .f32)
    (a4 : FVec Ideal S6144 .f32) (a5 : FVec Ideal S4x1024x1024 .f32) (a6 : FVec Ideal S4x1024 .f32)
    (a7 : FVec Ideal S4x1024x4096 .f32) (a8 : FVec Ideal S4x4096 .f32) (a9 : FVec Ideal S4x4096x1024 .f32)
    (a10 : FVec Ideal S4x1024 .f32) (b : Fin 8) (t : Fin 256) : Fin 1024 → EReal :=
  Row.out (X a0 a1 a2 a3 a4 a5 b t) (H (X a0 a1 a2 a3 a4 a5 b t) a4 a6) (fun j => a4 (ix1 ⟨5120 + j.val, by omega⟩))
    (fun p q => a7 (ix3 (2 : Fin 4) p q)) (fun q => a8 (ix2 (2 : Fin 4) q)) (fun q j => a9 (ix3 (2 : Fin 4) q j))
    (fun j => a10 (ix2 (2 : Fin 4) j))

theorem ref_at (b : Fin 8) (t : Fin 256) (j : Fin 1024) :
    Value.res_main_v55 m c (ix3 b t j) = Y (m (c, main_arg0)) (m (c, main_arg1)) (m (c, main_arg2)) (m (c, main_arg3))
      (m (c, main_arg4)) (m (c, main_arg5)) (m (c, main_arg6)) (m (c, main_arg7)) (m (c, main_arg8)) (m (c, main_arg9))
      (m (c, main_arg10)) b t j := by
  pointwise [Value.res_main_v55]
  rfl

end Cert.Ctx

end
-- ==== Proof.Ctx.Kernel.lean ====
/- The body of the context tokens' output projection and MLP (`Kernel4`): a grid point is a batch row with all its 256 tokens,
   and each row of what it stores is the row of `Mlp/Row` of the token's arguments. -/
module

public import proofs.«01_k».proof.Proof.Gen.Kernel4Ideal.Frame
public import proofs.«01_k».proof.Proof.Gen.Kernel4Ideal.Value
public import proofs.«01_k».proof.Proof.Ctx.Reference

@[expose] public section

set_option maxRecDepth 16384

noncomputable section

open Idealize.ShloMosaic Idealize.ShloMosaic.TcCoe Idealize.SL.Sem
open scoped BigOperators

namespace Cert.Ctx.K

open Cert.Kernel4Ideal Cert.Kernel4Ideal.Gen Cert.Mlp

/-! The stages of the body on a row. -/

theorem residual_at (o0 u0 o1 u1 o2 u2 x g) (r : Fin 256) (j : Fin 1024) :
    k0_pay2 (F := Ideal) o0 u0 o1 u1 o2 u2 x g (ix2 r j) = x (ix3 (0 : Fin 1) r j) + g (ix4 (0 : Fin 1) (0 : Fin 1) (0 : Fin 1) j)
      * (∑ i : Fin 256, o0 (ix3 (0 : Fin 1) r i) * u0 (ix3 (0 : Fin 1) i j)
        + ∑ i : Fin 256, o1 (ix3 (0 : Fin 1) r i) * u1 (ix3 (0 : Fin 1) i j)
        + ∑ i : Fin 512, o2 (ix3 (0 : Fin 1) r i) * u2 (ix3 (0 : Fin 1) i j)) := by
  pointwise [k0_pay2]

theorem norm_at (X g sh sc) (r : Fin 256) (j : Fin 1024) :
    k0_pay4 (F := Ideal) X g sh sc (ix2 r j) = Row.normed (fun i => X (ix2 r i)) (fun i => g (ix2 (0 : Fin 1) i))
      (fun i => sh (ix4 (0 : Fin 1) (0 : Fin 1) (0 : Fin 1) i)) (fun i => sc (ix4 (0 : Fin 1) (0 : Fin 1) (0 : Fin 1) i)) j := by
  pointwise [k0_pay4, Row.normed]

theorem first_at (X g sh sc w b v) (r : Fin 256) (j : Fin 1024) :
    k0_pay6 (F := Ideal) X g sh sc w b v (ix2 r j) = Row.part (fun i => k0_pay4 (F := Ideal) X g sh sc (ix2 r i))
      (fun p q => w (ix3 (0 : Fin 1) p q)) (fun q => b (ix2 (0 : Fin 1) q)) (fun q j => v (ix3 (0 : Fin 1) q j)) j := by
  pointwise [k0_pay6, Row.part, Row.hidden]

theorem middle_at (H a c w b v w' b' v') (r : Fin 256) (j : Fin 1024) :
    k0_pay7 (F := Ideal) H a c w b v w' b' v' (ix2 r j) = a (ix2 r j) + c (ix2 r j)
      + Row.part (fun i => H (ix2 r i)) (fun p q => w (ix3 (0 : Fin 1) p q)) (fun q => b (ix2 (0 : Fin 1) q))
        (fun q j => v (ix3 (0 : Fin 1) q j)) j
      + Row.part (fun i => H (ix2 r i)) (fun p q => w' (ix3 (0 : Fin 1) p q)) (fun q => b' (ix2 (0 : Fin 1) q))
        (fun q j => v' (ix3 (0 : Fin 1) q j)) j := by
  pointwise [k0_pay7, Row.part, Row.hidden]

theorem last_at (X H a w b v g b2) (r : Fin 256) (j : Fin 1024) :
    k0_pay1 (F := Ideal) X a (k0_pay8 (F := Ideal) H w) b v g b2 (ix3 (0 : Fin 1) r j) = X (ix2 r j)
      + g (ix4 (0 : Fin 1) (0 : Fin 1) (0 : Fin 1) j) * (a (ix2 r j)
      + Row.part (fun i => H (ix2 r i)) (fun p q => w (ix3 (0 : Fin 1) p q)) (fun q => b (ix2 (0 : Fin 1) q))
        (fun q j => v (ix3 (0 : Fin 1) q j)) j + b2 (ix2 (0 : Fin 1) j)) := by
  pointwise [k0_pay1, k0_pay8, Row.part, Row.hidden]

theorem zero_at (r : Fin 256) (j : Fin 1024) : k0_pay5 (F := Ideal) (ix2 r j) = 0 := by
  pointwise [k0_pay5]

theorem gain_eq (g) : k0_pay3 (F := Ideal) g = g := by
  funext i
  idx_vars i
  obtain rfl : i0 = 0 := Subsingleton.elim _ _
  pointwise [k0_pay3]

/-! The blocks of a grid point. -/

theorem places : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val, 2, 0, 0]
    ∧ win0_5.index t = ![t.val, 3, 0, 0] ∧ win0_6.index t = ![t.val, 4, 0, 0] ∧ win0_7.index t = ![t.val, 5, 0, 0]
    ∧ win0_8.index t = ![0, 0] ∧ win0_9.index t = ![2, 0, 0] ∧ win0_10.index t = ![2, 1, 0] ∧ win0_11.index t = ![2, 1, 0]
    ∧ win0_12.index t = ![2, 0, 0] ∧ win0_13.index t = ![0, 0] ∧ win0_14.index t = ![2, 0, 0] ∧ win0_15.index t = ![0, 0]
    ∧ win0_16.index t = ![t.val, 0, 0] :=
  (by decide +kernel : ∀ t : Fin grid0.N, _)

variable (m : (ℓ : Loc nD τ sig) → Buf (Elt Ideal) ℓ) (c : Dev nD) (t : Fin cfg0.N) (r : Fin 256) (j : Fin 1024)

/-- The batch row of a grid point. -/
def row : Fin 8 := t

theorem tokens : (∀ i, iblk m c 0 t (ix3 (0 : Fin 1) r i) = m (c, main_arg0) (ix3 (row t) r i))
    ∧ (∀ i, iblk m c 1 t (ix3 (0 : Fin 1) r i) = m (c, main_arg1) (ix3 (row t) r i))
    ∧ (∀ i, iblk m c 2 t (ix3 (0 : Fin 1) r i) = m (c, main_arg2) (ix3 (row t) r i))
    ∧ ∀ i, iblk m c 3 t (ix3 (0 : Fin 1) r i) = m (c, main_arg3) (ix3 (row t) r i) := by
  unfold row
  refine ⟨fun i => ?_, fun i => ?_, fun i => ?_, fun i => ?_⟩ <;> blk_point [iblk, V, places t]

theorem modulation : iblk m c 4 t (ix4 (0 : Fin 1) (0 : Fin 1) (0 : Fin 1) j) = m (c, main_arg4) (ix1 ⟨2048 + j.val, by omega⟩)
    ∧ iblk m c 5 t (ix4 (0 : Fin 1) (0 : Fin 1) (0 : Fin 1) j) = m (c, main_arg4) (ix1 ⟨3072 + j.val, by omega⟩)
    ∧ iblk m c 6 t (ix4 (0 : Fin 1) (0 : Fin 1) (0 : Fin 1) j) = m (c, main_arg4) (ix1 ⟨4096 + j.val, by omega⟩)
    ∧ iblk m c 7 t (ix4 (0 : Fin 1) (0 : Fin 1) (0 : Fin 1) j) = m (c, main_arg4) (ix1 ⟨5120 + j.val, by omega⟩) := by
  refine ⟨?_, ?_, ?_, ?_⟩ <;> blk_point [iblk, V, places t]

theorem projection : (∀ i : Fin 256, iblk m c 9 t (ix3 (0 : Fin 1) i j) = m (c, main_arg5) (ix3 (2 : Fin 4) ⟨0 + i.val, by omega⟩ j))
    ∧ (∀ i : Fin 256, iblk m c 10 t (ix3 (0 : Fin 1) i j) = m (c, main_arg5) (ix3 (2 : Fin 4) ⟨256 + i.val, by omega⟩ j))
    ∧ ∀ i : Fin 512, iblk m c 11 t (ix3 (0 : Fin 1) i j) = m (c, main_arg5) (ix3 (2 : Fin 4) ⟨512 + i.val, by omega⟩ j) := by
  refine ⟨fun i => ?_, fun i => ?_, fun i => ?_⟩ <;> blk_point [iblk, V, places t]

theorem bias_read (f : FVec Ideal S4096 .f32) (i : S1x4096.Idx) :
    broadcastInDim S1x4096 ![1] bcast_S4096_S1x4096_1 f i = f (ix1 (i 1)) := by
  idx_vars i
  pointwise

theorem bias_at (i : S1x4096.Idx) : (V m c main_v7 : FVec Ideal S1x4096 .f32) i = m (c, main_arg8) (ix2 (2 : Fin 4) (i 1)) := by
  idx_vars i
  entry_read
  rw [bias_read]
  pointwise

theorem bias (q : Fin 4096) : iblk m c 13 t (ix2 (0 : Fin 1) q) = m (c, main_arg8) (ix2 (2 : Fin 4) q) := by
  refine Eq.trans (bias_at m c ((win0_13.blk t).view.emb (ix2 (0 : Fin 1) q))) ?_
  blk_ext [places t]

theorem mlp : (∀ q, iblk m c 12 t (ix3 (0 : Fin 1) j q) = m (c, main_arg7) (ix3 (2 : Fin 4) j q))
    ∧ (∀ q, iblk m c 14 t (ix3 (0 : Fin 1) q j) = m (c, main_arg9) (ix3 (2 : Fin 4) q j))
    ∧ iblk m c 8 t (ix2 (0 : Fin 1) j) = m (c, main_arg6) (ix2 (2 : Fin 4) j)
    ∧ iblk m c 15 t (ix2 (0 : Fin 1) j) = m (c, main_arg10) (ix2 (2 : Fin 4) j) := by
  refine ⟨fun q => ?_, fun q => ?_, ?_, ?_⟩ <;> blk_point [iblk, V, places t]

theorem emb_at : ((View.whole main_v17).slice (win0_16.rect t)).emb (ix3 (0 : Fin 1) r j) = ix3 (row t) r j := by
  unfold row
  blk_ext [places t]

/-- The result of the arguments. -/
def G : FVec Ideal S8x256x1024 .f32 := fun i => Y (m (c, main_arg0)) (m (c, main_arg1)) (m (c, main_arg2)) (m (c, main_arg3))
  (m (c, main_arg4)) (m (c, main_arg5)) (m (c, main_arg6)) (m (c, main_arg7)) (m (c, main_arg8)) (m (c, main_arg9))
  (m (c, main_arg10)) (i 0) (i 1) (i 2)

theorem residual : k0_pay2 (F := Ideal) (iblk m c 0 t) (iblk m c 9 t) (iblk m c 1 t) (iblk m c 10 t) (iblk m c 2 t) (iblk m c 11 t)
      (iblk m c 3 t) (iblk m c 4 t) (ix2 r j) = X (m (c, main_arg0)) (m (c, main_arg1)) (m (c, main_arg2)) (m (c, main_arg3))
      (m (c, main_arg4)) (m (c, main_arg5)) (row t) r j := by
  obtain ⟨h0, h1, h2, h3⟩ := tokens m c t r
  obtain ⟨u0, u1, u2⟩ := projection m c t j
  rw [residual_at, X, ← Row.mixed_joined]
  simp only [h0, h1, h2, h3, u0, u1, u2, (modulation m c t j).1]

theorem normed_at : k0_pay4 (F := Ideal) (k0_pay2 (F := Ideal) (iblk m c 0 t) (iblk m c 9 t) (iblk m c 1 t) (iblk m c 10 t)
      (iblk m c 2 t) (iblk m c 11 t) (iblk m c 3 t) (iblk m c 4 t)) (iblk m c 8 t) (iblk m c 5 t) (iblk m c 6 t) (ix2 r j)
      = H (X (m (c, main_arg0)) (m (c, main_arg1)) (m (c, main_arg2)) (m (c, main_arg3)) (m (c, main_arg4)) (m (c, main_arg5))
        (row t) r) (m (c, main_arg4)) (m (c, main_arg6)) j := by
  rw [norm_at, H]
  simp only [residual, modulation m c t, mlp m c t]

theorem final : (dats m 0 c).arrAt 16 (cfgs 0).N = G m c := by
  refine (dats m 0 c).arrAt_eq_of_covers 16 _ (by decide +kernel) fun t _ y => ?_
  blk_simp
  rw [after0_16]; frame_out
  idx_vars y
  obtain rfl : y0 = 0 := Subsingleton.elim _ _
  rw [emb_at]
  simp (disch := decide) only [k0_pay9, k0_pay10, k0_pay11, View.ld_unit_lit', gain_eq]
  rw [last_at, middle_at, first_at, zero_at]
  simp only [residual]
  change _ = Y _ _ _ _ _ _ _ _ _ _ _ (row t) y1 y2
  unfold Y
  rw [← Row.out_chunks, (modulation m c t y2).2.2.2, (mlp m c t y2).2.2.2]
  refine congrArg₂ _ rfl (congrArg₂ _ rfl (congrArg₂ _ (congrArg₂ _ (congrArg₂ _ (congrArg₂ _ (congrArg₂ _ rfl ?_) ?_) ?_) ?_) rfl)) <;>
    exact Row.part_eq_chunk (normed_at m c t y1) (fun p q => (Row.load_w _ _ _ _ p q).trans ((mlp m c t p).1 _))
      (fun q => (Row.load_b _ _ _ _ q).trans (bias m c t _))
      (fun q j => (Row.load_v _ _ _ _ q j).trans ((mlp m c t j).2.1 _))

end Cert.Ctx.K

end
-- ==== Proof.Ctx.Algebraic.lean ====
/- The value claim of the context tokens' output projection and MLP (`Kernel4`): the array its run leaves is `G` of the arguments,
   and so is the reference's result, read at an index. -/
module

public import proofs.«01_k».proof.Defs
public import proofs.«01_k».proof.Proof.Ctx.Kernel
public import Idealize.ShloMosaic.Lib.Claim

@[expose] public section

set_option maxRecDepth 16384

noncomputable section

open Idealize.ShloMosaic Idealize.ShloMosaic.TcCoe Idealize.SL.Sem

namespace Cert.Ctx

open Cert.Kernel4Ideal Cert.Kernel4Ideal.Gen

theorem algebraic : Cert.algebraic_Kernel4Ideal_Reference4Ideal := by
  pair_intro
  · run_from Cert.Kernel4Ideal.Gen.run_main m g
    exact hc.1 16
  · run_from Cert.Reference4Ideal.Value.run m' g'
    refine Eq.trans ?_ (K.final m c).symm
    funext i
    idx_vars i
    refine (ref_at m' c i0 i1 i2).trans ?_
    simp only [hagree c]
    rfl

end Cert.Ctx

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Attn.Algebraic
public import proofs.«01_k».proof.Proof.Mlp.Algebraic
public import proofs.«01_k».proof.Proof.Proj.Algebraic
public import proofs.«01_k».proof.Proof.Ctx.Algebraic
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The reference writes none of its arguments and declares no semaphore. -/
theorem frame_reference : Cert.quiescent_ReferenceIdeal := by
  intro m g _
  exact (θ_run Cert.ReferenceIdeal.defs _ _).mono
    (fun r h => ⟨fun c => (h c).2, Idealize.ShloMosaic.sem_eq_zero_of_no_sems (by decide) r.2⟩)
    (Cert.ReferenceIdeal.Value.run m g)

/-- The reference writes none of its arguments and declares no semaphore. -/
theorem frame_reference2 : Cert.quiescent_Reference2Ideal := by
  intro m g _
  exact (θ_run Cert.Reference2Ideal.defs _ _).mono
    (fun r h => ⟨fun c => (h c).2, Idealize.ShloMosaic.sem_eq_zero_of_no_sems (by decide) r.2⟩)
    (Cert.Reference2Ideal.Value.run m g)

/-- The reference writes none of its arguments and declares no semaphore. -/
theorem frame_reference3 : Cert.quiescent_Reference3Ideal := by
  intro m g _
  exact (θ_run Cert.Reference3Ideal.defs _ _).mono
    (fun r h => ⟨fun c => (h c).2.2.2.2.2.2.2, Idealize.ShloMosaic.sem_eq_zero_of_no_sems (by decide) r.2⟩)
    (Cert.Reference3Ideal.Value.run m g)

/-- The reference writes none of its arguments and declares no semaphore. -/
theorem frame_reference4 : Cert.quiescent_Reference4Ideal := by
  intro m g _
  exact (θ_run Cert.Reference4Ideal.defs _ _).mono
    (fun r h => ⟨fun c => (h c).2, Idealize.ShloMosaic.sem_eq_zero_of_no_sems (by decide) r.2⟩)
    (Cert.Reference4Ideal.Value.run m g)

/-- The projection call's idealization names one constant, the reciprocal of a head's 96 dims. -/
theorem preserves3 : Cert.preserves_Kernel3_Kernel3Ideal :=
  IdealRules.named_const.statement Cert.Kernel3Ideal.κ "inv_qk" .f32 0x3C2AAAAB#32 ((1 / 96 : ℝ) : EReal) rfl

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Attn.Finite.facts, Cert.Proj.Finite.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ True.intro,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, fun m ρ _ => Cert.Kernel3Ideal.Gen.frame m ρ,
    frame_reference3, fun m ρ _ => frame_reference3 m ρ True.intro,
    fun m ρ _ => Cert.Kernel4.Gen.frame m ρ, fun m ρ _ => Cert.Kernel4Ideal.Gen.frame m ρ, frame_reference4,
    trivial, Cert.Attn.algebraic (hP := Cert.Attn.Finite.facts), trivial, Cert.Mlp.algebraic,
    preserves3, Cert.Proj.algebraic (hP := Cert.Proj.Finite.facts),
    trivial, Cert.Ctx.algebraic⟩

end Cert.Proof

end
